-- ==== Defs.lean ====
def Pre_Kernel [hPre_halves_Kernel : Cert.Pre_halves_Kernel.Facts] (m : (ℓ : Loc Cert.Kernel.nD Cert.Kernel.τ Cert.Kernel.sig) → Buf (Elt Bits) ℓ) : Prop :=
  ∀ c : Dev Cert.Kernel.nD,
    (Cert.Pre_halves_Kernel.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_halves_Kernel : Cert.Pre_halves_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_halves_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_halves_ReferenceIdeal [hPre_halves_ReferenceIdeal : Cert.Pre_halves_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_halves_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_halves_Kernel : Cert.Pre_halves_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_halves_Kernel : Cert.Pre_halves_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_halves_ReferenceIdeal [hReferenceIdeal : Cert.ReferenceIdeal.Facts] [hPre_halves_ReferenceIdeal : Cert.Pre_halves_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_halves_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_halves_Kernel : Cert.Pre_halves_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 2, 4] ![[0], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨1, ![1024]⟩ ⟨1, ![2048]⟩ (Layout.meshBlock [2, 2, 4] ![[0]] c) (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v44) = Layout.blockN ⟨2, ![1024, 512]⟩ ⟨2, ![2048, 512]⟩ (Layout.meshBlock [2, 2, 4] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v7) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_halves_Kernel : Cert.Pre_halves_Kernel.Facts) (hPre_halves_ReferenceIdeal : Cert.Pre_halves_ReferenceIdeal.Facts),
    quiescent_Kernel (hKernel := hKernel) (hPre_halves_Kernel := hPre_halves_Kernel)
    ∧ quiescent_KernelIdeal (hKernelIdeal := hKernelIdeal) (hPre_halves_Kernel := hPre_halves_Kernel)
    ∧ quiescent_ReferenceIdeal (hReferenceIdeal := hReferenceIdeal)
    ∧ quiescent_ReferenceIdeal_pre_halves_ReferenceIdeal (hReferenceIdeal := hReferenceIdeal) (hPre_halves_ReferenceIdeal := hPre_halves_ReferenceIdeal)
    ∧ preserves_Kernel_KernelIdeal
    ∧ algebraic_KernelIdeal_ReferenceIdeal (hKernelIdeal := hKernelIdeal) (hReferenceIdeal := hReferenceIdeal) (hPre_halves_Kernel := hPre_halves_Kernel)
-- ==== Pre_halves_Kernel.lean ====
abbrev S1024x512 : Shape := ⟨2, ![1024, 512]⟩
abbrev S1024 : Shape := ⟨1, ![1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel

variable [Facts]

def fn {F : FTy → Type} [FloatOps F] (main_arg0 : FVec F S1024x512 .f32) (main_arg1 : IVec S1024 32) : IVec S1024 1 :=
  let main_c : IVec S_ 32 := constantI S_ 32 0#32
  let main_v0 : IVec S1024 32 := broadcastInDim S1024 ![] bcast_S_S1024 main_c
  let main_v1 : IVec S1024 1 := cmpi .eq main_arg1 main_v0
  let main_c_0 : IVec S_ 32 := constantI S_ 32 1#32
  let main_v2 : IVec S1024 32 := broadcastInDim S1024 ![] bcast_S_S1024 main_c_0
  let main_v3 : IVec S1024 1 := cmpi .eq main_arg1 main_v2
  let main_v4 : IVec S1024 1 := ori main_v1 main_v3
  let main_c_1 : IVec S_ 32 := constantI S_ 32 0#32
  let main_v5 : IVec S_ 32 := (fun x v => Host.reduce IntOp.addi x v reducesTo_S1024_S_d0 h_S_) main_arg1 main_c_1
  let main_c_2 : IVec S_ 32 := constantI S_ 32 512#32
  let main_v6 : IVec S_ 1 := cmpi .eq main_v5 main_c_2
  let main_v7 : IVec S1024 1 := broadcastInDim S1024 ![] bcast_S_S1024 main_v6
  let main_v8 : IVec S1024 1 := andi main_v4 main_v7
  main_v8
-- ==== Pre_halves_ReferenceIdeal.lean ====
abbrev S2048x512 : Shape := ⟨2, ![2048, 512]⟩
abbrev S2048 : Shape := ⟨1, ![2048]⟩
abbrev S_ : Shape := ⟨0, ![]⟩

class Facts : Prop where
  bcast_S_S2048 : S_.BroadcastsInDim S2048 (![] : Fin 0 → Fin S2048.rank)
  reducesTo_S2048_S_d0 : S2048.ReducesTo [0] S_
  h_S_ : 0 < S_.numel

variable [Facts]

def fn {F : FTy → Type} [FloatOps F] (main_arg0 : FVec F S2048x512 .f32) (main_arg1 : IVec S2048 32) : IVec S2048 1 :=
  let main_c : IVec S_ 32 := constantI S_ 32 0#32
  let main_v0 : IVec S2048 32 := broadcastInDim S2048 ![] bcast_S_S2048 main_c
  let main_v1 : IVec S2048 1 := cmpi .eq main_arg1 main_v0
  let main_c_0 : IVec S_ 32 := constantI S_ 32 1#32
  let main_v2 : IVec S2048 32 := broadcastInDim S2048 ![] bcast_S_S2048 main_c_0
  let main_v3 : IVec S2048 1 := cmpi .eq main_arg1 main_v2
  let main_v4 : IVec S2048 1 := ori main_v1 main_v3
  let main_c_1 : IVec S_ 32 := constantI S_ 32 0#32
  let main_v5 : IVec S_ 32 := (fun x v => Host.reduce IntOp.addi x v reducesTo_S2048_S_d0 h_S_) main_arg1 main_c_1
  let main_c_2 : IVec S_ 32 := constantI S_ 32 512#32
  let main_v6 : IVec S_ 1 := cmpi .eq main_v5 main_c_2
  let main_v7 : IVec S2048 1 := broadcastInDim S2048 ![] bcast_S_S2048 main_v6
  let main_v8 : IVec S2048 1 := andi main_v4 main_v7
  main_v8
-- ==== Kernel.lean ====
abbrev S1024x512 : Shape := ⟨2, ![1024, 512]⟩
abbrev S1024 : Shape := ⟨1, ![1024]⟩
abbrev S_ : Shape := ⟨0, ![]⟩
abbrev S1 : Shape := ⟨1, ![1]⟩
abbrev S1x1024 : Shape := ⟨2, ![1, 1024]⟩
abbrev S1x1 : Shape := ⟨2, ![1, 1]⟩
abbrev S4x256x512 : Shape := ⟨3, ![4, 256, 512]⟩
abbrev S4 : Shape := ⟨1, ![4]⟩
abbrev S256x1024 : Shape := ⟨2, ![256, 1024]⟩
abbrev S256x512 : Shape := ⟨2, ![256, 512]⟩
abbrev S1x256x512 : Shape := ⟨3, ![1, 256, 512]⟩
abbrev S8x512 : Shape := ⟨2, ![8, 512]⟩
abbrev S8x1024 : Shape := ⟨2, ![8, 1024]⟩

abbrev nBuf : Space → Nat
  | .hbm => 93
  | .vmem => 4
  | .smem => 1
  | _ => 0

abbrev bufTy : (tb : Table) → Fin (tcTables nBuf tb) → BufTy
  | .hbm, ⟨0, _⟩ => ⟨S1024x512, .f32⟩
  | .hbm, ⟨1, _⟩ => ⟨S1024, .i32⟩
  | .hbm, ⟨2, _⟩ => ⟨S_, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S1024, .i32⟩
  | .hbm, ⟨10, _⟩ => ⟨S1024, .i1⟩
  | .hbm, ⟨11, _⟩ => ⟨S1024, .i32⟩
  | .hbm, ⟨12, _⟩ => ⟨S_, .i32⟩
  | .hbm, ⟨13, _⟩ => ⟨S_, .i32⟩
  | .hbm, ⟨14, _⟩ => ⟨S1024, .i32⟩
  | .hbm, ⟨15, _⟩ => ⟨S1024, .i32⟩
  | .hbm, ⟨16, _⟩ => ⟨S_, .i32⟩
  | .hbm, ⟨17, _⟩ => ⟨S1024, .i32⟩
  | .hbm, ⟨18, _⟩ => ⟨S1024, .i32⟩
  | .hbm, ⟨19, _⟩ => ⟨S1024, .i32⟩
  | .hbm, ⟨20, _⟩ => ⟨S1, .i32⟩
  | .hbm, ⟨21, _⟩ => ⟨S_, .i32⟩
  | .hbm, ⟨22, _⟩ => ⟨S_, .i32⟩
  | .hbm, ⟨23, _⟩ => ⟨S_, .i32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S_, .i32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i1⟩
  | .hbm, ⟨35, _⟩ => ⟨S_, .i32⟩
  | .hbm, ⟨36, _⟩ => ⟨S_, .i1⟩
  | .hbm, ⟨37, _⟩ => ⟨S_, .i1⟩
  | .hbm, ⟨38, _⟩ => ⟨S_, .i1⟩
  | .hbm, ⟨39, _⟩ => ⟨S_, .i32⟩
  | .hbm, ⟨40, _⟩ => ⟨S_, .i32⟩
  | .hbm, ⟨41, _⟩ => ⟨S_, .i32⟩
  | .hbm, ⟨42, _⟩ => ⟨S_, .i1⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i1⟩
  | .hbm, ⟨53, _⟩ => ⟨S_, .i32⟩
  | .hbm, ⟨54, _⟩ => ⟨S_, .i32⟩
  | .hbm, ⟨55, _⟩ => ⟨S_, .i1⟩
  | .hbm, ⟨56, _⟩ => ⟨S_, .i1⟩
  | .hbm, ⟨57, _⟩ => ⟨S_, .i32⟩
  | .hbm, ⟨58, _⟩ => ⟨S_, .i32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S_, .i32⟩
  | .hbm, ⟨64, _⟩ => ⟨S_, .i32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S1024, .i32⟩
  | .hbm, ⟨69, _⟩ => ⟨S1024, .i32⟩
  | .hbm, ⟨70, _⟩ => ⟨S1024, .i32⟩
  | .hbm, ⟨71, _⟩ => ⟨S1024, .i32⟩
  | .hbm, ⟨72, _⟩ => ⟨S_, .i32⟩
  | .hbm, ⟨73, _⟩ => ⟨S1024, .i32⟩
  | .hbm, ⟨74, _⟩ => ⟨S1024, .i32⟩
  | .hbm, ⟨75, _⟩ => ⟨S1024, .i32⟩
  | .hbm, ⟨76, _⟩ => ⟨S_, .i32⟩
  | .hbm, ⟨77, _⟩ => ⟨S_, .i1⟩
  | .hbm, ⟨78, _⟩ => ⟨S1024, .i32⟩
  | .hbm, ⟨79, _⟩ => ⟨S1024, .i32⟩
  | .hbm, ⟨80, _⟩ => ⟨S_, .i32⟩
  | .hbm, ⟨81, _⟩ => ⟨S1024, .i32⟩
  | .hbm, ⟨82, _⟩ => ⟨S1024, .i32⟩
  | .hbm, ⟨83, _⟩ => ⟨S1024, .i32⟩
  | .hbm, ⟨84, _⟩ => ⟨S1024, .i32⟩
  | .hbm, ⟨85, _⟩ => ⟨S_, .i32⟩
  | .hbm, ⟨86, _⟩ => ⟨S1024, .i32⟩
  | .hbm, ⟨87, _⟩ => ⟨S1024, .i32⟩
  | .hbm, ⟨88, _⟩ => ⟨S1024, .i32⟩
  | .hbm, ⟨89, _⟩ => ⟨S1024, .i32⟩
  | .hbm, ⟨90, _⟩ => ⟨S1x1024, .i32⟩
  | .hbm, ⟨91, _⟩ => ⟨S1x1, .i32⟩
  | .hbm, ⟨92, _⟩ => ⟨S1024x512, .f32⟩
  | .local _ .vmem, ⟨0, _⟩ => ⟨S1024x512, .f32⟩
  | .local _ .vmem, ⟨1, _⟩ => ⟨S1x1024, .i32⟩
  | .local _ .vmem, ⟨2, _⟩ => ⟨S1024x512, .f32⟩
  | .local _ .vmem, ⟨3, _⟩ => ⟨S4x256x512, .f32⟩
  | .local _ .smem, ⟨0, _⟩ => ⟨S1x1, .i32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c_1 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_call0_call0_c : Ref sig .tc := ⟨.hbm, 12, rfl⟩
abbrev main_call0_call0_v0 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_c_3 : Ref sig .tc := ⟨.hbm, 22, rfl⟩
abbrev main_v15 : Ref sig .tc := ⟨.hbm, 23, rfl⟩
abbrev main_c_4 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_c_1 : Ref sig .tc := ⟨.hbm, 31, rfl⟩
abbrev main_call1_v4 : Ref sig .tc := ⟨.hbm, 32, rfl⟩
abbrev main_call1_c_2 : Ref sig .tc := ⟨.hbm, 33, rfl⟩
abbrev main_call1_v5 : Ref sig .tc := ⟨.hbm, 34, rfl⟩
abbrev main_call1_c_3 : Ref sig .tc := ⟨.hbm, 35, rfl⟩
abbrev main_call1_v6 : Ref sig .tc := ⟨.hbm, 36, rfl⟩
abbrev main_call1_v7 : Ref sig .tc := ⟨.hbm, 37, rfl⟩
abbrev main_call1_v8 : Ref sig .tc := ⟨.hbm, 38, rfl⟩
abbrev main_call1_v9 : Ref sig .tc := ⟨.hbm, 39, rfl⟩
abbrev main_v16 : Ref sig .tc := ⟨.hbm, 40, rfl⟩
abbrev main_c_5 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_c_7 : Ref sig .tc := ⟨.hbm, 45, rfl⟩
abbrev main_v19 : Ref sig .tc := ⟨.hbm, 46, rfl⟩
abbrev main_c_8 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_call2_v5 : Ref sig .tc := ⟨.hbm, 53, rfl⟩
abbrev main_call2_c : Ref sig .tc := ⟨.hbm, 54, rfl⟩
abbrev main_call2_v6 : Ref sig .tc := ⟨.hbm, 55, rfl⟩
abbrev main_call2_v7 : Ref sig .tc := ⟨.hbm, 56, rfl⟩
abbrev main_call2_c_0 : Ref sig .tc := ⟨.hbm, 57, rfl⟩
abbrev main_call2_v8 : Ref sig .tc := ⟨.hbm, 58, rfl⟩
abbrev main_v20 : Ref sig .tc := ⟨.hbm, 59, rfl⟩
abbrev main_c_9 : Ref sig .tc := ⟨.hbm, 60, rfl⟩
abbrev main_v21 : Ref sig .tc := ⟨.hbm, 61, rfl⟩
abbrev main_c_10 : Ref sig .tc := ⟨.hbm, 62, rfl⟩
abbrev main_call3_v0 : Ref sig .tc := ⟨.hbm, 63, rfl⟩
abbrev main_v22 : Ref sig .tc := ⟨.hbm, 64, rfl⟩
abbrev main_c_11 : Ref sig .tc := ⟨.hbm, 65, rfl⟩
abbrev main_v23 : Ref sig .tc := ⟨.hbm, 66, rfl⟩
abbrev main_c_12 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_c_13 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_c_14 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_c_15 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_c_16 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev cc0_stg0_0 : Ref sig .tc := ⟨.vmem, 0, rfl⟩
abbrev cc0_stg1_0 : Ref sig .tc := ⟨.vmem, 1, rfl⟩
abbrev cc0_stg3_0 : Ref sig .tc := ⟨.vmem, 2, rfl⟩
abbrev cc0_scratch0 : Ref sig .tc := ⟨.vmem, 3, rfl⟩
abbrev cc0_stg2_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_5 : BitVec 32 := 8#32
  let v12 : BitVec 32 := Scalar.muli v9 c8_i32_5
  let v13 : BitVec 32 := Scalar.addi c0_i32 v12
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_6 : BitVec 32 := 4#32
  let v14 : BitVec 32 := Scalar.muli v5 c4_i32_6
  let v15 : BitVec 32 := Scalar.addi v13 v14
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_7 : BitVec 32 := 1#32
  let v16 : BitVec 32 := Scalar.muli v8 c1_i32_7
  let v17 : BitVec 32 := Scalar.addi v15 v16
  v17.toNat
def k0_cond1 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c0_i32_13 : BitVec 32 := 0#32
  let v22 : BitVec 1 := Scalar.cmpi .eq v2 c0_i32_13
  let v23 : BitVec 32 := Scalar.extui v22
  let c0_i32_14 : BitVec 32 := 0#32
  let v24 : BitVec 1 := Scalar.cmpi .ne v23 c0_i32_14
  v24

def k0_mult1 (v10 : BitVec 32) : BitVec 32 :=
  let c768_i32 : BitVec 32 := 768#32
  let c0_i32_109 : BitVec 32 := 0#32
  let c0_i32_108 : BitVec 32 := 0#32
  let c1024_i32_92 : BitVec 32 := 1024#32
  let c0_i32_91 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_78 : BitVec 32 := 256#32
  let v162 : BitVec 32 := Scalar.addi v67 c256_i32_78
  let c1_i32_79 : BitVec 32 := 1#32
  let v163 : BitVec 32 := Scalar.subi v162 c1_i32_79
  let c0_i32_81 : BitVec 32 := 0#32
  let v165 : BitVec 1 := Scalar.cmpi .sgt v163 c0_i32_81
  let v166 : BitVec 32 := Scalar.extui v165
  let c0_i32_82 : BitVec 32 := 0#32
  let v167 : BitVec 1 := Scalar.cmpi .slt v163 c0_i32_82
  let v168 : BitVec 32 := Scalar.extui v167
  let v169 : BitVec 32 := Scalar.subi v166 v168
  let c256_i32_80 : BitVec 32 := 256#32
  let c0_i32_83 : BitVec 32 := 0#32
  let v170 : BitVec 1 := Scalar.cmpi .sgt c256_i32_80 c0_i32_83
  let v171 : BitVec 32 := Scalar.extui v170
  let c0_i32_84 : BitVec 32 := 0#32
  let v172 : BitVec 1 := Scalar.cmpi .slt c256_i32_80 c0_i32_84
  let v173 : BitVec 32 := Scalar.extui v172
  let v174 : BitVec 32 := Scalar.subi v171 v173
  let v175 : BitVec 1 := Scalar.cmpi .ne v169 v174
  let v176 : BitVec 32 := Scalar.remsi v163 c256_i32_80
  let c0_i32_85 : BitVec 32 := 0#32
  let v177 : BitVec 1 := Scalar.cmpi .ne v176 c0_i32_85
  let v178 : BitVec 1 := Scalar.andi v175 v177
  let v164 : BitVec 32 := Scalar.divsi v163 c256_i32_80
  let c1_i32_86 : BitVec 32 := 1#32
  let v179 : BitVec 32 := Scalar.subi v164 c1_i32_86
  let v180 : BitVec 32 := Scalar.select v178 v179 v164
  let c1_i32_87 : BitVec 32 := 1#32
  let v181 : BitVec 32 := Scalar.subi v180 c1_i32_87
  let c0_i32_88 : BitVec 32 := 0#32
  let v182 : BitVec 1 := Scalar.cmpi .eq v181 c0_i32_88
  let c256_i32_89 : BitVec 32 := 256#32
  let v183 : BitVec 32 := Scalar.subi v67 c256_i32_89
  let c0_i32_90 : BitVec 32 := 0#32
  let v184 : BitVec 32 := Scalar.select v182 v183 c0_i32_90
  let v185 : BitVec 32 := Scalar.maxsi c0_i32_91 v184
  let v186 : BitVec 32 := Scalar.minsi c1024_i32_92 v185
  let v212 : BitVec 32 := Scalar.addi c0_i32_108 v186
  let v213 : BitVec 32 := Scalar.maxsi c0_i32_109 v212
  let v214 : BitVec 32 := Scalar.minsi c768_i32 v213
  v214

def k0_mult2 (v10 : BitVec 32) : BitVec 32 :=
  let c768_i32_111 : BitVec 32 := 768#32
  let c0_i32_110 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_107 : BitVec 32 := 1024#32
  let c0_i32_106 : BitVec 32 := 0#32
  let c1024_i32_43 : BitVec 32 := 1024#32
  let v86 : BitVec 32 := Scalar.subi c1024_i32_43 v85
  let c256_i32_93 : BitVec 32 := 256#32
  let v187 : BitVec 32 := Scalar.addi v86 c256_i32_93
  let c1_i32_94 : BitVec 32 := 1#32
  let v188 : BitVec 32 := Scalar.subi v187 c1_i32_94
  let c0_i32_96 : BitVec 32 := 0#32
  let v190 : BitVec 1 := Scalar.cmpi .sgt v188 c0_i32_96
  let v191 : BitVec 32 := Scalar.extui v190
  let c0_i32_97 : BitVec 32 := 0#32
  let v192 : BitVec 1 := Scalar.cmpi .slt v188 c0_i32_97
  let v193 : BitVec 32 := Scalar.extui v192
  let v194 : BitVec 32 := Scalar.subi v191 v193
  let c256_i32_95 : BitVec 32 := 256#32
  let c0_i32_98 : BitVec 32 := 0#32
  let v195 : BitVec 1 := Scalar.cmpi .sgt c256_i32_95 c0_i32_98
  let v196 : BitVec 32 := Scalar.extui v195
  let c0_i32_99 : BitVec 32 := 0#32
  let v197 : BitVec 1 := Scalar.cmpi .slt c256_i32_95 c0_i32_99
  let v198 : BitVec 32 := Scalar.extui v197
  let v199 : BitVec 32 := Scalar.subi v196 v198
  let v200 : BitVec 1 := Scalar.cmpi .ne v194 v199
  let v201 : BitVec 32 := Scalar.remsi v188 c256_i32_95
  let c0_i32_100 : BitVec 32 := 0#32
  let v202 : BitVec 1 := Scalar.cmpi .ne v201 c0_i32_100
  let v203 : BitVec 1 := Scalar.andi v200 v202
  let v189 : BitVec 32 := Scalar.divsi v188 c256_i32_95
  let c1_i32_101 : BitVec 32 := 1#32
  let v204 : BitVec 32 := Scalar.subi v189 c1_i32_101
  let v205 : BitVec 32 := Scalar.select v203 v204 v189
  let c1_i32_102 : BitVec 32 := 1#32
  let v206 : BitVec 32 := Scalar.subi v205 c1_i32_102
  let c0_i32_103 : BitVec 32 := 0#32
  let v207 : BitVec 1 := Scalar.cmpi .eq v206 c0_i32_103
  let c256_i32_104 : BitVec 32 := 256#32
  let v208 : BitVec 32 := Scalar.subi v86 c256_i32_104
  let c0_i32_105 : BitVec 32 := 0#32
  let v209 : BitVec 32 := Scalar.select v207 v208 c0_i32_105
  let v210 : BitVec 32 := Scalar.maxsi c0_i32_106 v209
  let v211 : BitVec 32 := Scalar.minsi c1024_i32_107 v210
  let v216 : BitVec 32 := Scalar.addi v85 v211
  let v217 : BitVec 32 := Scalar.maxsi c0_i32_110 v216
  let v218 : BitVec 32 := Scalar.minsi c768_i32_111 v217
  v218
def k0_off1 (v10 : BitVec 32) : Fin 2 → Nat :=
  let c768_i32 : BitVec 32 := 768#32
  let c0_i32_109 : BitVec 32 := 0#32
  let c0_i32_108 : BitVec 32 := 0#32
  let c1024_i32_92 : BitVec 32 := 1024#32
  let c0_i32_91 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_78 : BitVec 32 := 256#32
  let v162 : BitVec 32 := Scalar.addi v67 c256_i32_78
  let c1_i32_79 : BitVec 32 := 1#32
  let v163 : BitVec 32 := Scalar.subi v162 c1_i32_79
  let c0_i32_81 : BitVec 32 := 0#32
  let v165 : BitVec 1 := Scalar.cmpi .sgt v163 c0_i32_81
  let v166 : BitVec 32 := Scalar.extui v165
  let c0_i32_82 : BitVec 32 := 0#32
  let v167 : BitVec 1 := Scalar.cmpi .slt v163 c0_i32_82
  let v168 : BitVec 32 := Scalar.extui v167
  let v169 : BitVec 32 := Scalar.subi v166 v168
  let c256_i32_80 : BitVec 32 := 256#32
  let c0_i32_83 : BitVec 32 := 0#32
  let v170 : BitVec 1 := Scalar.cmpi .sgt c256_i32_80 c0_i32_83
  let v171 : BitVec 32 := Scalar.extui v170
  let c0_i32_84 : BitVec 32 := 0#32
  let v172 : BitVec 1 := Scalar.cmpi .slt c256_i32_80 c0_i32_84
  let v173 : BitVec 32 := Scalar.extui v172
  let v174 : BitVec 32 := Scalar.subi v171 v173
  let v175 : BitVec 1 := Scalar.cmpi .ne v169 v174
  let v176 : BitVec 32 := Scalar.remsi v163 c256_i32_80
  let c0_i32_85 : BitVec 32 := 0#32
  let v177 : BitVec 1 := Scalar.cmpi .ne v176 c0_i32_85
  let v178 : BitVec 1 := Scalar.andi v175 v177
  let v164 : BitVec 32 := Scalar.divsi v163 c256_i32_80
  let c1_i32_86 : BitVec 32 := 1#32
  let v179 : BitVec 32 := Scalar.subi v164 c1_i32_86
  let v180 : BitVec 32 := Scalar.select v178 v179 v164
  let c1_i32_87 : BitVec 32 := 1#32
  let v181 : BitVec 32 := Scalar.subi v180 c1_i32_87
  let c0_i32_88 : BitVec 32 := 0#32
  let v182 : BitVec 1 := Scalar.cmpi .eq v181 c0_i32_88
  let c256_i32_89 : BitVec 32 := 256#32
  let v183 : BitVec 32 := Scalar.subi v67 c256_i32_89
  let c0_i32_90 : BitVec 32 := 0#32
  let v184 : BitVec 32 := Scalar.select v182 v183 c0_i32_90
  let v185 : BitVec 32 := Scalar.maxsi c0_i32_91 v184
  let v186 : BitVec 32 := Scalar.minsi c1024_i32_92 v185
  let v212 : BitVec 32 := Scalar.addi c0_i32_108 v186
  let v213 : BitVec 32 := Scalar.maxsi c0_i32_109 v212
  let v214 : BitVec 32 := Scalar.minsi c768_i32 v213
  let v215 : BitVec 32 := v214
  let c0_i32_375 : BitVec 32 := 0#32
  ![v215.toNat, 0]
def k0_cond2 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c0_i32_112 : BitVec 32 := 0#32
  let v220 : BitVec 1 := Scalar.cmpi .sgt v123 c0_i32_112
  let v221 : BitVec 32 := Scalar.extui v220
  let c0_i32_116 : BitVec 32 := 0#32
  let v222 : BitVec 1 := Scalar.cmpi .ne v221 c0_i32_116
  v222

def k0_dev2 (d0 : Dev nD) : Nat :=
  let c0_i32_372 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_371 : BitVec 32 := 8#32
  let v613 : BitVec 32 := Scalar.muli v9 c8_i32_371
  let v614 : BitVec 32 := Scalar.addi c0_i32_372 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v615 : BitVec 32 := Scalar.muli v5 c4_i32_373
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v617 : BitVec 32 := Scalar.muli v8 c1_i32_374
  let v618 : BitVec 32 := Scalar.addi v616 v617
  v618.toNat
def k0_mult3 (v10 : BitVec 32) : BitVec 32 :=
  let c768_i32_149 : BitVec 32 := 768#32
  let c0_i32_148 : BitVec 32 := 0#32
  let c0_i32_147 : BitVec 32 := 0#32
  let c1024_i32_131 : BitVec 32 := 1024#32
  let c0_i32_130 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_117 : BitVec 32 := 256#32
  let v223 : BitVec 32 := Scalar.addi v67 c256_i32_117
  let c1_i32_118 : BitVec 32 := 1#32
  let v224 : BitVec 32 := Scalar.subi v223 c1_i32_118
  let c0_i32_120 : BitVec 32 := 0#32
  let v226 : BitVec 1 := Scalar.cmpi .sgt v224 c0_i32_120
  let v227 : BitVec 32 := Scalar.extui v226
  let c0_i32_121 : BitVec 32 := 0#32
  let v228 : BitVec 1 := Scalar.cmpi .slt v224 c0_i32_121
  let v229 : BitVec 32 := Scalar.extui v228
  let v230 : BitVec 32 := Scalar.subi v227 v229
  let c256_i32_119 : BitVec 32 := 256#32
  let c0_i32_122 : BitVec 32 := 0#32
  let v231 : BitVec 1 := Scalar.cmpi .sgt c256_i32_119 c0_i32_122
  let v232 : BitVec 32 := Scalar.extui v231
  let c0_i32_123 : BitVec 32 := 0#32
  let v233 : BitVec 1 := Scalar.cmpi .slt c256_i32_119 c0_i32_123
  let v234 : BitVec 32 := Scalar.extui v233
  let v235 : BitVec 32 := Scalar.subi v232 v234
  let v236 : BitVec 1 := Scalar.cmpi .ne v230 v235
  let v237 : BitVec 32 := Scalar.remsi v224 c256_i32_119
  let c0_i32_124 : BitVec 32 := 0#32
  let v238 : BitVec 1 := Scalar.cmpi .ne v237 c0_i32_124
  let v239 : BitVec 1 := Scalar.andi v236 v238
  let v225 : BitVec 32 := Scalar.divsi v224 c256_i32_119
  let c1_i32_125 : BitVec 32 := 1#32
  let v240 : BitVec 32 := Scalar.subi v225 c1_i32_125
  let v241 : BitVec 32 := Scalar.select v239 v240 v225
  let c1_i32_126 : BitVec 32 := 1#32
  let v242 : BitVec 32 := Scalar.subi v241 c1_i32_126
  let c1_i32_127 : BitVec 32 := 1#32
  let v243 : BitVec 1 := Scalar.cmpi .eq v242 c1_i32_127
  let c256_i32_128 : BitVec 32 := 256#32
  let v244 : BitVec 32 := Scalar.subi v67 c256_i32_128
  let c256_i32_129 : BitVec 32 := 256#32
  let v245 : BitVec 32 := Scalar.select v243 v244 c256_i32_129
  let v246 : BitVec 32 := Scalar.maxsi c0_i32_130 v245
  let v247 : BitVec 32 := Scalar.minsi c1024_i32_131 v246
  let v273 : BitVec 32 := Scalar.addi c0_i32_147 v247
  let v274 : BitVec 32 := Scalar.maxsi c0_i32_148 v273
  let v275 : BitVec 32 := Scalar.minsi c768_i32_149 v274
  v275
def k0_mult4 (v10 : BitVec 32) : BitVec 32 :=
  let c768_i32_151 : BitVec 32 := 768#32
  let c0_i32_150 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_146 : BitVec 32 := 1024#32
  let c0_i32_145 : BitVec 32 := 0#32
  let c1024_i32_43 : BitVec 32 := 1024#32
  let v86 : BitVec 32 := Scalar.subi c1024_i32_43 v85
  let c256_i32_132 : BitVec 32 := 256#32
  let v248 : BitVec 32 := Scalar.addi v86 c256_i32_132
  let c1_i32_133 : BitVec 32 := 1#32
  let v249 : BitVec 32 := Scalar.subi v248 c1_i32_133
  let c0_i32_135 : BitVec 32 := 0#32
  let v251 : BitVec 1 := Scalar.cmpi .sgt v249 c0_i32_135
  let v252 : BitVec 32 := Scalar.extui v251
  let c0_i32_136 : BitVec 32 := 0#32
  let v253 : BitVec 1 := Scalar.cmpi .slt v249 c0_i32_136
  let v254 : BitVec 32 := Scalar.extui v253
  let v255 : BitVec 32 := Scalar.subi v252 v254
  let c256_i32_134 : BitVec 32 := 256#32
  let c0_i32_137 : BitVec 32 := 0#32
  let v256 : BitVec 1 := Scalar.cmpi .sgt c256_i32_134 c0_i32_137
  let v257 : BitVec 32 := Scalar.extui v256
  let c0_i32_138 : BitVec 32 := 0#32
  let v258 : BitVec 1 := Scalar.cmpi .slt c256_i32_134 c0_i32_138
  let v259 : BitVec 32 := Scalar.extui v258
  let v260 : BitVec 32 := Scalar.subi v257 v259
  let v261 : BitVec 1 := Scalar.cmpi .ne v255 v260
  let v262 : BitVec 32 := Scalar.remsi v249 c256_i32_134
  let c0_i32_139 : BitVec 32 := 0#32
  let v263 : BitVec 1 := Scalar.cmpi .ne v262 c0_i32_139
  let v264 : BitVec 1 := Scalar.andi v261 v263
  let v250 : BitVec 32 := Scalar.divsi v249 c256_i32_134
  let c1_i32_140 : BitVec 32 := 1#32
  let v265 : BitVec 32 := Scalar.subi v250 c1_i32_140
  let v266 : BitVec 32 := Scalar.select v264 v265 v250
  let c1_i32_141 : BitVec 32 := 1#32
  let v267 : BitVec 32 := Scalar.subi v266 c1_i32_141
  let c1_i32_142 : BitVec 32 := 1#32
  let v268 : BitVec 1 := Scalar.cmpi .eq v267 c1_i32_142
  let c256_i32_143 : BitVec 32 := 256#32
  let v269 : BitVec 32 := Scalar.subi v86 c256_i32_143
  let c256_i32_144 : BitVec 32 := 256#32
  let v270 : BitVec 32 := Scalar.select v268 v269 c256_i32_144
  let v271 : BitVec 32 := Scalar.maxsi c0_i32_145 v270
  let v272 : BitVec 32 := Scalar.minsi c1024_i32_146 v271
  let v277 : BitVec 32 := Scalar.addi v85 v272
  let v278 : BitVec 32 := Scalar.maxsi c0_i32_150 v277
  let v279 : BitVec 32 := Scalar.minsi c768_i32_151 v278
  v279
def k0_off2 (v10 : BitVec 32) : Fin 2 → Nat :=
  let c768_i32_149 : BitVec 32 := 768#32
  let c0_i32_148 : BitVec 32 := 0#32
  let c0_i32_147 : BitVec 32 := 0#32
  let c1024_i32_131 : BitVec 32 := 1024#32
  let c0_i32_130 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_117 : BitVec 32 := 256#32
  let v223 : BitVec 32 := Scalar.addi v67 c256_i32_117
  let c1_i32_118 : BitVec 32 := 1#32
  let v224 : BitVec 32 := Scalar.subi v223 c1_i32_118
  let c0_i32_120 : BitVec 32 := 0#32
  let v226 : BitVec 1 := Scalar.cmpi .sgt v224 c0_i32_120
  let v227 : BitVec 32 := Scalar.extui v226
  let c0_i32_121 : BitVec 32 := 0#32
  let v228 : BitVec 1 := Scalar.cmpi .slt v224 c0_i32_121
  let v229 : BitVec 32 := Scalar.extui v228
  let v230 : BitVec 32 := Scalar.subi v227 v229
  let c256_i32_119 : BitVec 32 := 256#32
  let c0_i32_122 : BitVec 32 := 0#32
  let v231 : BitVec 1 := Scalar.cmpi .sgt c256_i32_119 c0_i32_122
  let v232 : BitVec 32 := Scalar.extui v231
  let c0_i32_123 : BitVec 32 := 0#32
  let v233 : BitVec 1 := Scalar.cmpi .slt c256_i32_119 c0_i32_123
  let v234 : BitVec 32 := Scalar.extui v233
  let v235 : BitVec 32 := Scalar.subi v232 v234
  let v236 : BitVec 1 := Scalar.cmpi .ne v230 v235
  let v237 : BitVec 32 := Scalar.remsi v224 c256_i32_119
  let c0_i32_124 : BitVec 32 := 0#32
  let v238 : BitVec 1 := Scalar.cmpi .ne v237 c0_i32_124
  let v239 : BitVec 1 := Scalar.andi v236 v238
  let v225 : BitVec 32 := Scalar.divsi v224 c256_i32_119
  let c1_i32_125 : BitVec 32 := 1#32
  let v240 : BitVec 32 := Scalar.subi v225 c1_i32_125
  let v241 : BitVec 32 := Scalar.select v239 v240 v225
  let c1_i32_126 : BitVec 32 := 1#32
  let v242 : BitVec 32 := Scalar.subi v241 c1_i32_126
  let c1_i32_127 : BitVec 32 := 1#32
  let v243 : BitVec 1 := Scalar.cmpi .eq v242 c1_i32_127
  let c256_i32_128 : BitVec 32 := 256#32
  let v244 : BitVec 32 := Scalar.subi v67 c256_i32_128
  let c256_i32_129 : BitVec 32 := 256#32
  let v245 : BitVec 32 := Scalar.select v243 v244 c256_i32_129
  let v246 : BitVec 32 := Scalar.maxsi c0_i32_130 v245
  let v247 : BitVec 32 := Scalar.minsi c1024_i32_131 v246
  let v273 : BitVec 32 := Scalar.addi c0_i32_147 v247
  let v274 : BitVec 32 := Scalar.maxsi c0_i32_148 v273
  let v275 : BitVec 32 := Scalar.minsi c768_i32_149 v274
  let v276 : BitVec 32 := v275
  let c0_i32_374 : BitVec 32 := 0#32
  ![v276.toNat, 0]
def k0_cond3 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c1_i32_152 : BitVec 32 := 1#32
  let v281 : BitVec 1 := Scalar.cmpi .sgt v123 c1_i32_152
  let v282 : BitVec 32 := Scalar.extui v281
  let c0_i32_156 : BitVec 32 := 0#32
  let v283 : BitVec 1 := Scalar.cmpi .ne v282 c0_i32_156
  v283

def k0_dev3 (d0 : Dev nD) : Nat :=
  let c0_i32_371 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_370 : BitVec 32 := 8#32
  let v613 : BitVec 32 := Scalar.muli v9 c8_i32_370
  let v614 : BitVec 32 := Scalar.addi c0_i32_371 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v615 : BitVec 32 := Scalar.muli v5 c4_i32_372
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v617 : BitVec 32 := Scalar.muli v8 c1_i32_373
  let v618 : BitVec 32 := Scalar.addi v616 v617
  v618.toNat
def k0_mult5 (v10 : BitVec 32) : BitVec 32 :=
  let c768_i32_188 : BitVec 32 := 768#32
  let c0_i32_187 : BitVec 32 := 0#32
  let c0_i32_186 : BitVec 32 := 0#32
  let c1024_i32_170 : BitVec 32 := 1024#32
  let c0_i32_169 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_157 : BitVec 32 := 256#32
  let v284 : BitVec 32 := Scalar.addi v67 c256_i32_157
  let c1_i32_158 : BitVec 32 := 1#32
  let v285 : BitVec 32 := Scalar.subi v284 c1_i32_158
  let c0_i32_160 : BitVec 32 := 0#32
  let v287 : BitVec 1 := Scalar.cmpi .sgt v285 c0_i32_160
  let v288 : BitVec 32 := Scalar.extui v287
  let c0_i32_161 : BitVec 32 := 0#32
  let v289 : BitVec 1 := Scalar.cmpi .slt v285 c0_i32_161
  let v290 : BitVec 32 := Scalar.extui v289
  let v291 : BitVec 32 := Scalar.subi v288 v290
  let c256_i32_159 : BitVec 32 := 256#32
  let c0_i32_162 : BitVec 32 := 0#32
  let v292 : BitVec 1 := Scalar.cmpi .sgt c256_i32_159 c0_i32_162
  let v293 : BitVec 32 := Scalar.extui v292
  let c0_i32_163 : BitVec 32 := 0#32
  let v294 : BitVec 1 := Scalar.cmpi .slt c256_i32_159 c0_i32_163
  let v295 : BitVec 32 := Scalar.extui v294
  let v296 : BitVec 32 := Scalar.subi v293 v295
  let v297 : BitVec 1 := Scalar.cmpi .ne v291 v296
  let v298 : BitVec 32 := Scalar.remsi v285 c256_i32_159
  let c0_i32_164 : BitVec 32 := 0#32
  let v299 : BitVec 1 := Scalar.cmpi .ne v298 c0_i32_164
  let v300 : BitVec 1 := Scalar.andi v297 v299
  let v286 : BitVec 32 := Scalar.divsi v285 c256_i32_159
  let c1_i32_165 : BitVec 32 := 1#32
  let v301 : BitVec 32 := Scalar.subi v286 c1_i32_165
  let v302 : BitVec 32 := Scalar.select v300 v301 v286
  let c1_i32_166 : BitVec 32 := 1#32
  let v303 : BitVec 32 := Scalar.subi v302 c1_i32_166
  let c2_i32_167 : BitVec 32 := 2#32
  let v304 : BitVec 1 := Scalar.cmpi .eq v303 c2_i32_167
  let c256_i32_168 : BitVec 32 := 256#32
  let v305 : BitVec 32 := Scalar.subi v67 c256_i32_168
  let c512_i32 : BitVec 32 := 512#32
  let v306 : BitVec 32 := Scalar.select v304 v305 c512_i32
  let v307 : BitVec 32 := Scalar.maxsi c0_i32_169 v306
  let v308 : BitVec 32 := Scalar.minsi c1024_i32_170 v307
  let v334 : BitVec 32 := Scalar.addi c0_i32_186 v308
  let v335 : BitVec 32 := Scalar.maxsi c0_i32_187 v334
  let v336 : BitVec 32 := Scalar.minsi c768_i32_188 v335
  v336
def k0_mult6 (v10 : BitVec 32) : BitVec 32 :=
  let c768_i32_190 : BitVec 32 := 768#32
  let c0_i32_189 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_185 : BitVec 32 := 1024#32
  let c0_i32_184 : BitVec 32 := 0#32
  let c1024_i32_43 : BitVec 32 := 1024#32
  let v86 : BitVec 32 := Scalar.subi c1024_i32_43 v85
  let c256_i32_171 : BitVec 32 := 256#32
  let v309 : BitVec 32 := Scalar.addi v86 c256_i32_171
  let c1_i32_172 : BitVec 32 := 1#32
  let v310 : BitVec 32 := Scalar.subi v309 c1_i32_172
  let c0_i32_174 : BitVec 32 := 0#32
  let v312 : BitVec 1 := Scalar.cmpi .sgt v310 c0_i32_174
  let v313 : BitVec 32 := Scalar.extui v312
  let c0_i32_175 : BitVec 32 := 0#32
  let v314 : BitVec 1 := Scalar.cmpi .slt v310 c0_i32_175
  let v315 : BitVec 32 := Scalar.extui v314
  let v316 : BitVec 32 := Scalar.subi v313 v315
  let c256_i32_173 : BitVec 32 := 256#32
  let c0_i32_176 : BitVec 32 := 0#32
  let v317 : BitVec 1 := Scalar.cmpi .sgt c256_i32_173 c0_i32_176
  let v318 : BitVec 32 := Scalar.extui v317
  let c0_i32_177 : BitVec 32 := 0#32
  let v319 : BitVec 1 := Scalar.cmpi .slt c256_i32_173 c0_i32_177
  let v320 : BitVec 32 := Scalar.extui v319
  let v321 : BitVec 32 := Scalar.subi v318 v320
  let v322 : BitVec 1 := Scalar.cmpi .ne v316 v321
  let v323 : BitVec 32 := Scalar.remsi v310 c256_i32_173
  let c0_i32_178 : BitVec 32 := 0#32
  let v324 : BitVec 1 := Scalar.cmpi .ne v323 c0_i32_178
  let v325 : BitVec 1 := Scalar.andi v322 v324
  let v311 : BitVec 32 := Scalar.divsi v310 c256_i32_173
  let c1_i32_179 : BitVec 32 := 1#32
  let v326 : BitVec 32 := Scalar.subi v311 c1_i32_179
  let v327 : BitVec 32 := Scalar.select v325 v326 v311
  let c1_i32_180 : BitVec 32 := 1#32
  let v328 : BitVec 32 := Scalar.subi v327 c1_i32_180
  let c2_i32_181 : BitVec 32 := 2#32
  let v329 : BitVec 1 := Scalar.cmpi .eq v328 c2_i32_181
  let c256_i32_182 : BitVec 32 := 256#32
  let v330 : BitVec 32 := Scalar.subi v86 c256_i32_182
  let c512_i32_183 : BitVec 32 := 512#32
  let v331 : BitVec 32 := Scalar.select v329 v330 c512_i32_183
  let v332 : BitVec 32 := Scalar.maxsi c0_i32_184 v331
  let v333 : BitVec 32 := Scalar.minsi c1024_i32_185 v332
  let v338 : BitVec 32 := Scalar.addi v85 v333
  let v339 : BitVec 32 := Scalar.maxsi c0_i32_189 v338
  let v340 : BitVec 32 := Scalar.minsi c768_i32_190 v339
  v340
def k0_off3 (v10 : BitVec 32) : Fin 2 → Nat :=
  let c768_i32_188 : BitVec 32 := 768#32
  let c0_i32_187 : BitVec 32 := 0#32
  let c0_i32_186 : BitVec 32 := 0#32
  let c1024_i32_170 : BitVec 32 := 1024#32
  let c0_i32_169 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_157 : BitVec 32 := 256#32
  let v284 : BitVec 32 := Scalar.addi v67 c256_i32_157
  let c1_i32_158 : BitVec 32 := 1#32
  let v285 : BitVec 32 := Scalar.subi v284 c1_i32_158
  let c0_i32_160 : BitVec 32 := 0#32
  let v287 : BitVec 1 := Scalar.cmpi .sgt v285 c0_i32_160
  let v288 : BitVec 32 := Scalar.extui v287
  let c0_i32_161 : BitVec 32 := 0#32
  let v289 : BitVec 1 := Scalar.cmpi .slt v285 c0_i32_161
  let v290 : BitVec 32 := Scalar.extui v289
  let v291 : BitVec 32 := Scalar.subi v288 v290
  let c256_i32_159 : BitVec 32 := 256#32
  let c0_i32_162 : BitVec 32 := 0#32
  let v292 : BitVec 1 := Scalar.cmpi .sgt c256_i32_159 c0_i32_162
  let v293 : BitVec 32 := Scalar.extui v292
  let c0_i32_163 : BitVec 32 := 0#32
  let v294 : BitVec 1 := Scalar.cmpi .slt c256_i32_159 c0_i32_163
  let v295 : BitVec 32 := Scalar.extui v294
  let v296 : BitVec 32 := Scalar.subi v293 v295
  let v297 : BitVec 1 := Scalar.cmpi .ne v291 v296
  let v298 : BitVec 32 := Scalar.remsi v285 c256_i32_159
  let c0_i32_164 : BitVec 32 := 0#32
  let v299 : BitVec 1 := Scalar.cmpi .ne v298 c0_i32_164
  let v300 : BitVec 1 := Scalar.andi v297 v299
  let v286 : BitVec 32 := Scalar.divsi v285 c256_i32_159
  let c1_i32_165 : BitVec 32 := 1#32
  let v301 : BitVec 32 := Scalar.subi v286 c1_i32_165
  let v302 : BitVec 32 := Scalar.select v300 v301 v286
  let c1_i32_166 : BitVec 32 := 1#32
  let v303 : BitVec 32 := Scalar.subi v302 c1_i32_166
  let c2_i32_167 : BitVec 32 := 2#32
  let v304 : BitVec 1 := Scalar.cmpi .eq v303 c2_i32_167
  let c256_i32_168 : BitVec 32 := 256#32
  let v305 : BitVec 32 := Scalar.subi v67 c256_i32_168
  let c512_i32 : BitVec 32 := 512#32
  let v306 : BitVec 32 := Scalar.select v304 v305 c512_i32
  let v307 : BitVec 32 := Scalar.maxsi c0_i32_169 v306
  let v308 : BitVec 32 := Scalar.minsi c1024_i32_170 v307
  let v334 : BitVec 32 := Scalar.addi c0_i32_186 v308
  let v335 : BitVec 32 := Scalar.maxsi c0_i32_187 v334
  let v336 : BitVec 32 := Scalar.minsi c768_i32_188 v335
  let v337 : BitVec 32 := v336
  let c0_i32_374 : BitVec 32 := 0#32
  ![v337.toNat, 0]
def k0_cond4 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c2_i32_191 : BitVec 32 := 2#32
  let v342 : BitVec 1 := Scalar.cmpi .sgt v123 c2_i32_191
  let v343 : BitVec 32 := Scalar.extui v342
  let c0_i32_195 : BitVec 32 := 0#32
  let v344 : BitVec 1 := Scalar.cmpi .ne v343 c0_i32_195
  v344

def k0_dev4 (d0 : Dev nD) : Nat :=
  let c0_i32_371 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_370 : BitVec 32 := 8#32
  let v613 : BitVec 32 := Scalar.muli v9 c8_i32_370
  let v614 : BitVec 32 := Scalar.addi c0_i32_371 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v615 : BitVec 32 := Scalar.muli v5 c4_i32_372
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v617 : BitVec 32 := Scalar.muli v8 c1_i32_373
  let v618 : BitVec 32 := Scalar.addi v616 v617
  v618.toNat
def k0_mult7 (v10 : BitVec 32) : BitVec 32 :=
  let c768_i32_227 : BitVec 32 := 768#32
  let c0_i32_226 : BitVec 32 := 0#32
  let c0_i32_225 : BitVec 32 := 0#32
  let c1024_i32_209 : BitVec 32 := 1024#32
  let c0_i32_208 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_196 : BitVec 32 := 256#32
  let v345 : BitVec 32 := Scalar.addi v67 c256_i32_196
  let c1_i32_197 : BitVec 32 := 1#32
  let v346 : BitVec 32 := Scalar.subi v345 c1_i32_197
  let c0_i32_199 : BitVec 32 := 0#32
  let v348 : BitVec 1 := Scalar.cmpi .sgt v346 c0_i32_199
  let v349 : BitVec 32 := Scalar.extui v348
  let c0_i32_200 : BitVec 32 := 0#32
  let v350 : BitVec 1 := Scalar.cmpi .slt v346 c0_i32_200
  let v351 : BitVec 32 := Scalar.extui v350
  let v352 : BitVec 32 := Scalar.subi v349 v351
  let c256_i32_198 : BitVec 32 := 256#32
  let c0_i32_201 : BitVec 32 := 0#32
  let v353 : BitVec 1 := Scalar.cmpi .sgt c256_i32_198 c0_i32_201
  let v354 : BitVec 32 := Scalar.extui v353
  let c0_i32_202 : BitVec 32 := 0#32
  let v355 : BitVec 1 := Scalar.cmpi .slt c256_i32_198 c0_i32_202
  let v356 : BitVec 32 := Scalar.extui v355
  let v357 : BitVec 32 := Scalar.subi v354 v356
  let v358 : BitVec 1 := Scalar.cmpi .ne v352 v357
  let v359 : BitVec 32 := Scalar.remsi v346 c256_i32_198
  let c0_i32_203 : BitVec 32 := 0#32
  let v360 : BitVec 1 := Scalar.cmpi .ne v359 c0_i32_203
  let v361 : BitVec 1 := Scalar.andi v358 v360
  let v347 : BitVec 32 := Scalar.divsi v346 c256_i32_198
  let c1_i32_204 : BitVec 32 := 1#32
  let v362 : BitVec 32 := Scalar.subi v347 c1_i32_204
  let v363 : BitVec 32 := Scalar.select v361 v362 v347
  let c1_i32_205 : BitVec 32 := 1#32
  let v364 : BitVec 32 := Scalar.subi v363 c1_i32_205
  let c3_i32 : BitVec 32 := 3#32
  let v365 : BitVec 1 := Scalar.cmpi .eq v364 c3_i32
  let c256_i32_206 : BitVec 32 := 256#32
  let v366 : BitVec 32 := Scalar.subi v67 c256_i32_206
  let c768_i32_207 : BitVec 32 := 768#32
  let v367 : BitVec 32 := Scalar.select v365 v366 c768_i32_207
  let v368 : BitVec 32 := Scalar.maxsi c0_i32_208 v367
  let v369 : BitVec 32 := Scalar.minsi c1024_i32_209 v368
  let v395 : BitVec 32 := Scalar.addi c0_i32_225 v369
  let v396 : BitVec 32 := Scalar.maxsi c0_i32_226 v395
  let v397 : BitVec 32 := Scalar.minsi c768_i32_227 v396
  v397
def k0_mult8 (v10 : BitVec 32) : BitVec 32 :=
  let c768_i32_229 : BitVec 32 := 768#32
  let c0_i32_228 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_224 : BitVec 32 := 1024#32
  let c0_i32_223 : BitVec 32 := 0#32
  let c1024_i32_43 : BitVec 32 := 1024#32
  let v86 : BitVec 32 := Scalar.subi c1024_i32_43 v85
  let c256_i32_210 : BitVec 32 := 256#32
  let v370 : BitVec 32 := Scalar.addi v86 c256_i32_210
  let c1_i32_211 : BitVec 32 := 1#32
  let v371 : BitVec 32 := Scalar.subi v370 c1_i32_211
  let c0_i32_213 : BitVec 32 := 0#32
  let v373 : BitVec 1 := Scalar.cmpi .sgt v371 c0_i32_213
  let v374 : BitVec 32 := Scalar.extui v373
  let c0_i32_214 : BitVec 32 := 0#32
  let v375 : BitVec 1 := Scalar.cmpi .slt v371 c0_i32_214
  let v376 : BitVec 32 := Scalar.extui v375
  let v377 : BitVec 32 := Scalar.subi v374 v376
  let c256_i32_212 : BitVec 32 := 256#32
  let c0_i32_215 : BitVec 32 := 0#32
  let v378 : BitVec 1 := Scalar.cmpi .sgt c256_i32_212 c0_i32_215
  let v379 : BitVec 32 := Scalar.extui v378
  let c0_i32_216 : BitVec 32 := 0#32
  let v380 : BitVec 1 := Scalar.cmpi .slt c256_i32_212 c0_i32_216
  let v381 : BitVec 32 := Scalar.extui v380
  let v382 : BitVec 32 := Scalar.subi v379 v381
  let v383 : BitVec 1 := Scalar.cmpi .ne v377 v382
  let v384 : BitVec 32 := Scalar.remsi v371 c256_i32_212
  let c0_i32_217 : BitVec 32 := 0#32
  let v385 : BitVec 1 := Scalar.cmpi .ne v384 c0_i32_217
  let v386 : BitVec 1 := Scalar.andi v383 v385
  let v372 : BitVec 32 := Scalar.divsi v371 c256_i32_212
  let c1_i32_218 : BitVec 32 := 1#32
  let v387 : BitVec 32 := Scalar.subi v372 c1_i32_218
  let v388 : BitVec 32 := Scalar.select v386 v387 v372
  let c1_i32_219 : BitVec 32 := 1#32
  let v389 : BitVec 32 := Scalar.subi v388 c1_i32_219
  let c3_i32_220 : BitVec 32 := 3#32
  let v390 : BitVec 1 := Scalar.cmpi .eq v389 c3_i32_220
  let c256_i32_221 : BitVec 32 := 256#32
  let v391 : BitVec 32 := Scalar.subi v86 c256_i32_221
  let c768_i32_222 : BitVec 32 := 768#32
  let v392 : BitVec 32 := Scalar.select v390 v391 c768_i32_222
  let v393 : BitVec 32 := Scalar.maxsi c0_i32_223 v392
  let v394 : BitVec 32 := Scalar.minsi c1024_i32_224 v393
  let v399 : BitVec 32 := Scalar.addi v85 v394
  let v400 : BitVec 32 := Scalar.maxsi c0_i32_228 v399
  let v401 : BitVec 32 := Scalar.minsi c768_i32_229 v400
  v401
def k0_off4 (v10 : BitVec 32) : Fin 2 → Nat :=
  let c768_i32_227 : BitVec 32 := 768#32
  let c0_i32_226 : BitVec 32 := 0#32
  let c0_i32_225 : BitVec 32 := 0#32
  let c1024_i32_209 : BitVec 32 := 1024#32
  let c0_i32_208 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_196 : BitVec 32 := 256#32
  let v345 : BitVec 32 := Scalar.addi v67 c256_i32_196
  let c1_i32_197 : BitVec 32 := 1#32
  let v346 : BitVec 32 := Scalar.subi v345 c1_i32_197
  let c0_i32_199 : BitVec 32 := 0#32
  let v348 : BitVec 1 := Scalar.cmpi .sgt v346 c0_i32_199
  let v349 : BitVec 32 := Scalar.extui v348
  let c0_i32_200 : BitVec 32 := 0#32
  let v350 : BitVec 1 := Scalar.cmpi .slt v346 c0_i32_200
  let v351 : BitVec 32 := Scalar.extui v350
  let v352 : BitVec 32 := Scalar.subi v349 v351
  let c256_i32_198 : BitVec 32 := 256#32
  let c0_i32_201 : BitVec 32 := 0#32
  let v353 : BitVec 1 := Scalar.cmpi .sgt c256_i32_198 c0_i32_201
  let v354 : BitVec 32 := Scalar.extui v353
  let c0_i32_202 : BitVec 32 := 0#32
  let v355 : BitVec 1 := Scalar.cmpi .slt c256_i32_198 c0_i32_202
  let v356 : BitVec 32 := Scalar.extui v355
  let v357 : BitVec 32 := Scalar.subi v354 v356
  let v358 : BitVec 1 := Scalar.cmpi .ne v352 v357
  let v359 : BitVec 32 := Scalar.remsi v346 c256_i32_198
  let c0_i32_203 : BitVec 32 := 0#32
  let v360 : BitVec 1 := Scalar.cmpi .ne v359 c0_i32_203
  let v361 : BitVec 1 := Scalar.andi v358 v360
  let v347 : BitVec 32 := Scalar.divsi v346 c256_i32_198
  let c1_i32_204 : BitVec 32 := 1#32
  let v362 : BitVec 32 := Scalar.subi v347 c1_i32_204
  let v363 : BitVec 32 := Scalar.select v361 v362 v347
  let c1_i32_205 : BitVec 32 := 1#32
  let v364 : BitVec 32 := Scalar.subi v363 c1_i32_205
  let c3_i32 : BitVec 32 := 3#32
  let v365 : BitVec 1 := Scalar.cmpi .eq v364 c3_i32
  let c256_i32_206 : BitVec 32 := 256#32
  let v366 : BitVec 32 := Scalar.subi v67 c256_i32_206
  let c768_i32_207 : BitVec 32 := 768#32
  let v367 : BitVec 32 := Scalar.select v365 v366 c768_i32_207
  let v368 : BitVec 32 := Scalar.maxsi c0_i32_208 v367
  let v369 : BitVec 32 := Scalar.minsi c1024_i32_209 v368
  let v395 : BitVec 32 := Scalar.addi c0_i32_225 v369
  let v396 : BitVec 32 := Scalar.maxsi c0_i32_226 v395
  let v397 : BitVec 32 := Scalar.minsi c768_i32_227 v396
  let v398 : BitVec 32 := v397
  let c0_i32_374 : BitVec 32 := 0#32
  ![v398.toNat, 0]
def k0_cond5 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c3_i32_230 : BitVec 32 := 3#32
  let v403 : BitVec 1 := Scalar.cmpi .sgt v123 c3_i32_230
  let v404 : BitVec 32 := Scalar.extui v403
  let c0_i32_234 : BitVec 32 := 0#32
  let v405 : BitVec 1 := Scalar.cmpi .ne v404 c0_i32_234
  v405

def k0_dev5 (d0 : Dev nD) : Nat :=
  let c0_i32_371 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_370 : BitVec 32 := 8#32
  let v613 : BitVec 32 := Scalar.muli v9 c8_i32_370
  let v614 : BitVec 32 := Scalar.addi c0_i32_371 v613
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_372 : BitVec 32 := 4#32
  let v615 : BitVec 32 := Scalar.muli v5 c4_i32_372
  let v616 : BitVec 32 := Scalar.addi v614 v615
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_373 : BitVec 32 := 1#32
  let v617 : BitVec 32 := Scalar.muli v8 c1_i32_373
  let v618 : BitVec 32 := Scalar.addi v616 v617
  v618.toNat
def k0_mult9 (v10 : BitVec 32) : BitVec 32 :=
  let c768_i32_252 : BitVec 32 := 768#32
  let c0_i32_251 : BitVec 32 := 0#32
  let c0_i32_250 : BitVec 32 := 0#32
  let c1024_i32_249 : BitVec 32 := 1024#32
  let c0_i32_248 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_235 : BitVec 32 := 256#32
  let v406 : BitVec 32 := Scalar.addi v104 c256_i32_235
  let c1_i32_236 : BitVec 32 := 1#32
  let v407 : BitVec 32 := Scalar.subi v406 c1_i32_236
  let c0_i32_238 : BitVec 32 := 0#32
  let v409 : BitVec 1 := Scalar.cmpi .sgt v407 c0_i32_238
  let v410 : BitVec 32 := Scalar.extui v409
  let c0_i32_239 : BitVec 32 := 0#32
  let v411 : BitVec 1 := Scalar.cmpi .slt v407 c0_i32_239
  let v412 : BitVec 32 := Scalar.extui v411
  let v413 : BitVec 32 := Scalar.subi v410 v412
  let c256_i32_237 : BitVec 32 := 256#32
  let c0_i32_240 : BitVec 32 := 0#32
  let v414 : BitVec 1 := Scalar.cmpi .sgt c256_i32_237 c0_i32_240
  let v415 : BitVec 32 := Scalar.extui v414
  let c0_i32_241 : BitVec 32 := 0#32
  let v416 : BitVec 1 := Scalar.cmpi .slt c256_i32_237 c0_i32_241
  let v417 : BitVec 32 := Scalar.extui v416
  let v418 : BitVec 32 := Scalar.subi v415 v417
  let v419 : BitVec 1 := Scalar.cmpi .ne v413 v418
  let v420 : BitVec 32 := Scalar.remsi v407 c256_i32_237
  let c0_i32_242 : BitVec 32 := 0#32
  let v421 : BitVec 1 := Scalar.cmpi .ne v420 c0_i32_242
  let v422 : BitVec 1 := Scalar.andi v419 v421
  let v408 : BitVec 32 := Scalar.divsi v407 c256_i32_237
  let c1_i32_243 : BitVec 32 := 1#32
  let v423 : BitVec 32 := Scalar.subi v408 c1_i32_243
  let v424 : BitVec 32 := Scalar.select v422 v423 v408
  let c1_i32_244 : BitVec 32 := 1#32
  let v425 : BitVec 32 := Scalar.subi v424 c1_i32_244
  let c0_i32_245 : BitVec 32 := 0#32
  let v426 : BitVec 1 := Scalar.cmpi .eq v425 c0_i32_245
  let c256_i32_246 : BitVec 32 := 256#32
  let v427 : BitVec 32 := Scalar.subi v104 c256_i32_246
  let c0_i32_247 : BitVec 32 := 0#32
  let v428 : BitVec 32 := Scalar.select v426 v427 c0_i32_247
  let v429 : BitVec 32 := Scalar.maxsi c0_i32_248 v428
  let v430 : BitVec 32 := Scalar.minsi c1024_i32_249 v429
  let v431 : BitVec 32 := Scalar.addi c0_i32_250 v430
  let v432 : BitVec 32 := Scalar.maxsi c0_i32_251 v431
  let v433 : BitVec 32 := Scalar.minsi c768_i32_252 v432
  v433
def k0_off5 (v10 : BitVec 32) : Fin 2 → Nat :=
  let c768_i32_252 : BitVec 32 := 768#32
  let c0_i32_251 : BitVec 32 := 0#32
  let c0_i32_250 : BitVec 32 := 0#32
  let c1024_i32_249 : BitVec 32 := 1024#32
  let c0_i32_248 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_235 : BitVec 32 := 256#32
  let v406 : BitVec 32 := Scalar.addi v104 c256_i32_235
  let c1_i32_236 : BitVec 32 := 1#32
  let v407 : BitVec 32 := Scalar.subi v406 c1_i32_236
  let c0_i32_238 : BitVec 32 := 0#32
  let v409 : BitVec 1 := Scalar.cmpi .sgt v407 c0_i32_238
  let v410 : BitVec 32 := Scalar.extui v409
  let c0_i32_239 : BitVec 32 := 0#32
  let v411 : BitVec 1 := Scalar.cmpi .slt v407 c0_i32_239
  let v412 : BitVec 32 := Scalar.extui v411
  let v413 : BitVec 32 := Scalar.subi v410 v412
  let c256_i32_237 : BitVec 32 := 256#32
  let c0_i32_240 : BitVec 32 := 0#32
  let v414 : BitVec 1 := Scalar.cmpi .sgt c256_i32_237 c0_i32_240
  let v415 : BitVec 32 := Scalar.extui v414
  let c0_i32_241 : BitVec 32 := 0#32
  let v416 : BitVec 1 := Scalar.cmpi .slt c256_i32_237 c0_i32_241
  let v417 : BitVec 32 := Scalar.extui v416
  let v418 : BitVec 32 := Scalar.subi v415 v417
  let v419 : BitVec 1 := Scalar.cmpi .ne v413 v418
  let v420 : BitVec 32 := Scalar.remsi v407 c256_i32_237
  let c0_i32_242 : BitVec 32 := 0#32
  let v421 : BitVec 1 := Scalar.cmpi .ne v420 c0_i32_242
  let v422 : BitVec 1 := Scalar.andi v419 v421
  let v408 : BitVec 32 := Scalar.divsi v407 c256_i32_237
  let c1_i32_243 : BitVec 32 := 1#32
  let v423 : BitVec 32 := Scalar.subi v408 c1_i32_243
  let v424 : BitVec 32 := Scalar.select v422 v423 v408
  let c1_i32_244 : BitVec 32 := 1#32
  let v425 : BitVec 32 := Scalar.subi v424 c1_i32_244
  let c0_i32_245 : BitVec 32 := 0#32
  let v426 : BitVec 1 := Scalar.cmpi .eq v425 c0_i32_245
  let c256_i32_246 : BitVec 32 := 256#32
  let v427 : BitVec 32 := Scalar.subi v104 c256_i32_246
  let c0_i32_247 : BitVec 32 := 0#32
  let v428 : BitVec 32 := Scalar.select v426 v427 c0_i32_247
  let v429 : BitVec 32 := Scalar.maxsi c0_i32_248 v428
  let v430 : BitVec 32 := Scalar.minsi c1024_i32_249 v429
  let v431 : BitVec 32 := Scalar.addi c0_i32_250 v430
  let v432 : BitVec 32 := Scalar.maxsi c0_i32_251 v431
  let v433 : BitVec 32 := Scalar.minsi c768_i32_252 v432
  let v434 : BitVec 32 := v433
  let v610 : Index := Scalar.indexCast v434
  let c0_369 : Index := 0#32
  ![v610.toNat, 0]
def k0_cond6 (v10 : BitVec 32) : BitVec 1 :=
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_69 : BitVec 32 := 256#32
  let v143 : BitVec 32 := Scalar.addi v104 c256_i32_69
  let c1_i32_70 : BitVec 32 := 1#32
  let v144 : BitVec 32 := Scalar.subi v143 c1_i32_70
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c256_i32_71 : BitVec 32 := 256#32
  let c0_i32_74 : BitVec 32 := 0#32
  let v151 : BitVec 1 := Scalar.cmpi .sgt c256_i32_71 c0_i32_74
  let v152 : BitVec 32 := Scalar.extui v151
  let c0_i32_75 : BitVec 32 := 0#32
  let v153 : BitVec 1 := Scalar.cmpi .slt c256_i32_71 c0_i32_75
  let v154 : BitVec 32 := Scalar.extui v153
  let v155 : BitVec 32 := Scalar.subi v152 v154
  let v156 : BitVec 1 := Scalar.cmpi .ne v150 v155
  let v157 : BitVec 32 := Scalar.remsi v144 c256_i32_71
  let c0_i32_76 : BitVec 32 := 0#32
  let v158 : BitVec 1 := Scalar.cmpi .ne v157 c0_i32_76
  let v159 : BitVec 1 := Scalar.andi v156 v158
  let v145 : BitVec 32 := Scalar.divsi v144 c256_i32_71
  let c1_i32_77 : BitVec 32 := 1#32
  let v160 : BitVec 32 := Scalar.subi v145 c1_i32_77
  let v161 : BitVec 32 := Scalar.select v159 v160 v145
  let c0_i32_253 : BitVec 32 := 0#32
  let v435 : BitVec 1 := Scalar.cmpi .sgt v161 c0_i32_253
  let v436 : BitVec 32 := Scalar.extui v435
  let c0_i32_254 : BitVec 32 := 0#32
  let v437 : BitVec 1 := Scalar.cmpi .ne v436 c0_i32_254
  v437

def k0_mult10 (v10 : BitVec 32) : BitVec 32 :=
  let c768_i32_272 : BitVec 32 := 768#32
  let c0_i32_271 : BitVec 32 := 0#32
  let c0_i32_270 : BitVec 32 := 0#32
  let c1024_i32_269 : BitVec 32 := 1024#32
  let c0_i32_268 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_255 : BitVec 32 := 256#32
  let v438 : BitVec 32 := Scalar.addi v104 c256_i32_255
  let c1_i32_256 : BitVec 32 := 1#32
  let v439 : BitVec 32 := Scalar.subi v438 c1_i32_256
  let c0_i32_258 : BitVec 32 := 0#32
  let v441 : BitVec 1 := Scalar.cmpi .sgt v439 c0_i32_258
  let v442 : BitVec 32 := Scalar.extui v441
  let c0_i32_259 : BitVec 32 := 0#32
  let v443 : BitVec 1 := Scalar.cmpi .slt v439 c0_i32_259
  let v444 : BitVec 32 := Scalar.extui v443
  let v445 : BitVec 32 := Scalar.subi v442 v444
  let c256_i32_257 : BitVec 32 := 256#32
  let c0_i32_260 : BitVec 32 := 0#32
  let v446 : BitVec 1 := Scalar.cmpi .sgt c256_i32_257 c0_i32_260
  let v447 : BitVec 32 := Scalar.extui v446
  let c0_i32_261 : BitVec 32 := 0#32
  let v448 : BitVec 1 := Scalar.cmpi .slt c256_i32_257 c0_i32_261
  let v449 : BitVec 32 := Scalar.extui v448
  let v450 : BitVec 32 := Scalar.subi v447 v449
  let v451 : BitVec 1 := Scalar.cmpi .ne v445 v450
  let v452 : BitVec 32 := Scalar.remsi v439 c256_i32_257
  let c0_i32_262 : BitVec 32 := 0#32
  let v453 : BitVec 1 := Scalar.cmpi .ne v452 c0_i32_262
  let v454 : BitVec 1 := Scalar.andi v451 v453
  let v440 : BitVec 32 := Scalar.divsi v439 c256_i32_257
  let c1_i32_263 : BitVec 32 := 1#32
  let v455 : BitVec 32 := Scalar.subi v440 c1_i32_263
  let v456 : BitVec 32 := Scalar.select v454 v455 v440
  let c1_i32_264 : BitVec 32 := 1#32
  let v457 : BitVec 32 := Scalar.subi v456 c1_i32_264
  let c1_i32_265 : BitVec 32 := 1#32
  let v458 : BitVec 1 := Scalar.cmpi .eq v457 c1_i32_265
  let c256_i32_266 : BitVec 32 := 256#32
  let v459 : BitVec 32 := Scalar.subi v104 c256_i32_266
  let c256_i32_267 : BitVec 32 := 256#32
  let v460 : BitVec 32 := Scalar.select v458 v459 c256_i32_267
  let v461 : BitVec 32 := Scalar.maxsi c0_i32_268 v460
  let v462 : BitVec 32 := Scalar.minsi c1024_i32_269 v461
  let v463 : BitVec 32 := Scalar.addi c0_i32_270 v462
  let v464 : BitVec 32 := Scalar.maxsi c0_i32_271 v463
  let v465 : BitVec 32 := Scalar.minsi c768_i32_272 v464
  v465
def k0_off6 (v10 : BitVec 32) : Fin 2 → Nat :=
  let c768_i32_272 : BitVec 32 := 768#32
  let c0_i32_271 : BitVec 32 := 0#32
  let c0_i32_270 : BitVec 32 := 0#32
  let c1024_i32_269 : BitVec 32 := 1024#32
  let c0_i32_268 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_255 : BitVec 32 := 256#32
  let v438 : BitVec 32 := Scalar.addi v104 c256_i32_255
  let c1_i32_256 : BitVec 32 := 1#32
  let v439 : BitVec 32 := Scalar.subi v438 c1_i32_256
  let c0_i32_258 : BitVec 32 := 0#32
  let v441 : BitVec 1 := Scalar.cmpi .sgt v439 c0_i32_258
  let v442 : BitVec 32 := Scalar.extui v441
  let c0_i32_259 : BitVec 32 := 0#32
  let v443 : BitVec 1 := Scalar.cmpi .slt v439 c0_i32_259
  let v444 : BitVec 32 := Scalar.extui v443
  let v445 : BitVec 32 := Scalar.subi v442 v444
  let c256_i32_257 : BitVec 32 := 256#32
  let c0_i32_260 : BitVec 32 := 0#32
  let v446 : BitVec 1 := Scalar.cmpi .sgt c256_i32_257 c0_i32_260
  let v447 : BitVec 32 := Scalar.extui v446
  let c0_i32_261 : BitVec 32 := 0#32
  let v448 : BitVec 1 := Scalar.cmpi .slt c256_i32_257 c0_i32_261
  let v449 : BitVec 32 := Scalar.extui v448
  let v450 : BitVec 32 := Scalar.subi v447 v449
  let v451 : BitVec 1 := Scalar.cmpi .ne v445 v450
  let v452 : BitVec 32 := Scalar.remsi v439 c256_i32_257
  let c0_i32_262 : BitVec 32 := 0#32
  let v453 : BitVec 1 := Scalar.cmpi .ne v452 c0_i32_262
  let v454 : BitVec 1 := Scalar.andi v451 v453
  let v440 : BitVec 32 := Scalar.divsi v439 c256_i32_257
  let c1_i32_263 : BitVec 32 := 1#32
  let v455 : BitVec 32 := Scalar.subi v440 c1_i32_263
  let v456 : BitVec 32 := Scalar.select v454 v455 v440
  let c1_i32_264 : BitVec 32 := 1#32
  let v457 : BitVec 32 := Scalar.subi v456 c1_i32_264
  let c1_i32_265 : BitVec 32 := 1#32
  let v458 : BitVec 1 := Scalar.cmpi .eq v457 c1_i32_265
  let c256_i32_266 : BitVec 32 := 256#32
  let v459 : BitVec 32 := Scalar.subi v104 c256_i32_266
  let c256_i32_267 : BitVec 32 := 256#32
  let v460 : BitVec 32 := Scalar.select v458 v459 c256_i32_267
  let v461 : BitVec 32 := Scalar.maxsi c0_i32_268 v460
  let v462 : BitVec 32 := Scalar.minsi c1024_i32_269 v461
  let v463 : BitVec 32 := Scalar.addi c0_i32_270 v462
  let v464 : BitVec 32 := Scalar.maxsi c0_i32_271 v463
  let v465 : BitVec 32 := Scalar.minsi c768_i32_272 v464
  let v466 : BitVec 32 := v465
  let v610 : Index := Scalar.indexCast v466
  let c0_369 : Index := 0#32
  ![v610.toNat, 0]
def k0_cond7 (v10 : BitVec 32) : BitVec 1 :=
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_69 : BitVec 32 := 256#32
  let v143 : BitVec 32 := Scalar.addi v104 c256_i32_69
  let c1_i32_70 : BitVec 32 := 1#32
  let v144 : BitVec 32 := Scalar.subi v143 c1_i32_70
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c256_i32_71 : BitVec 32 := 256#32
  let c0_i32_74 : BitVec 32 := 0#32
  let v151 : BitVec 1 := Scalar.cmpi .sgt c256_i32_71 c0_i32_74
  let v152 : BitVec 32 := Scalar.extui v151
  let c0_i32_75 : BitVec 32 := 0#32
  let v153 : BitVec 1 := Scalar.cmpi .slt c256_i32_71 c0_i32_75
  let v154 : BitVec 32 := Scalar.extui v153
  let v155 : BitVec 32 := Scalar.subi v152 v154
  let v156 : BitVec 1 := Scalar.cmpi .ne v150 v155
  let v157 : BitVec 32 := Scalar.remsi v144 c256_i32_71
  let c0_i32_76 : BitVec 32 := 0#32
  let v158 : BitVec 1 := Scalar.cmpi .ne v157 c0_i32_76
  let v159 : BitVec 1 := Scalar.andi v156 v158
  let v145 : BitVec 32 := Scalar.divsi v144 c256_i32_71
  let c1_i32_77 : BitVec 32 := 1#32
  let v160 : BitVec 32 := Scalar.subi v145 c1_i32_77
  let v161 : BitVec 32 := Scalar.select v159 v160 v145
  let c1_i32_273 : BitVec 32 := 1#32
  let v467 : BitVec 1 := Scalar.cmpi .sgt v161 c1_i32_273
  let v468 : BitVec 32 := Scalar.extui v467
  let c0_i32_274 : BitVec 32 := 0#32
  let v469 : BitVec 1 := Scalar.cmpi .ne v468 c0_i32_274
  v469

def k0_mult11 (v10 : BitVec 32) : BitVec 32 :=
  let c768_i32_292 : BitVec 32 := 768#32
  let c0_i32_291 : BitVec 32 := 0#32
  let c0_i32_290 : BitVec 32 := 0#32
  let c1024_i32_289 : BitVec 32 := 1024#32
  let c0_i32_288 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_275 : BitVec 32 := 256#32
  let v470 : BitVec 32 := Scalar.addi v104 c256_i32_275
  let c1_i32_276 : BitVec 32 := 1#32
  let v471 : BitVec 32 := Scalar.subi v470 c1_i32_276
  let c0_i32_278 : BitVec 32 := 0#32
  let v473 : BitVec 1 := Scalar.cmpi .sgt v471 c0_i32_278
  let v474 : BitVec 32 := Scalar.extui v473
  let c0_i32_279 : BitVec 32 := 0#32
  let v475 : BitVec 1 := Scalar.cmpi .slt v471 c0_i32_279
  let v476 : BitVec 32 := Scalar.extui v475
  let v477 : BitVec 32 := Scalar.subi v474 v476
  let c256_i32_277 : BitVec 32 := 256#32
  let c0_i32_280 : BitVec 32 := 0#32
  let v478 : BitVec 1 := Scalar.cmpi .sgt c256_i32_277 c0_i32_280
  let v479 : BitVec 32 := Scalar.extui v478
  let c0_i32_281 : BitVec 32 := 0#32
  let v480 : BitVec 1 := Scalar.cmpi .slt c256_i32_277 c0_i32_281
  let v481 : BitVec 32 := Scalar.extui v480
  let v482 : BitVec 32 := Scalar.subi v479 v481
  let v483 : BitVec 1 := Scalar.cmpi .ne v477 v482
  let v484 : BitVec 32 := Scalar.remsi v471 c256_i32_277
  let c0_i32_282 : BitVec 32 := 0#32
  let v485 : BitVec 1 := Scalar.cmpi .ne v484 c0_i32_282
  let v486 : BitVec 1 := Scalar.andi v483 v485
  let v472 : BitVec 32 := Scalar.divsi v471 c256_i32_277
  let c1_i32_283 : BitVec 32 := 1#32
  let v487 : BitVec 32 := Scalar.subi v472 c1_i32_283
  let v488 : BitVec 32 := Scalar.select v486 v487 v472
  let c1_i32_284 : BitVec 32 := 1#32
  let v489 : BitVec 32 := Scalar.subi v488 c1_i32_284
  let c2_i32_285 : BitVec 32 := 2#32
  let v490 : BitVec 1 := Scalar.cmpi .eq v489 c2_i32_285
  let c256_i32_286 : BitVec 32 := 256#32
  let v491 : BitVec 32 := Scalar.subi v104 c256_i32_286
  let c512_i32_287 : BitVec 32 := 512#32
  let v492 : BitVec 32 := Scalar.select v490 v491 c512_i32_287
  let v493 : BitVec 32 := Scalar.maxsi c0_i32_288 v492
  let v494 : BitVec 32 := Scalar.minsi c1024_i32_289 v493
  let v495 : BitVec 32 := Scalar.addi c0_i32_290 v494
  let v496 : BitVec 32 := Scalar.maxsi c0_i32_291 v495
  let v497 : BitVec 32 := Scalar.minsi c768_i32_292 v496
  v497
def k0_off7 (v10 : BitVec 32) : Fin 2 → Nat :=
  let c768_i32_292 : BitVec 32 := 768#32
  let c0_i32_291 : BitVec 32 := 0#32
  let c0_i32_290 : BitVec 32 := 0#32
  let c1024_i32_289 : BitVec 32 := 1024#32
  let c0_i32_288 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_275 : BitVec 32 := 256#32
  let v470 : BitVec 32 := Scalar.addi v104 c256_i32_275
  let c1_i32_276 : BitVec 32 := 1#32
  let v471 : BitVec 32 := Scalar.subi v470 c1_i32_276
  let c0_i32_278 : BitVec 32 := 0#32
  let v473 : BitVec 1 := Scalar.cmpi .sgt v471 c0_i32_278
  let v474 : BitVec 32 := Scalar.extui v473
  let c0_i32_279 : BitVec 32 := 0#32
  let v475 : BitVec 1 := Scalar.cmpi .slt v471 c0_i32_279
  let v476 : BitVec 32 := Scalar.extui v475
  let v477 : BitVec 32 := Scalar.subi v474 v476
  let c256_i32_277 : BitVec 32 := 256#32
  let c0_i32_280 : BitVec 32 := 0#32
  let v478 : BitVec 1 := Scalar.cmpi .sgt c256_i32_277 c0_i32_280
  let v479 : BitVec 32 := Scalar.extui v478
  let c0_i32_281 : BitVec 32 := 0#32
  let v480 : BitVec 1 := Scalar.cmpi .slt c256_i32_277 c0_i32_281
  let v481 : BitVec 32 := Scalar.extui v480
  let v482 : BitVec 32 := Scalar.subi v479 v481
  let v483 : BitVec 1 := Scalar.cmpi .ne v477 v482
  let v484 : BitVec 32 := Scalar.remsi v471 c256_i32_277
  let c0_i32_282 : BitVec 32 := 0#32
  let v485 : BitVec 1 := Scalar.cmpi .ne v484 c0_i32_282
  let v486 : BitVec 1 := Scalar.andi v483 v485
  let v472 : BitVec 32 := Scalar.divsi v471 c256_i32_277
  let c1_i32_283 : BitVec 32 := 1#32
  let v487 : BitVec 32 := Scalar.subi v472 c1_i32_283
  let v488 : BitVec 32 := Scalar.select v486 v487 v472
  let c1_i32_284 : BitVec 32 := 1#32
  let v489 : BitVec 32 := Scalar.subi v488 c1_i32_284
  let c2_i32_285 : BitVec 32 := 2#32
  let v490 : BitVec 1 := Scalar.cmpi .eq v489 c2_i32_285
  let c256_i32_286 : BitVec 32 := 256#32
  let v491 : BitVec 32 := Scalar.subi v104 c256_i32_286
  let c512_i32_287 : BitVec 32 := 512#32
  let v492 : BitVec 32 := Scalar.select v490 v491 c512_i32_287
  let v493 : BitVec 32 := Scalar.maxsi c0_i32_288 v492
  let v494 : BitVec 32 := Scalar.minsi c1024_i32_289 v493
  let v495 : BitVec 32 := Scalar.addi c0_i32_290 v494
  let v496 : BitVec 32 := Scalar.maxsi c0_i32_291 v495
  let v497 : BitVec 32 := Scalar.minsi c768_i32_292 v496
  let v498 : BitVec 32 := v497
  let v610 : Index := Scalar.indexCast v498
  let c0_369 : Index := 0#32
  ![v610.toNat, 0]
def k0_cond8 (v10 : BitVec 32) : BitVec 1 :=
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_69 : BitVec 32 := 256#32
  let v143 : BitVec 32 := Scalar.addi v104 c256_i32_69
  let c1_i32_70 : BitVec 32 := 1#32
  let v144 : BitVec 32 := Scalar.subi v143 c1_i32_70
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c256_i32_71 : BitVec 32 := 256#32
  let c0_i32_74 : BitVec 32 := 0#32
  let v151 : BitVec 1 := Scalar.cmpi .sgt c256_i32_71 c0_i32_74
  let v152 : BitVec 32 := Scalar.extui v151
  let c0_i32_75 : BitVec 32 := 0#32
  let v153 : BitVec 1 := Scalar.cmpi .slt c256_i32_71 c0_i32_75
  let v154 : BitVec 32 := Scalar.extui v153
  let v155 : BitVec 32 := Scalar.subi v152 v154
  let v156 : BitVec 1 := Scalar.cmpi .ne v150 v155
  let v157 : BitVec 32 := Scalar.remsi v144 c256_i32_71
  let c0_i32_76 : BitVec 32 := 0#32
  let v158 : BitVec 1 := Scalar.cmpi .ne v157 c0_i32_76
  let v159 : BitVec 1 := Scalar.andi v156 v158
  let v145 : BitVec 32 := Scalar.divsi v144 c256_i32_71
  let c1_i32_77 : BitVec 32 := 1#32
  let v160 : BitVec 32 := Scalar.subi v145 c1_i32_77
  let v161 : BitVec 32 := Scalar.select v159 v160 v145
  let c2_i32_293 : BitVec 32 := 2#32
  let v499 : BitVec 1 := Scalar.cmpi .sgt v161 c2_i32_293
  let v500 : BitVec 32 := Scalar.extui v499
  let c0_i32_294 : BitVec 32 := 0#32
  let v501 : BitVec 1 := Scalar.cmpi .ne v500 c0_i32_294
  v501

def k0_mult12 (v10 : BitVec 32) : BitVec 32 :=
  let c768_i32_312 : BitVec 32 := 768#32
  let c0_i32_311 : BitVec 32 := 0#32
  let c0_i32_310 : BitVec 32 := 0#32
  let c1024_i32_309 : BitVec 32 := 1024#32
  let c0_i32_308 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_295 : BitVec 32 := 256#32
  let v502 : BitVec 32 := Scalar.addi v104 c256_i32_295
  let c1_i32_296 : BitVec 32 := 1#32
  let v503 : BitVec 32 := Scalar.subi v502 c1_i32_296
  let c0_i32_298 : BitVec 32 := 0#32
  let v505 : BitVec 1 := Scalar.cmpi .sgt v503 c0_i32_298
  let v506 : BitVec 32 := Scalar.extui v505
  let c0_i32_299 : BitVec 32 := 0#32
  let v507 : BitVec 1 := Scalar.cmpi .slt v503 c0_i32_299
  let v508 : BitVec 32 := Scalar.extui v507
  let v509 : BitVec 32 := Scalar.subi v506 v508
  let c256_i32_297 : BitVec 32 := 256#32
  let c0_i32_300 : BitVec 32 := 0#32
  let v510 : BitVec 1 := Scalar.cmpi .sgt c256_i32_297 c0_i32_300
  let v511 : BitVec 32 := Scalar.extui v510
  let c0_i32_301 : BitVec 32 := 0#32
  let v512 : BitVec 1 := Scalar.cmpi .slt c256_i32_297 c0_i32_301
  let v513 : BitVec 32 := Scalar.extui v512
  let v514 : BitVec 32 := Scalar.subi v511 v513
  let v515 : BitVec 1 := Scalar.cmpi .ne v509 v514
  let v516 : BitVec 32 := Scalar.remsi v503 c256_i32_297
  let c0_i32_302 : BitVec 32 := 0#32
  let v517 : BitVec 1 := Scalar.cmpi .ne v516 c0_i32_302
  let v518 : BitVec 1 := Scalar.andi v515 v517
  let v504 : BitVec 32 := Scalar.divsi v503 c256_i32_297
  let c1_i32_303 : BitVec 32 := 1#32
  let v519 : BitVec 32 := Scalar.subi v504 c1_i32_303
  let v520 : BitVec 32 := Scalar.select v518 v519 v504
  let c1_i32_304 : BitVec 32 := 1#32
  let v521 : BitVec 32 := Scalar.subi v520 c1_i32_304
  let c3_i32_305 : BitVec 32 := 3#32
  let v522 : BitVec 1 := Scalar.cmpi .eq v521 c3_i32_305
  let c256_i32_306 : BitVec 32 := 256#32
  let v523 : BitVec 32 := Scalar.subi v104 c256_i32_306
  let c768_i32_307 : BitVec 32 := 768#32
  let v524 : BitVec 32 := Scalar.select v522 v523 c768_i32_307
  let v525 : BitVec 32 := Scalar.maxsi c0_i32_308 v524
  let v526 : BitVec 32 := Scalar.minsi c1024_i32_309 v525
  let v527 : BitVec 32 := Scalar.addi c0_i32_310 v526
  let v528 : BitVec 32 := Scalar.maxsi c0_i32_311 v527
  let v529 : BitVec 32 := Scalar.minsi c768_i32_312 v528
  v529
def k0_off8 (v10 : BitVec 32) : Fin 2 → Nat :=
  let c768_i32_312 : BitVec 32 := 768#32
  let c0_i32_311 : BitVec 32 := 0#32
  let c0_i32_310 : BitVec 32 := 0#32
  let c1024_i32_309 : BitVec 32 := 1024#32
  let c0_i32_308 : BitVec 32 := 0#32
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_295 : BitVec 32 := 256#32
  let v502 : BitVec 32 := Scalar.addi v104 c256_i32_295
  let c1_i32_296 : BitVec 32 := 1#32
  let v503 : BitVec 32 := Scalar.subi v502 c1_i32_296
  let c0_i32_298 : BitVec 32 := 0#32
  let v505 : BitVec 1 := Scalar.cmpi .sgt v503 c0_i32_298
  let v506 : BitVec 32 := Scalar.extui v505
  let c0_i32_299 : BitVec 32 := 0#32
  let v507 : BitVec 1 := Scalar.cmpi .slt v503 c0_i32_299
  let v508 : BitVec 32 := Scalar.extui v507
  let v509 : BitVec 32 := Scalar.subi v506 v508
  let c256_i32_297 : BitVec 32 := 256#32
  let c0_i32_300 : BitVec 32 := 0#32
  let v510 : BitVec 1 := Scalar.cmpi .sgt c256_i32_297 c0_i32_300
  let v511 : BitVec 32 := Scalar.extui v510
  let c0_i32_301 : BitVec 32 := 0#32
  let v512 : BitVec 1 := Scalar.cmpi .slt c256_i32_297 c0_i32_301
  let v513 : BitVec 32 := Scalar.extui v512
  let v514 : BitVec 32 := Scalar.subi v511 v513
  let v515 : BitVec 1 := Scalar.cmpi .ne v509 v514
  let v516 : BitVec 32 := Scalar.remsi v503 c256_i32_297
  let c0_i32_302 : BitVec 32 := 0#32
  let v517 : BitVec 1 := Scalar.cmpi .ne v516 c0_i32_302
  let v518 : BitVec 1 := Scalar.andi v515 v517
  let v504 : BitVec 32 := Scalar.divsi v503 c256_i32_297
  let c1_i32_303 : BitVec 32 := 1#32
  let v519 : BitVec 32 := Scalar.subi v504 c1_i32_303
  let v520 : BitVec 32 := Scalar.select v518 v519 v504
  let c1_i32_304 : BitVec 32 := 1#32
  let v521 : BitVec 32 := Scalar.subi v520 c1_i32_304
  let c3_i32_305 : BitVec 32 := 3#32
  let v522 : BitVec 1 := Scalar.cmpi .eq v521 c3_i32_305
  let c256_i32_306 : BitVec 32 := 256#32
  let v523 : BitVec 32 := Scalar.subi v104 c256_i32_306
  let c768_i32_307 : BitVec 32 := 768#32
  let v524 : BitVec 32 := Scalar.select v522 v523 c768_i32_307
  let v525 : BitVec 32 := Scalar.maxsi c0_i32_308 v524
  let v526 : BitVec 32 := Scalar.minsi c1024_i32_309 v525
  let v527 : BitVec 32 := Scalar.addi c0_i32_310 v526
  let v528 : BitVec 32 := Scalar.maxsi c0_i32_311 v527
  let v529 : BitVec 32 := Scalar.minsi c768_i32_312 v528
  let v530 : BitVec 32 := v529
  let v610 : Index := Scalar.indexCast v530
  let c0_369 : Index := 0#32
  ![v610.toNat, 0]
def k0_cond9 (v10 : BitVec 32) : BitVec 1 :=
  let c0_i32_45 : BitVec 32 := 0#32
  let v88 : BitVec 1 := Scalar.cmpi .sgt v10 c0_i32_45
  let v89 : BitVec 32 := Scalar.extui v88
  let c0_i32_46 : BitVec 32 := 0#32
  let v90 : BitVec 1 := Scalar.cmpi .slt v10 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v10 c8_i32_44
  let c0_i32_49 : BitVec 32 := 0#32
  let v100 : BitVec 1 := Scalar.cmpi .ne v99 c0_i32_49
  let v101 : BitVec 1 := Scalar.andi v98 v100
  let v87 : BitVec 32 := Scalar.divsi v10 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c256_i32_69 : BitVec 32 := 256#32
  let v143 : BitVec 32 := Scalar.addi v104 c256_i32_69
  let c1_i32_70 : BitVec 32 := 1#32
  let v144 : BitVec 32 := Scalar.subi v143 c1_i32_70
  let c0_i32_72 : BitVec 32 := 0#32
  let v146 : BitVec 1 := Scalar.cmpi .sgt v144 c0_i32_72
  let v147 : BitVec 32 := Scalar.extui v146
  let c0_i32_73 : BitVec 32 := 0#32
  let v148 : BitVec 1 := Scalar.cmpi .slt v144 c0_i32_73
  let v149 : BitVec 32 := Scalar.extui v148
  let v150 : BitVec 32 := Scalar.subi v147 v149
  let c256_i32_71 : BitVec 32 := 256#32
  let c0_i32_74 : BitVec 32 := 0#32
  let v151 : BitVec 1 := Scalar.cmpi .sgt c256_i32_71 c0_i32_74
  let v152 : BitVec 32 := Scalar.extui v151
  let c0_i32_75 : BitVec 32 := 0#32
  let v153 : BitVec 1 := Scalar.cmpi .slt c256_i32_71 c0_i32_75
  let v154 : BitVec 32 := Scalar.extui v153
  let v155 : BitVec 32 := Scalar.subi v152 v154
  let v156 : BitVec 1 := Scalar.cmpi .ne v150 v155
  let v157 : BitVec 32 := Scalar.remsi v144 c256_i32_71
  let c0_i32_76 : BitVec 32 := 0#32
  let v158 : BitVec 1 := Scalar.cmpi .ne v157 c0_i32_76
  let v159 : BitVec 1 := Scalar.andi v156 v158
  let v145 : BitVec 32 := Scalar.divsi v144 c256_i32_71
  let c1_i32_77 : BitVec 32 := 1#32
  let v160 : BitVec 32 := Scalar.subi v145 c1_i32_77
  let v161 : BitVec 32 := Scalar.select v159 v160 v145
  let c3_i32_313 : BitVec 32 := 3#32
  let v531 : BitVec 1 := Scalar.cmpi .sgt v161 c3_i32_313
  let v532 : BitVec 32 := Scalar.extui v531
  let c0_i32_314 : BitVec 32 := 0#32
  let v533 : BitVec 1 := Scalar.cmpi .ne v532 c0_i32_314
  v533

def k0_off9 (v10 : BitVec 32) : Fin 2 → Nat :=
  let c768_i32_111 : BitVec 32 := 768#32
  let c0_i32_110 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_107 : BitVec 32 := 1024#32
  let c0_i32_106 : BitVec 32 := 0#32
  let c1024_i32_43 : BitVec 32 := 1024#32
  let v86 : BitVec 32 := Scalar.subi c1024_i32_43 v85
  let c256_i32_93 : BitVec 32 := 256#32
  let v187 : BitVec 32 := Scalar.addi v86 c256_i32_93
  let c1_i32_94 : BitVec 32 := 1#32
  let v188 : BitVec 32 := Scalar.subi v187 c1_i32_94
  let c0_i32_96 : BitVec 32 := 0#32
  let v190 : BitVec 1 := Scalar.cmpi .sgt v188 c0_i32_96
  let v191 : BitVec 32 := Scalar.extui v190
  let c0_i32_97 : BitVec 32 := 0#32
  let v192 : BitVec 1 := Scalar.cmpi .slt v188 c0_i32_97
  let v193 : BitVec 32 := Scalar.extui v192
  let v194 : BitVec 32 := Scalar.subi v191 v193
  let c256_i32_95 : BitVec 32 := 256#32
  let c0_i32_98 : BitVec 32 := 0#32
  let v195 : BitVec 1 := Scalar.cmpi .sgt c256_i32_95 c0_i32_98
  let v196 : BitVec 32 := Scalar.extui v195
  let c0_i32_99 : BitVec 32 := 0#32
  let v197 : BitVec 1 := Scalar.cmpi .slt c256_i32_95 c0_i32_99
  let v198 : BitVec 32 := Scalar.extui v197
  let v199 : BitVec 32 := Scalar.subi v196 v198
  let v200 : BitVec 1 := Scalar.cmpi .ne v194 v199
  let v201 : BitVec 32 := Scalar.remsi v188 c256_i32_95
  let c0_i32_100 : BitVec 32 := 0#32
  let v202 : BitVec 1 := Scalar.cmpi .ne v201 c0_i32_100
  let v203 : BitVec 1 := Scalar.andi v200 v202
  let v189 : BitVec 32 := Scalar.divsi v188 c256_i32_95
  let c1_i32_101 : BitVec 32 := 1#32
  let v204 : BitVec 32 := Scalar.subi v189 c1_i32_101
  let v205 : BitVec 32 := Scalar.select v203 v204 v189
  let c1_i32_102 : BitVec 32 := 1#32
  let v206 : BitVec 32 := Scalar.subi v205 c1_i32_102
  let c0_i32_103 : BitVec 32 := 0#32
  let v207 : BitVec 1 := Scalar.cmpi .eq v206 c0_i32_103
  let c256_i32_104 : BitVec 32 := 256#32
  let v208 : BitVec 32 := Scalar.subi v86 c256_i32_104
  let c0_i32_105 : BitVec 32 := 0#32
  let v209 : BitVec 32 := Scalar.select v207 v208 c0_i32_105
  let v210 : BitVec 32 := Scalar.maxsi c0_i32_106 v209
  let v211 : BitVec 32 := Scalar.minsi c1024_i32_107 v210
  let v216 : BitVec 32 := Scalar.addi v85 v211
  let v217 : BitVec 32 := Scalar.maxsi c0_i32_110 v216
  let v218 : BitVec 32 := Scalar.minsi c768_i32_111 v217
  let v219 : BitVec 32 := v218
  let c0_i32_371 : BitVec 32 := 0#32
  ![v219.toNat, 0]
def k0_cond10 (v10 : BitVec 32) : BitVec 1 :=
  let c1024_i32_43 : BitVec 32 := 1024#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let v86 : BitVec 32 := Scalar.subi c1024_i32_43 v85
  let c256_i32_60 : BitVec 32 := 256#32
  let v124 : BitVec 32 := Scalar.addi v86 c256_i32_60
  let c1_i32_61 : BitVec 32 := 1#32
  let v125 : BitVec 32 := Scalar.subi v124 c1_i32_61
  let c0_i32_63 : BitVec 32 := 0#32
  let v127 : BitVec 1 := Scalar.cmpi .sgt v125 c0_i32_63
  let v128 : BitVec 32 := Scalar.extui v127
  let c0_i32_64 : BitVec 32 := 0#32
  let v129 : BitVec 1 := Scalar.cmpi .slt v125 c0_i32_64
  let v130 : BitVec 32 := Scalar.extui v129
  let v131 : BitVec 32 := Scalar.subi v128 v130
  let c256_i32_62 : BitVec 32 := 256#32
  let c0_i32_65 : BitVec 32 := 0#32
  let v132 : BitVec 1 := Scalar.cmpi .sgt c256_i32_62 c0_i32_65
  let v133 : BitVec 32 := Scalar.extui v132
  let c0_i32_66 : BitVec 32 := 0#32
  let v134 : BitVec 1 := Scalar.cmpi .slt c256_i32_62 c0_i32_66
  let v135 : BitVec 32 := Scalar.extui v134
  let v136 : BitVec 32 := Scalar.subi v133 v135
  let v137 : BitVec 1 := Scalar.cmpi .ne v131 v136
  let v138 : BitVec 32 := Scalar.remsi v125 c256_i32_62
  let c0_i32_67 : BitVec 32 := 0#32
  let v139 : BitVec 1 := Scalar.cmpi .ne v138 c0_i32_67
  let v140 : BitVec 1 := Scalar.andi v137 v139
  let v126 : BitVec 32 := Scalar.divsi v125 c256_i32_62
  let c1_i32_68 : BitVec 32 := 1#32
  let v141 : BitVec 32 := Scalar.subi v126 c1_i32_68
  let v142 : BitVec 32 := Scalar.select v140 v141 v126
  let c0_i32_315 : BitVec 32 := 0#32
  let v534 : BitVec 1 := Scalar.cmpi .sgt v142 c0_i32_315
  let v535 : BitVec 32 := Scalar.extui v534
  let c0_i32_319 : BitVec 32 := 0#32
  let v536 : BitVec 1 := Scalar.cmpi .ne v535 c0_i32_319
  v536

def k0_off10 (v10 : BitVec 32) : Fin 2 → Nat :=
  let c768_i32_151 : BitVec 32 := 768#32
  let c0_i32_150 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_146 : BitVec 32 := 1024#32
  let c0_i32_145 : BitVec 32 := 0#32
  let c1024_i32_43 : BitVec 32 := 1024#32
  let v86 : BitVec 32 := Scalar.subi c1024_i32_43 v85
  let c256_i32_132 : BitVec 32 := 256#32
  let v248 : BitVec 32 := Scalar.addi v86 c256_i32_132
  let c1_i32_133 : BitVec 32 := 1#32
  let v249 : BitVec 32 := Scalar.subi v248 c1_i32_133
  let c0_i32_135 : BitVec 32 := 0#32
  let v251 : BitVec 1 := Scalar.cmpi .sgt v249 c0_i32_135
  let v252 : BitVec 32 := Scalar.extui v251
  let c0_i32_136 : BitVec 32 := 0#32
  let v253 : BitVec 1 := Scalar.cmpi .slt v249 c0_i32_136
  let v254 : BitVec 32 := Scalar.extui v253
  let v255 : BitVec 32 := Scalar.subi v252 v254
  let c256_i32_134 : BitVec 32 := 256#32
  let c0_i32_137 : BitVec 32 := 0#32
  let v256 : BitVec 1 := Scalar.cmpi .sgt c256_i32_134 c0_i32_137
  let v257 : BitVec 32 := Scalar.extui v256
  let c0_i32_138 : BitVec 32 := 0#32
  let v258 : BitVec 1 := Scalar.cmpi .slt c256_i32_134 c0_i32_138
  let v259 : BitVec 32 := Scalar.extui v258
  let v260 : BitVec 32 := Scalar.subi v257 v259
  let v261 : BitVec 1 := Scalar.cmpi .ne v255 v260
  let v262 : BitVec 32 := Scalar.remsi v249 c256_i32_134
  let c0_i32_139 : BitVec 32 := 0#32
  let v263 : BitVec 1 := Scalar.cmpi .ne v262 c0_i32_139
  let v264 : BitVec 1 := Scalar.andi v261 v263
  let v250 : BitVec 32 := Scalar.divsi v249 c256_i32_134
  let c1_i32_140 : BitVec 32 := 1#32
  let v265 : BitVec 32 := Scalar.subi v250 c1_i32_140
  let v266 : BitVec 32 := Scalar.select v264 v265 v250
  let c1_i32_141 : BitVec 32 := 1#32
  let v267 : BitVec 32 := Scalar.subi v266 c1_i32_141
  let c1_i32_142 : BitVec 32 := 1#32
  let v268 : BitVec 1 := Scalar.cmpi .eq v267 c1_i32_142
  let c256_i32_143 : BitVec 32 := 256#32
  let v269 : BitVec 32 := Scalar.subi v86 c256_i32_143
  let c256_i32_144 : BitVec 32 := 256#32
  let v270 : BitVec 32 := Scalar.select v268 v269 c256_i32_144
  let v271 : BitVec 32 := Scalar.maxsi c0_i32_145 v270
  let v272 : BitVec 32 := Scalar.minsi c1024_i32_146 v271
  let v277 : BitVec 32 := Scalar.addi v85 v272
  let v278 : BitVec 32 := Scalar.maxsi c0_i32_150 v277
  let v279 : BitVec 32 := Scalar.minsi c768_i32_151 v278
  let v280 : BitVec 32 := v279
  let c0_i32_371 : BitVec 32 := 0#32
  ![v280.toNat, 0]
def k0_cond11 (v10 : BitVec 32) : BitVec 1 :=
  let c1024_i32_43 : BitVec 32 := 1024#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let v86 : BitVec 32 := Scalar.subi c1024_i32_43 v85
  let c256_i32_60 : BitVec 32 := 256#32
  let v124 : BitVec 32 := Scalar.addi v86 c256_i32_60
  let c1_i32_61 : BitVec 32 := 1#32
  let v125 : BitVec 32 := Scalar.subi v124 c1_i32_61
  let c0_i32_63 : BitVec 32 := 0#32
  let v127 : BitVec 1 := Scalar.cmpi .sgt v125 c0_i32_63
  let v128 : BitVec 32 := Scalar.extui v127
  let c0_i32_64 : BitVec 32 := 0#32
  let v129 : BitVec 1 := Scalar.cmpi .slt v125 c0_i32_64
  let v130 : BitVec 32 := Scalar.extui v129
  let v131 : BitVec 32 := Scalar.subi v128 v130
  let c256_i32_62 : BitVec 32 := 256#32
  let c0_i32_65 : BitVec 32 := 0#32
  let v132 : BitVec 1 := Scalar.cmpi .sgt c256_i32_62 c0_i32_65
  let v133 : BitVec 32 := Scalar.extui v132
  let c0_i32_66 : BitVec 32 := 0#32
  let v134 : BitVec 1 := Scalar.cmpi .slt c256_i32_62 c0_i32_66
  let v135 : BitVec 32 := Scalar.extui v134
  let v136 : BitVec 32 := Scalar.subi v133 v135
  let v137 : BitVec 1 := Scalar.cmpi .ne v131 v136
  let v138 : BitVec 32 := Scalar.remsi v125 c256_i32_62
  let c0_i32_67 : BitVec 32 := 0#32
  let v139 : BitVec 1 := Scalar.cmpi .ne v138 c0_i32_67
  let v140 : BitVec 1 := Scalar.andi v137 v139
  let v126 : BitVec 32 := Scalar.divsi v125 c256_i32_62
  let c1_i32_68 : BitVec 32 := 1#32
  let v141 : BitVec 32 := Scalar.subi v126 c1_i32_68
  let v142 : BitVec 32 := Scalar.select v140 v141 v126
  let c1_i32_320 : BitVec 32 := 1#32
  let v537 : BitVec 1 := Scalar.cmpi .sgt v142 c1_i32_320
  let v538 : BitVec 32 := Scalar.extui v537
  let c0_i32_324 : BitVec 32 := 0#32
  let v539 : BitVec 1 := Scalar.cmpi .ne v538 c0_i32_324
  v539

def k0_off11 (v10 : BitVec 32) : Fin 2 → Nat :=
  let c768_i32_190 : BitVec 32 := 768#32
  let c0_i32_189 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_185 : BitVec 32 := 1024#32
  let c0_i32_184 : BitVec 32 := 0#32
  let c1024_i32_43 : BitVec 32 := 1024#32
  let v86 : BitVec 32 := Scalar.subi c1024_i32_43 v85
  let c256_i32_171 : BitVec 32 := 256#32
  let v309 : BitVec 32 := Scalar.addi v86 c256_i32_171
  let c1_i32_172 : BitVec 32 := 1#32
  let v310 : BitVec 32 := Scalar.subi v309 c1_i32_172
  let c0_i32_174 : BitVec 32 := 0#32
  let v312 : BitVec 1 := Scalar.cmpi .sgt v310 c0_i32_174
  let v313 : BitVec 32 := Scalar.extui v312
  let c0_i32_175 : BitVec 32 := 0#32
  let v314 : BitVec 1 := Scalar.cmpi .slt v310 c0_i32_175
  let v315 : BitVec 32 := Scalar.extui v314
  let v316 : BitVec 32 := Scalar.subi v313 v315
  let c256_i32_173 : BitVec 32 := 256#32
  let c0_i32_176 : BitVec 32 := 0#32
  let v317 : BitVec 1 := Scalar.cmpi .sgt c256_i32_173 c0_i32_176
  let v318 : BitVec 32 := Scalar.extui v317
  let c0_i32_177 : BitVec 32 := 0#32
  let v319 : BitVec 1 := Scalar.cmpi .slt c256_i32_173 c0_i32_177
  let v320 : BitVec 32 := Scalar.extui v319
  let v321 : BitVec 32 := Scalar.subi v318 v320
  let v322 : BitVec 1 := Scalar.cmpi .ne v316 v321
  let v323 : BitVec 32 := Scalar.remsi v310 c256_i32_173
  let c0_i32_178 : BitVec 32 := 0#32
  let v324 : BitVec 1 := Scalar.cmpi .ne v323 c0_i32_178
  let v325 : BitVec 1 := Scalar.andi v322 v324
  let v311 : BitVec 32 := Scalar.divsi v310 c256_i32_173
  let c1_i32_179 : BitVec 32 := 1#32
  let v326 : BitVec 32 := Scalar.subi v311 c1_i32_179
  let v327 : BitVec 32 := Scalar.select v325 v326 v311
  let c1_i32_180 : BitVec 32 := 1#32
  let v328 : BitVec 32 := Scalar.subi v327 c1_i32_180
  let c2_i32_181 : BitVec 32 := 2#32
  let v329 : BitVec 1 := Scalar.cmpi .eq v328 c2_i32_181
  let c256_i32_182 : BitVec 32 := 256#32
  let v330 : BitVec 32 := Scalar.subi v86 c256_i32_182
  let c512_i32_183 : BitVec 32 := 512#32
  let v331 : BitVec 32 := Scalar.select v329 v330 c512_i32_183
  let v332 : BitVec 32 := Scalar.maxsi c0_i32_184 v331
  let v333 : BitVec 32 := Scalar.minsi c1024_i32_185 v332
  let v338 : BitVec 32 := Scalar.addi v85 v333
  let v339 : BitVec 32 := Scalar.maxsi c0_i32_189 v338
  let v340 : BitVec 32 := Scalar.minsi c768_i32_190 v339
  let v341 : BitVec 32 := v340
  let c0_i32_371 : BitVec 32 := 0#32
  ![v341.toNat, 0]
def k0_cond12 (v10 : BitVec 32) : BitVec 1 :=
  let c1024_i32_43 : BitVec 32 := 1024#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let v86 : BitVec 32 := Scalar.subi c1024_i32_43 v85
  let c256_i32_60 : BitVec 32 := 256#32
  let v124 : BitVec 32 := Scalar.addi v86 c256_i32_60
  let c1_i32_61 : BitVec 32 := 1#32
  let v125 : BitVec 32 := Scalar.subi v124 c1_i32_61
  let c0_i32_63 : BitVec 32 := 0#32
  let v127 : BitVec 1 := Scalar.cmpi .sgt v125 c0_i32_63
  let v128 : BitVec 32 := Scalar.extui v127
  let c0_i32_64 : BitVec 32 := 0#32
  let v129 : BitVec 1 := Scalar.cmpi .slt v125 c0_i32_64
  let v130 : BitVec 32 := Scalar.extui v129
  let v131 : BitVec 32 := Scalar.subi v128 v130
  let c256_i32_62 : BitVec 32 := 256#32
  let c0_i32_65 : BitVec 32 := 0#32
  let v132 : BitVec 1 := Scalar.cmpi .sgt c256_i32_62 c0_i32_65
  let v133 : BitVec 32 := Scalar.extui v132
  let c0_i32_66 : BitVec 32 := 0#32
  let v134 : BitVec 1 := Scalar.cmpi .slt c256_i32_62 c0_i32_66
  let v135 : BitVec 32 := Scalar.extui v134
  let v136 : BitVec 32 := Scalar.subi v133 v135
  let v137 : BitVec 1 := Scalar.cmpi .ne v131 v136
  let v138 : BitVec 32 := Scalar.remsi v125 c256_i32_62
  let c0_i32_67 : BitVec 32 := 0#32
  let v139 : BitVec 1 := Scalar.cmpi .ne v138 c0_i32_67
  let v140 : BitVec 1 := Scalar.andi v137 v139
  let v126 : BitVec 32 := Scalar.divsi v125 c256_i32_62
  let c1_i32_68 : BitVec 32 := 1#32
  let v141 : BitVec 32 := Scalar.subi v126 c1_i32_68
  let v142 : BitVec 32 := Scalar.select v140 v141 v126
  let c2_i32_325 : BitVec 32 := 2#32
  let v540 : BitVec 1 := Scalar.cmpi .sgt v142 c2_i32_325
  let v541 : BitVec 32 := Scalar.extui v540
  let c0_i32_329 : BitVec 32 := 0#32
  let v542 : BitVec 1 := Scalar.cmpi .ne v541 c0_i32_329
  v542

def k0_off12 (v10 : BitVec 32) : Fin 2 → Nat :=
  let c768_i32_229 : BitVec 32 := 768#32
  let c0_i32_228 : BitVec 32 := 0#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c1024_i32_224 : BitVec 32 := 1024#32
  let c0_i32_223 : BitVec 32 := 0#32
  let c1024_i32_43 : BitVec 32 := 1024#32
  let v86 : BitVec 32 := Scalar.subi c1024_i32_43 v85
  let c256_i32_210 : BitVec 32 := 256#32
  let v370 : BitVec 32 := Scalar.addi v86 c256_i32_210
  let c1_i32_211 : BitVec 32 := 1#32
  let v371 : BitVec 32 := Scalar.subi v370 c1_i32_211
  let c0_i32_213 : BitVec 32 := 0#32
  let v373 : BitVec 1 := Scalar.cmpi .sgt v371 c0_i32_213
  let v374 : BitVec 32 := Scalar.extui v373
  let c0_i32_214 : BitVec 32 := 0#32
  let v375 : BitVec 1 := Scalar.cmpi .slt v371 c0_i32_214
  let v376 : BitVec 32 := Scalar.extui v375
  let v377 : BitVec 32 := Scalar.subi v374 v376
  let c256_i32_212 : BitVec 32 := 256#32
  let c0_i32_215 : BitVec 32 := 0#32
  let v378 : BitVec 1 := Scalar.cmpi .sgt c256_i32_212 c0_i32_215
  let v379 : BitVec 32 := Scalar.extui v378
  let c0_i32_216 : BitVec 32 := 0#32
  let v380 : BitVec 1 := Scalar.cmpi .slt c256_i32_212 c0_i32_216
  let v381 : BitVec 32 := Scalar.extui v380
  let v382 : BitVec 32 := Scalar.subi v379 v381
  let v383 : BitVec 1 := Scalar.cmpi .ne v377 v382
  let v384 : BitVec 32 := Scalar.remsi v371 c256_i32_212
  let c0_i32_217 : BitVec 32 := 0#32
  let v385 : BitVec 1 := Scalar.cmpi .ne v384 c0_i32_217
  let v386 : BitVec 1 := Scalar.andi v383 v385
  let v372 : BitVec 32 := Scalar.divsi v371 c256_i32_212
  let c1_i32_218 : BitVec 32 := 1#32
  let v387 : BitVec 32 := Scalar.subi v372 c1_i32_218
  let v388 : BitVec 32 := Scalar.select v386 v387 v372
  let c1_i32_219 : BitVec 32 := 1#32
  let v389 : BitVec 32 := Scalar.subi v388 c1_i32_219
  let c3_i32_220 : BitVec 32 := 3#32
  let v390 : BitVec 1 := Scalar.cmpi .eq v389 c3_i32_220
  let c256_i32_221 : BitVec 32 := 256#32
  let v391 : BitVec 32 := Scalar.subi v86 c256_i32_221
  let c768_i32_222 : BitVec 32 := 768#32
  let v392 : BitVec 32 := Scalar.select v390 v391 c768_i32_222
  let v393 : BitVec 32 := Scalar.maxsi c0_i32_223 v392
  let v394 : BitVec 32 := Scalar.minsi c1024_i32_224 v393
  let v399 : BitVec 32 := Scalar.addi v85 v394
  let v400 : BitVec 32 := Scalar.maxsi c0_i32_228 v399
  let v401 : BitVec 32 := Scalar.minsi c768_i32_229 v400
  let v402 : BitVec 32 := v401
  let c0_i32_371 : BitVec 32 := 0#32
  ![v402.toNat, 0]
def k0_cond13 (v10 : BitVec 32) : BitVec 1 :=
  let c1024_i32_43 : BitVec 32 := 1024#32
  let c0_i32_36 : BitVec 32 := 0#32
  let v69 : BitVec 1 := Scalar.cmpi .sgt v10 c0_i32_36
  let v70 : BitVec 32 := Scalar.extui v69
  let c0_i32_37 : BitVec 32 := 0#32
  let v71 : BitVec 1 := Scalar.cmpi .slt v10 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v10 c8_i32_35
  let c0_i32_40 : BitVec 32 := 0#32
  let v81 : BitVec 1 := Scalar.cmpi .ne v80 c0_i32_40
  let v82 : BitVec 1 := Scalar.andi v79 v81
  let v68 : BitVec 32 := Scalar.divsi v10 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let v86 : BitVec 32 := Scalar.subi c1024_i32_43 v85
  let c256_i32_60 : BitVec 32 := 256#32
  let v124 : BitVec 32 := Scalar.addi v86 c256_i32_60
  let c1_i32_61 : BitVec 32 := 1#32
  let v125 : BitVec 32 := Scalar.subi v124 c1_i32_61
  let c0_i32_63 : BitVec 32 := 0#32
  let v127 : BitVec 1 := Scalar.cmpi .sgt v125 c0_i32_63
  let v128 : BitVec 32 := Scalar.extui v127
  let c0_i32_64 : BitVec 32 := 0#32
  let v129 : BitVec 1 := Scalar.cmpi .slt v125 c0_i32_64
  let v130 : BitVec 32 := Scalar.extui v129
  let v131 : BitVec 32 := Scalar.subi v128 v130
  let c256_i32_62 : BitVec 32 := 256#32
  let c0_i32_65 : BitVec 32 := 0#32
  let v132 : BitVec 1 := Scalar.cmpi .sgt c256_i32_62 c0_i32_65
  let v133 : BitVec 32 := Scalar.extui v132
  let c0_i32_66 : BitVec 32 := 0#32
  let v134 : BitVec 1 := Scalar.cmpi .slt c256_i32_62 c0_i32_66
  let v135 : BitVec 32 := Scalar.extui v134
  let v136 : BitVec 32 := Scalar.subi v133 v135
  let v137 : BitVec 1 := Scalar.cmpi .ne v131 v136
  let v138 : BitVec 32 := Scalar.remsi v125 c256_i32_62
  let c0_i32_67 : BitVec 32 := 0#32
  let v139 : BitVec 1 := Scalar.cmpi .ne v138 c0_i32_67
  let v140 : BitVec 1 := Scalar.andi v137 v139
  let v126 : BitVec 32 := Scalar.divsi v125 c256_i32_62
  let c1_i32_68 : BitVec 32 := 1#32
  let v141 : BitVec 32 := Scalar.subi v126 c1_i32_68
  let v142 : BitVec 32 := Scalar.select v140 v141 v126
  let c3_i32_330 : BitVec 32 := 3#32
  let v543 : BitVec 1 := Scalar.cmpi .sgt v142 c3_i32_330
  let v544 : BitVec 32 := Scalar.extui v543
  let c0_i32_334 : BitVec 32 := 0#32
  let v545 : BitVec 1 := Scalar.cmpi .ne v544 c0_i32_334
  v545

def k0_off13 (v10 : BitVec 32) : Fin 2 → Nat :=
  let c768_i32 : BitVec 32 := 768#32
  let c0_i32_109 : BitVec 32 := 0#32
  let c0_i32_108 : BitVec 32 := 0#32
  let c1024_i32_92 : BitVec 32 := 1024#32
  let c0_i32_91 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_78 : BitVec 32 := 256#32
  let v162 : BitVec 32 := Scalar.addi v67 c256_i32_78
  let c1_i32_79 : BitVec 32 := 1#32
  let v163 : BitVec 32 := Scalar.subi v162 c1_i32_79
  let c0_i32_81 : BitVec 32 := 0#32
  let v165 : BitVec 1 := Scalar.cmpi .sgt v163 c0_i32_81
  let v166 : BitVec 32 := Scalar.extui v165
  let c0_i32_82 : BitVec 32 := 0#32
  let v167 : BitVec 1 := Scalar.cmpi .slt v163 c0_i32_82
  let v168 : BitVec 32 := Scalar.extui v167
  let v169 : BitVec 32 := Scalar.subi v166 v168
  let c256_i32_80 : BitVec 32 := 256#32
  let c0_i32_83 : BitVec 32 := 0#32
  let v170 : BitVec 1 := Scalar.cmpi .sgt c256_i32_80 c0_i32_83
  let v171 : BitVec 32 := Scalar.extui v170
  let c0_i32_84 : BitVec 32 := 0#32
  let v172 : BitVec 1 := Scalar.cmpi .slt c256_i32_80 c0_i32_84
  let v173 : BitVec 32 := Scalar.extui v172
  let v174 : BitVec 32 := Scalar.subi v171 v173
  let v175 : BitVec 1 := Scalar.cmpi .ne v169 v174
  let v176 : BitVec 32 := Scalar.remsi v163 c256_i32_80
  let c0_i32_85 : BitVec 32 := 0#32
  let v177 : BitVec 1 := Scalar.cmpi .ne v176 c0_i32_85
  let v178 : BitVec 1 := Scalar.andi v175 v177
  let v164 : BitVec 32 := Scalar.divsi v163 c256_i32_80
  let c1_i32_86 : BitVec 32 := 1#32
  let v179 : BitVec 32 := Scalar.subi v164 c1_i32_86
  let v180 : BitVec 32 := Scalar.select v178 v179 v164
  let c1_i32_87 : BitVec 32 := 1#32
  let v181 : BitVec 32 := Scalar.subi v180 c1_i32_87
  let c0_i32_88 : BitVec 32 := 0#32
  let v182 : BitVec 1 := Scalar.cmpi .eq v181 c0_i32_88
  let c256_i32_89 : BitVec 32 := 256#32
  let v183 : BitVec 32 := Scalar.subi v67 c256_i32_89
  let c0_i32_90 : BitVec 32 := 0#32
  let v184 : BitVec 32 := Scalar.select v182 v183 c0_i32_90
  let v185 : BitVec 32 := Scalar.maxsi c0_i32_91 v184
  let v186 : BitVec 32 := Scalar.minsi c1024_i32_92 v185
  let v212 : BitVec 32 := Scalar.addi c0_i32_108 v186
  let v213 : BitVec 32 := Scalar.maxsi c0_i32_109 v212
  let v214 : BitVec 32 := Scalar.minsi c768_i32 v213
  let v215 : BitVec 32 := v214
  let c0_i32_370 : BitVec 32 := 0#32
  ![v215.toNat, 0]
def k0_cond14 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c0_i32_335 : BitVec 32 := 0#32
  let v546 : BitVec 1 := Scalar.cmpi .sgt v123 c0_i32_335
  let v547 : BitVec 32 := Scalar.extui v546
  let c0_i32_339 : BitVec 32 := 0#32
  let v548 : BitVec 1 := Scalar.cmpi .ne v547 c0_i32_339
  v548

def k0_off14 (v10 : BitVec 32) : Fin 2 → Nat :=
  let c768_i32_149 : BitVec 32 := 768#32
  let c0_i32_148 : BitVec 32 := 0#32
  let c0_i32_147 : BitVec 32 := 0#32
  let c1024_i32_131 : BitVec 32 := 1024#32
  let c0_i32_130 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_117 : BitVec 32 := 256#32
  let v223 : BitVec 32 := Scalar.addi v67 c256_i32_117
  let c1_i32_118 : BitVec 32 := 1#32
  let v224 : BitVec 32 := Scalar.subi v223 c1_i32_118
  let c0_i32_120 : BitVec 32 := 0#32
  let v226 : BitVec 1 := Scalar.cmpi .sgt v224 c0_i32_120
  let v227 : BitVec 32 := Scalar.extui v226
  let c0_i32_121 : BitVec 32 := 0#32
  let v228 : BitVec 1 := Scalar.cmpi .slt v224 c0_i32_121
  let v229 : BitVec 32 := Scalar.extui v228
  let v230 : BitVec 32 := Scalar.subi v227 v229
  let c256_i32_119 : BitVec 32 := 256#32
  let c0_i32_122 : BitVec 32 := 0#32
  let v231 : BitVec 1 := Scalar.cmpi .sgt c256_i32_119 c0_i32_122
  let v232 : BitVec 32 := Scalar.extui v231
  let c0_i32_123 : BitVec 32 := 0#32
  let v233 : BitVec 1 := Scalar.cmpi .slt c256_i32_119 c0_i32_123
  let v234 : BitVec 32 := Scalar.extui v233
  let v235 : BitVec 32 := Scalar.subi v232 v234
  let v236 : BitVec 1 := Scalar.cmpi .ne v230 v235
  let v237 : BitVec 32 := Scalar.remsi v224 c256_i32_119
  let c0_i32_124 : BitVec 32 := 0#32
  let v238 : BitVec 1 := Scalar.cmpi .ne v237 c0_i32_124
  let v239 : BitVec 1 := Scalar.andi v236 v238
  let v225 : BitVec 32 := Scalar.divsi v224 c256_i32_119
  let c1_i32_125 : BitVec 32 := 1#32
  let v240 : BitVec 32 := Scalar.subi v225 c1_i32_125
  let v241 : BitVec 32 := Scalar.select v239 v240 v225
  let c1_i32_126 : BitVec 32 := 1#32
  let v242 : BitVec 32 := Scalar.subi v241 c1_i32_126
  let c1_i32_127 : BitVec 32 := 1#32
  let v243 : BitVec 1 := Scalar.cmpi .eq v242 c1_i32_127
  let c256_i32_128 : BitVec 32 := 256#32
  let v244 : BitVec 32 := Scalar.subi v67 c256_i32_128
  let c256_i32_129 : BitVec 32 := 256#32
  let v245 : BitVec 32 := Scalar.select v243 v244 c256_i32_129
  let v246 : BitVec 32 := Scalar.maxsi c0_i32_130 v245
  let v247 : BitVec 32 := Scalar.minsi c1024_i32_131 v246
  let v273 : BitVec 32 := Scalar.addi c0_i32_147 v247
  let v274 : BitVec 32 := Scalar.maxsi c0_i32_148 v273
  let v275 : BitVec 32 := Scalar.minsi c768_i32_149 v274
  let v276 : BitVec 32 := v275
  let c0_i32_370 : BitVec 32 := 0#32
  ![v276.toNat, 0]
def k0_cond15 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c1_i32_340 : BitVec 32 := 1#32
  let v549 : BitVec 1 := Scalar.cmpi .sgt v123 c1_i32_340
  let v550 : BitVec 32 := Scalar.extui v549
  let c0_i32_344 : BitVec 32 := 0#32
  let v551 : BitVec 1 := Scalar.cmpi .ne v550 c0_i32_344
  v551

def k0_off15 (v10 : BitVec 32) : Fin 2 → Nat :=
  let c768_i32_188 : BitVec 32 := 768#32
  let c0_i32_187 : BitVec 32 := 0#32
  let c0_i32_186 : BitVec 32 := 0#32
  let c1024_i32_170 : BitVec 32 := 1024#32
  let c0_i32_169 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_157 : BitVec 32 := 256#32
  let v284 : BitVec 32 := Scalar.addi v67 c256_i32_157
  let c1_i32_158 : BitVec 32 := 1#32
  let v285 : BitVec 32 := Scalar.subi v284 c1_i32_158
  let c0_i32_160 : BitVec 32 := 0#32
  let v287 : BitVec 1 := Scalar.cmpi .sgt v285 c0_i32_160
  let v288 : BitVec 32 := Scalar.extui v287
  let c0_i32_161 : BitVec 32 := 0#32
  let v289 : BitVec 1 := Scalar.cmpi .slt v285 c0_i32_161
  let v290 : BitVec 32 := Scalar.extui v289
  let v291 : BitVec 32 := Scalar.subi v288 v290
  let c256_i32_159 : BitVec 32 := 256#32
  let c0_i32_162 : BitVec 32 := 0#32
  let v292 : BitVec 1 := Scalar.cmpi .sgt c256_i32_159 c0_i32_162
  let v293 : BitVec 32 := Scalar.extui v292
  let c0_i32_163 : BitVec 32 := 0#32
  let v294 : BitVec 1 := Scalar.cmpi .slt c256_i32_159 c0_i32_163
  let v295 : BitVec 32 := Scalar.extui v294
  let v296 : BitVec 32 := Scalar.subi v293 v295
  let v297 : BitVec 1 := Scalar.cmpi .ne v291 v296
  let v298 : BitVec 32 := Scalar.remsi v285 c256_i32_159
  let c0_i32_164 : BitVec 32 := 0#32
  let v299 : BitVec 1 := Scalar.cmpi .ne v298 c0_i32_164
  let v300 : BitVec 1 := Scalar.andi v297 v299
  let v286 : BitVec 32 := Scalar.divsi v285 c256_i32_159
  let c1_i32_165 : BitVec 32 := 1#32
  let v301 : BitVec 32 := Scalar.subi v286 c1_i32_165
  let v302 : BitVec 32 := Scalar.select v300 v301 v286
  let c1_i32_166 : BitVec 32 := 1#32
  let v303 : BitVec 32 := Scalar.subi v302 c1_i32_166
  let c2_i32_167 : BitVec 32 := 2#32
  let v304 : BitVec 1 := Scalar.cmpi .eq v303 c2_i32_167
  let c256_i32_168 : BitVec 32 := 256#32
  let v305 : BitVec 32 := Scalar.subi v67 c256_i32_168
  let c512_i32 : BitVec 32 := 512#32
  let v306 : BitVec 32 := Scalar.select v304 v305 c512_i32
  let v307 : BitVec 32 := Scalar.maxsi c0_i32_169 v306
  let v308 : BitVec 32 := Scalar.minsi c1024_i32_170 v307
  let v334 : BitVec 32 := Scalar.addi c0_i32_186 v308
  let v335 : BitVec 32 := Scalar.maxsi c0_i32_187 v334
  let v336 : BitVec 32 := Scalar.minsi c768_i32_188 v335
  let v337 : BitVec 32 := v336
  let c0_i32_370 : BitVec 32 := 0#32
  ![v337.toNat, 0]
def k0_cond16 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c2_i32_345 : BitVec 32 := 2#32
  let v552 : BitVec 1 := Scalar.cmpi .sgt v123 c2_i32_345
  let v553 : BitVec 32 := Scalar.extui v552
  let c0_i32_349 : BitVec 32 := 0#32
  let v554 : BitVec 1 := Scalar.cmpi .ne v553 c0_i32_349
  v554

def k0_off16 (v10 : BitVec 32) : Fin 2 → Nat :=
  let c768_i32_227 : BitVec 32 := 768#32
  let c0_i32_226 : BitVec 32 := 0#32
  let c0_i32_225 : BitVec 32 := 0#32
  let c1024_i32_209 : BitVec 32 := 1024#32
  let c0_i32_208 : BitVec 32 := 0#32
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32_196 : BitVec 32 := 256#32
  let v345 : BitVec 32 := Scalar.addi v67 c256_i32_196
  let c1_i32_197 : BitVec 32 := 1#32
  let v346 : BitVec 32 := Scalar.subi v345 c1_i32_197
  let c0_i32_199 : BitVec 32 := 0#32
  let v348 : BitVec 1 := Scalar.cmpi .sgt v346 c0_i32_199
  let v349 : BitVec 32 := Scalar.extui v348
  let c0_i32_200 : BitVec 32 := 0#32
  let v350 : BitVec 1 := Scalar.cmpi .slt v346 c0_i32_200
  let v351 : BitVec 32 := Scalar.extui v350
  let v352 : BitVec 32 := Scalar.subi v349 v351
  let c256_i32_198 : BitVec 32 := 256#32
  let c0_i32_201 : BitVec 32 := 0#32
  let v353 : BitVec 1 := Scalar.cmpi .sgt c256_i32_198 c0_i32_201
  let v354 : BitVec 32 := Scalar.extui v353
  let c0_i32_202 : BitVec 32 := 0#32
  let v355 : BitVec 1 := Scalar.cmpi .slt c256_i32_198 c0_i32_202
  let v356 : BitVec 32 := Scalar.extui v355
  let v357 : BitVec 32 := Scalar.subi v354 v356
  let v358 : BitVec 1 := Scalar.cmpi .ne v352 v357
  let v359 : BitVec 32 := Scalar.remsi v346 c256_i32_198
  let c0_i32_203 : BitVec 32 := 0#32
  let v360 : BitVec 1 := Scalar.cmpi .ne v359 c0_i32_203
  let v361 : BitVec 1 := Scalar.andi v358 v360
  let v347 : BitVec 32 := Scalar.divsi v346 c256_i32_198
  let c1_i32_204 : BitVec 32 := 1#32
  let v362 : BitVec 32 := Scalar.subi v347 c1_i32_204
  let v363 : BitVec 32 := Scalar.select v361 v362 v347
  let c1_i32_205 : BitVec 32 := 1#32
  let v364 : BitVec 32 := Scalar.subi v363 c1_i32_205
  let c3_i32 : BitVec 32 := 3#32
  let v365 : BitVec 1 := Scalar.cmpi .eq v364 c3_i32
  let c256_i32_206 : BitVec 32 := 256#32
  let v366 : BitVec 32 := Scalar.subi v67 c256_i32_206
  let c768_i32_207 : BitVec 32 := 768#32
  let v367 : BitVec 32 := Scalar.select v365 v366 c768_i32_207
  let v368 : BitVec 32 := Scalar.maxsi c0_i32_208 v367
  let v369 : BitVec 32 := Scalar.minsi c1024_i32_209 v368
  let v395 : BitVec 32 := Scalar.addi c0_i32_225 v369
  let v396 : BitVec 32 := Scalar.maxsi c0_i32_226 v395
  let v397 : BitVec 32 := Scalar.minsi c768_i32_227 v396
  let v398 : BitVec 32 := v397
  let c0_i32_370 : BitVec 32 := 0#32
  ![v398.toNat, 0]
def k0_cond17 (v10 : BitVec 32) : BitVec 1 :=
  let c1024_i32 : BitVec 32 := 1024#32
  let v48 : BitVec 32 := Scalar.subi c1024_i32 v10
  let c7_i32_26 : BitVec 32 := 7#32
  let v49 : BitVec 32 := Scalar.addi v48 c7_i32_26
  let c0_i32_28 : BitVec 32 := 0#32
  let v51 : BitVec 1 := Scalar.cmpi .sgt v49 c0_i32_28
  let v52 : BitVec 32 := Scalar.extui v51
  let c0_i32_29 : BitVec 32 := 0#32
  let v53 : BitVec 1 := Scalar.cmpi .slt v49 c0_i32_29
  let v54 : BitVec 32 := Scalar.extui v53
  let v55 : BitVec 32 := Scalar.subi v52 v54
  let c8_i32_27 : BitVec 32 := 8#32
  let c0_i32_30 : BitVec 32 := 0#32
  let v56 : BitVec 1 := Scalar.cmpi .sgt c8_i32_27 c0_i32_30
  let v57 : BitVec 32 := Scalar.extui v56
  let c0_i32_31 : BitVec 32 := 0#32
  let v58 : BitVec 1 := Scalar.cmpi .slt c8_i32_27 c0_i32_31
  let v59 : BitVec 32 := Scalar.extui v58
  let v60 : BitVec 32 := Scalar.subi v57 v59
  let v61 : BitVec 1 := Scalar.cmpi .ne v55 v60
  let v62 : BitVec 32 := Scalar.remsi v49 c8_i32_27
  let c0_i32_32 : BitVec 32 := 0#32
  let v63 : BitVec 1 := Scalar.cmpi .ne v62 c0_i32_32
  let v64 : BitVec 1 := Scalar.andi v61 v63
  let v50 : BitVec 32 := Scalar.divsi v49 c8_i32_27
  let c1_i32_33 : BitVec 32 := 1#32
  let v65 : BitVec 32 := Scalar.subi v50 c1_i32_33
  let v66 : BitVec 32 := Scalar.select v64 v65 v50
  let c8_i32_34 : BitVec 32 := 8#32
  let v67 : BitVec 32 := Scalar.muli v66 c8_i32_34
  let c256_i32 : BitVec 32 := 256#32
  let v105 : BitVec 32 := Scalar.addi v67 c256_i32
  let c1_i32_52 : BitVec 32 := 1#32
  let v106 : BitVec 32 := Scalar.subi v105 c1_i32_52
  let c0_i32_54 : BitVec 32 := 0#32
  let v108 : BitVec 1 := Scalar.cmpi .sgt v106 c0_i32_54
  let v109 : BitVec 32 := Scalar.extui v108
  let c0_i32_55 : BitVec 32 := 0#32
  let v110 : BitVec 1 := Scalar.cmpi .slt v106 c0_i32_55
  let v111 : BitVec 32 := Scalar.extui v110
  let v112 : BitVec 32 := Scalar.subi v109 v111
  let c256_i32_53 : BitVec 32 := 256#32
  let c0_i32_56 : BitVec 32 := 0#32
  let v113 : BitVec 1 := Scalar.cmpi .sgt c256_i32_53 c0_i32_56
  let v114 : BitVec 32 := Scalar.extui v113
  let c0_i32_57 : BitVec 32 := 0#32
  let v115 : BitVec 1 := Scalar.cmpi .slt c256_i32_53 c0_i32_57
  let v116 : BitVec 32 := Scalar.extui v115
  let v117 : BitVec 32 := Scalar.subi v114 v116
  let v118 : BitVec 1 := Scalar.cmpi .ne v112 v117
  let v119 : BitVec 32 := Scalar.remsi v106 c256_i32_53
  let c0_i32_58 : BitVec 32 := 0#32
  let v120 : BitVec 1 := Scalar.cmpi .ne v119 c0_i32_58
  let v121 : BitVec 1 := Scalar.andi v118 v120
  let v107 : BitVec 32 := Scalar.divsi v106 c256_i32_53
  let c1_i32_59 : BitVec 32 := 1#32
  let v122 : BitVec 32 := Scalar.subi v107 c1_i32_59
  let v123 : BitVec 32 := Scalar.select v121 v122 v107
  let c3_i32_350 : BitVec 32 := 3#32
  let v555 : BitVec 1 := Scalar.cmpi .sgt v123 c3_i32_350
  let v556 : BitVec 32 := Scalar.extui v555
  let c0_i32_354 : BitVec 32 := 0#32
  let v557 : BitVec 1 := Scalar.cmpi .ne v556 c0_i32_354
  v557

def k0_mult13 (v10 : BitVec 32) : BitVec 32 :=
  let c1016_i32 : BitVec 32 := 1016#32
  let c0_i32_363 : BitVec 32 := 0#32
  let c0_i32_356 : BitVec 32 := 0#32
  let v559 : BitVec 1 := Scalar.cmpi .sgt v10 c0_i32_356
  let v560 : BitVec 32 := Scalar.extui v559
  let c0_i32_357 : BitVec 32 := 0#32
  let v561 : BitVec 1 := Scalar.cmpi .slt v10 c0_i32_357
  let v562 : BitVec 32 := Scalar.extui v561
  let v563 : BitVec 32 := Scalar.subi v560 v562
  let c8_i32_355 : BitVec 32 := 8#32
  let c0_i32_358 : BitVec 32 := 0#32
  let v564 : BitVec 1 := Scalar.cmpi .sgt c8_i32_355 c0_i32_358
  let v565 : BitVec 32 := Scalar.extui v564
  let c0_i32_359 : BitVec 32 := 0#32
  let v566 : BitVec 1 := Scalar.cmpi .slt c8_i32_355 c0_i32_359
  let v567 : BitVec 32 := Scalar.extui v566
  let v568 : BitVec 32 := Scalar.subi v565 v567
  let v569 : BitVec 1 := Scalar.cmpi .ne v563 v568
  let v570 : BitVec 32 := Scalar.remsi v10 c8_i32_355
  let c0_i32_360 : BitVec 32 := 0#32
  let v571 : BitVec 1 := Scalar.cmpi .ne v570 c0_i32_360
  let v572 : BitVec 1 := Scalar.andi v569 v571
  let v558 : BitVec 32 := Scalar.divsi v10 c8_i32_355
  let c1_i32_361 : BitVec 32 := 1#32
  let v573 : BitVec 32 := Scalar.subi v558 c1_i32_361
  let v574 : BitVec 32 := Scalar.select v572 v573 v558
  let c8_i32_362 : BitVec 32 := 8#32
  let v575 : BitVec 32 := Scalar.muli v574 c8_i32_362
  let v576 : BitVec 32 := Scalar.maxsi c0_i32_363 v575
  let v577 : BitVec 32 := Scalar.minsi c1016_i32 v576
  v577
def k0_off17 (v10 : BitVec 32) : Fin 2 → Nat :=
  let c1016_i32 : BitVec 32 := 1016#32
  let c0_i32_363 : BitVec 32 := 0#32
  let c0_i32_356 : BitVec 32 := 0#32
  let v559 : BitVec 1 := Scalar.cmpi .sgt v10 c0_i32_356
  let v560 : BitVec 32 := Scalar.extui v559
  let c0_i32_357 : BitVec 32 := 0#32
  let v561 : BitVec 1 := Scalar.cmpi .slt v10 c0_i32_357
  let v562 : BitVec 32 := Scalar.extui v561
  let v563 : BitVec 32 := Scalar.subi v560 v562
  let c8_i32_355 : BitVec 32 := 8#32
  let c0_i32_358 : BitVec 32 := 0#32
  let v564 : BitVec 1 := Scalar.cmpi .sgt c8_i32_355 c0_i32_358
  let v565 : BitVec 32 := Scalar.extui v564
  let c0_i32_359 : BitVec 32 := 0#32
  let v566 : BitVec 1 := Scalar.cmpi .slt c8_i32_355 c0_i32_359
  let v567 : BitVec 32 := Scalar.extui v566
  let v568 : BitVec 32 := Scalar.subi v565 v567
  let v569 : BitVec 1 := Scalar.cmpi .ne v563 v568
  let v570 : BitVec 32 := Scalar.remsi v10 c8_i32_355
  let c0_i32_360 : BitVec 32 := 0#32
  let v571 : BitVec 1 := Scalar.cmpi .ne v570 c0_i32_360
  let v572 : BitVec 1 := Scalar.andi v569 v571
  let v558 : BitVec 32 := Scalar.divsi v10 c8_i32_355
  let c1_i32_361 : BitVec 32 := 1#32
  let v573 : BitVec 32 := Scalar.subi v558 c1_i32_361
  let v574 : BitVec 32 := Scalar.select v572 v573 v558
  let c8_i32_362 : BitVec 32 := 8#32
  let v575 : BitVec 32 := Scalar.muli v574 c8_i32_362
  let v576 : BitVec 32 := Scalar.maxsi c0_i32_363 v575
  let v577 : BitVec 32 := Scalar.minsi c1016_i32 v576
  let v578 : BitVec 32 := v577
  let v579 : Index := Scalar.indexCast v578
  let c0_364 : Index := 0#32
  ![v579.toNat, 0]
def k0_cond18 (d0 : Dev nD) : BitVec 1 :=
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c1_i32_15 : BitVec 32 := 1#32
  let v25 : BitVec 1 := Scalar.cmpi .eq v2 c1_i32_15
  let v26 : BitVec 32 := Scalar.extui v25
  let c0_i32_16 : BitVec 32 := 0#32
  let v27 : BitVec 1 := Scalar.cmpi .ne v26 c0_i32_16
  v27

def k0_mult14 (v10 : BitVec 32) : BitVec 32 :=
  let c768_i32 : BitVec 32 := 768#32
  let c0_i32_109 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_93 : BitVec 32 := 1024#32
  let c0_i32_92 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_79 : BitVec 32 := 256#32
  let v163 : BitVec 32 := Scalar.addi v47 c256_i32_79
  let c1_i32_80 : BitVec 32 := 1#32
  let v164 : BitVec 32 := Scalar.subi v163 c1_i32_80
  let c0_i32_82 : BitVec 32 := 0#32
  let v166 : BitVec 1 := Scalar.cmpi .sgt v164 c0_i32_82
  let v167 : BitVec 32 := Scalar.extui v166
  let c0_i32_83 : BitVec 32 := 0#32
  let v168 : BitVec 1 := Scalar.cmpi .slt v164 c0_i32_83
  let v169 : BitVec 32 := Scalar.extui v168
  let v170 : BitVec 32 := Scalar.subi v167 v169
  let c256_i32_81 : BitVec 32 := 256#32
  let c0_i32_84 : BitVec 32 := 0#32
  let v171 : BitVec 1 := Scalar.cmpi .sgt c256_i32_81 c0_i32_84
  let v172 : BitVec 32 := Scalar.extui v171
  let c0_i32_85 : BitVec 32 := 0#32
  let v173 : BitVec 1 := Scalar.cmpi .slt c256_i32_81 c0_i32_85
  let v174 : BitVec 32 := Scalar.extui v173
  let v175 : BitVec 32 := Scalar.subi v172 v174
  let v176 : BitVec 1 := Scalar.cmpi .ne v170 v175
  let v177 : BitVec 32 := Scalar.remsi v164 c256_i32_81
  let c0_i32_86 : BitVec 32 := 0#32
  let v178 : BitVec 1 := Scalar.cmpi .ne v177 c0_i32_86
  let v179 : BitVec 1 := Scalar.andi v176 v178
  let v165 : BitVec 32 := Scalar.divsi v164 c256_i32_81
  let c1_i32_87 : BitVec 32 := 1#32
  let v180 : BitVec 32 := Scalar.subi v165 c1_i32_87
  let v181 : BitVec 32 := Scalar.select v179 v180 v165
  let c1_i32_88 : BitVec 32 := 1#32
  let v182 : BitVec 32 := Scalar.subi v181 c1_i32_88
  let c0_i32_89 : BitVec 32 := 0#32
  let v183 : BitVec 1 := Scalar.cmpi .eq v182 c0_i32_89
  let c256_i32_90 : BitVec 32 := 256#32
  let v184 : BitVec 32 := Scalar.subi v47 c256_i32_90
  let c0_i32_91 : BitVec 32 := 0#32
  let v185 : BitVec 32 := Scalar.select v183 v184 c0_i32_91
  let v186 : BitVec 32 := Scalar.maxsi c0_i32_92 v185
  let v187 : BitVec 32 := Scalar.minsi c1024_i32_93 v186
  let v213 : BitVec 32 := Scalar.addi v66 v187
  let v214 : BitVec 32 := Scalar.maxsi c0_i32_109 v213
  let v215 : BitVec 32 := Scalar.minsi c768_i32 v214
  v215
def k0_mult15 (v10 : BitVec 32) : BitVec 32 :=
  let c768_i32_112 : BitVec 32 := 768#32
  let c0_i32_111 : BitVec 32 := 0#32
  let c0_i32_110 : BitVec 32 := 0#32
  let c1024_i32_108 : BitVec 32 := 1024#32
  let c0_i32_107 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_94 : BitVec 32 := 256#32
  let v188 : BitVec 32 := Scalar.addi v85 c256_i32_94
  let c1_i32_95 : BitVec 32 := 1#32
  let v189 : BitVec 32 := Scalar.subi v188 c1_i32_95
  let c0_i32_97 : BitVec 32 := 0#32
  let v191 : BitVec 1 := Scalar.cmpi .sgt v189 c0_i32_97
  let v192 : BitVec 32 := Scalar.extui v191
  let c0_i32_98 : BitVec 32 := 0#32
  let v193 : BitVec 1 := Scalar.cmpi .slt v189 c0_i32_98
  let v194 : BitVec 32 := Scalar.extui v193
  let v195 : BitVec 32 := Scalar.subi v192 v194
  let c256_i32_96 : BitVec 32 := 256#32
  let c0_i32_99 : BitVec 32 := 0#32
  let v196 : BitVec 1 := Scalar.cmpi .sgt c256_i32_96 c0_i32_99
  let v197 : BitVec 32 := Scalar.extui v196
  let c0_i32_100 : BitVec 32 := 0#32
  let v198 : BitVec 1 := Scalar.cmpi .slt c256_i32_96 c0_i32_100
  let v199 : BitVec 32 := Scalar.extui v198
  let v200 : BitVec 32 := Scalar.subi v197 v199
  let v201 : BitVec 1 := Scalar.cmpi .ne v195 v200
  let v202 : BitVec 32 := Scalar.remsi v189 c256_i32_96
  let c0_i32_101 : BitVec 32 := 0#32
  let v203 : BitVec 1 := Scalar.cmpi .ne v202 c0_i32_101
  let v204 : BitVec 1 := Scalar.andi v201 v203
  let v190 : BitVec 32 := Scalar.divsi v189 c256_i32_96
  let c1_i32_102 : BitVec 32 := 1#32
  let v205 : BitVec 32 := Scalar.subi v190 c1_i32_102
  let v206 : BitVec 32 := Scalar.select v204 v205 v190
  let c1_i32_103 : BitVec 32 := 1#32
  let v207 : BitVec 32 := Scalar.subi v206 c1_i32_103
  let c0_i32_104 : BitVec 32 := 0#32
  let v208 : BitVec 1 := Scalar.cmpi .eq v207 c0_i32_104
  let c256_i32_105 : BitVec 32 := 256#32
  let v209 : BitVec 32 := Scalar.subi v85 c256_i32_105
  let c0_i32_106 : BitVec 32 := 0#32
  let v210 : BitVec 32 := Scalar.select v208 v209 c0_i32_106
  let v211 : BitVec 32 := Scalar.maxsi c0_i32_107 v210
  let v212 : BitVec 32 := Scalar.minsi c1024_i32_108 v211
  let v217 : BitVec 32 := Scalar.addi c0_i32_110 v212
  let v218 : BitVec 32 := Scalar.maxsi c0_i32_111 v217
  let v219 : BitVec 32 := Scalar.minsi c768_i32_112 v218
  v219
def k0_off18 (v10 : BitVec 32) : Fin 2 → Nat :=
  let c768_i32 : BitVec 32 := 768#32
  let c0_i32_109 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_93 : BitVec 32 := 1024#32
  let c0_i32_92 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_79 : BitVec 32 := 256#32
  let v163 : BitVec 32 := Scalar.addi v47 c256_i32_79
  let c1_i32_80 : BitVec 32 := 1#32
  let v164 : BitVec 32 := Scalar.subi v163 c1_i32_80
  let c0_i32_82 : BitVec 32 := 0#32
  let v166 : BitVec 1 := Scalar.cmpi .sgt v164 c0_i32_82
  let v167 : BitVec 32 := Scalar.extui v166
  let c0_i32_83 : BitVec 32 := 0#32
  let v168 : BitVec 1 := Scalar.cmpi .slt v164 c0_i32_83
  let v169 : BitVec 32 := Scalar.extui v168
  let v170 : BitVec 32 := Scalar.subi v167 v169
  let c256_i32_81 : BitVec 32 := 256#32
  let c0_i32_84 : BitVec 32 := 0#32
  let v171 : BitVec 1 := Scalar.cmpi .sgt c256_i32_81 c0_i32_84
  let v172 : BitVec 32 := Scalar.extui v171
  let c0_i32_85 : BitVec 32 := 0#32
  let v173 : BitVec 1 := Scalar.cmpi .slt c256_i32_81 c0_i32_85
  let v174 : BitVec 32 := Scalar.extui v173
  let v175 : BitVec 32 := Scalar.subi v172 v174
  let v176 : BitVec 1 := Scalar.cmpi .ne v170 v175
  let v177 : BitVec 32 := Scalar.remsi v164 c256_i32_81
  let c0_i32_86 : BitVec 32 := 0#32
  let v178 : BitVec 1 := Scalar.cmpi .ne v177 c0_i32_86
  let v179 : BitVec 1 := Scalar.andi v176 v178
  let v165 : BitVec 32 := Scalar.divsi v164 c256_i32_81
  let c1_i32_87 : BitVec 32 := 1#32
  let v180 : BitVec 32 := Scalar.subi v165 c1_i32_87
  let v181 : BitVec 32 := Scalar.select v179 v180 v165
  let c1_i32_88 : BitVec 32 := 1#32
  let v182 : BitVec 32 := Scalar.subi v181 c1_i32_88
  let c0_i32_89 : BitVec 32 := 0#32
  let v183 : BitVec 1 := Scalar.cmpi .eq v182 c0_i32_89
  let c256_i32_90 : BitVec 32 := 256#32
  let v184 : BitVec 32 := Scalar.subi v47 c256_i32_90
  let c0_i32_91 : BitVec 32 := 0#32
  let v185 : BitVec 32 := Scalar.select v183 v184 c0_i32_91
  let v186 : BitVec 32 := Scalar.maxsi c0_i32_92 v185
  let v187 : BitVec 32 := Scalar.minsi c1024_i32_93 v186
  let v213 : BitVec 32 := Scalar.addi v66 v187
  let v214 : BitVec 32 := Scalar.maxsi c0_i32_109 v213
  let v215 : BitVec 32 := Scalar.minsi c768_i32 v214
  let v216 : BitVec 32 := v215
  let c0_i32_376 : BitVec 32 := 0#32
  ![v216.toNat, 0]
def k0_cond19 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c0_i32_113 : BitVec 32 := 0#32
  let v221 : BitVec 1 := Scalar.cmpi .sgt v124 c0_i32_113
  let v222 : BitVec 32 := Scalar.extui v221
  let c0_i32_118 : BitVec 32 := 0#32
  let v223 : BitVec 1 := Scalar.cmpi .ne v222 c0_i32_118
  v223

def k0_dev6 (d0 : Dev nD) : Nat :=
  let c0_i32_373 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_372 : BitVec 32 := 8#32
  let v614 : BitVec 32 := Scalar.muli v9 c8_i32_372
  let v615 : BitVec 32 := Scalar.addi c0_i32_373 v614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_374 : BitVec 32 := 4#32
  let v616 : BitVec 32 := Scalar.muli v5 c4_i32_374
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_375 : BitVec 32 := 1#32
  let v618 : BitVec 32 := Scalar.muli v8 c1_i32_375
  let v619 : BitVec 32 := Scalar.addi v617 v618
  v619.toNat
def k0_mult16 (v10 : BitVec 32) : BitVec 32 :=
  let c768_i32_150 : BitVec 32 := 768#32
  let c0_i32_149 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_133 : BitVec 32 := 1024#32
  let c0_i32_132 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_119 : BitVec 32 := 256#32
  let v224 : BitVec 32 := Scalar.addi v47 c256_i32_119
  let c1_i32_120 : BitVec 32 := 1#32
  let v225 : BitVec 32 := Scalar.subi v224 c1_i32_120
  let c0_i32_122 : BitVec 32 := 0#32
  let v227 : BitVec 1 := Scalar.cmpi .sgt v225 c0_i32_122
  let v228 : BitVec 32 := Scalar.extui v227
  let c0_i32_123 : BitVec 32 := 0#32
  let v229 : BitVec 1 := Scalar.cmpi .slt v225 c0_i32_123
  let v230 : BitVec 32 := Scalar.extui v229
  let v231 : BitVec 32 := Scalar.subi v228 v230
  let c256_i32_121 : BitVec 32 := 256#32
  let c0_i32_124 : BitVec 32 := 0#32
  let v232 : BitVec 1 := Scalar.cmpi .sgt c256_i32_121 c0_i32_124
  let v233 : BitVec 32 := Scalar.extui v232
  let c0_i32_125 : BitVec 32 := 0#32
  let v234 : BitVec 1 := Scalar.cmpi .slt c256_i32_121 c0_i32_125
  let v235 : BitVec 32 := Scalar.extui v234
  let v236 : BitVec 32 := Scalar.subi v233 v235
  let v237 : BitVec 1 := Scalar.cmpi .ne v231 v236
  let v238 : BitVec 32 := Scalar.remsi v225 c256_i32_121
  let c0_i32_126 : BitVec 32 := 0#32
  let v239 : BitVec 1 := Scalar.cmpi .ne v238 c0_i32_126
  let v240 : BitVec 1 := Scalar.andi v237 v239
  let v226 : BitVec 32 := Scalar.divsi v225 c256_i32_121
  let c1_i32_127 : BitVec 32 := 1#32
  let v241 : BitVec 32 := Scalar.subi v226 c1_i32_127
  let v242 : BitVec 32 := Scalar.select v240 v241 v226
  let c1_i32_128 : BitVec 32 := 1#32
  let v243 : BitVec 32 := Scalar.subi v242 c1_i32_128
  let c1_i32_129 : BitVec 32 := 1#32
  let v244 : BitVec 1 := Scalar.cmpi .eq v243 c1_i32_129
  let c256_i32_130 : BitVec 32 := 256#32
  let v245 : BitVec 32 := Scalar.subi v47 c256_i32_130
  let c256_i32_131 : BitVec 32 := 256#32
  let v246 : BitVec 32 := Scalar.select v244 v245 c256_i32_131
  let v247 : BitVec 32 := Scalar.maxsi c0_i32_132 v246
  let v248 : BitVec 32 := Scalar.minsi c1024_i32_133 v247
  let v274 : BitVec 32 := Scalar.addi v66 v248
  let v275 : BitVec 32 := Scalar.maxsi c0_i32_149 v274
  let v276 : BitVec 32 := Scalar.minsi c768_i32_150 v275
  v276
def k0_mult17 (v10 : BitVec 32) : BitVec 32 :=
  let c768_i32_153 : BitVec 32 := 768#32
  let c0_i32_152 : BitVec 32 := 0#32
  let c0_i32_151 : BitVec 32 := 0#32
  let c1024_i32_148 : BitVec 32 := 1024#32
  let c0_i32_147 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_134 : BitVec 32 := 256#32
  let v249 : BitVec 32 := Scalar.addi v85 c256_i32_134
  let c1_i32_135 : BitVec 32 := 1#32
  let v250 : BitVec 32 := Scalar.subi v249 c1_i32_135
  let c0_i32_137 : BitVec 32 := 0#32
  let v252 : BitVec 1 := Scalar.cmpi .sgt v250 c0_i32_137
  let v253 : BitVec 32 := Scalar.extui v252
  let c0_i32_138 : BitVec 32 := 0#32
  let v254 : BitVec 1 := Scalar.cmpi .slt v250 c0_i32_138
  let v255 : BitVec 32 := Scalar.extui v254
  let v256 : BitVec 32 := Scalar.subi v253 v255
  let c256_i32_136 : BitVec 32 := 256#32
  let c0_i32_139 : BitVec 32 := 0#32
  let v257 : BitVec 1 := Scalar.cmpi .sgt c256_i32_136 c0_i32_139
  let v258 : BitVec 32 := Scalar.extui v257
  let c0_i32_140 : BitVec 32 := 0#32
  let v259 : BitVec 1 := Scalar.cmpi .slt c256_i32_136 c0_i32_140
  let v260 : BitVec 32 := Scalar.extui v259
  let v261 : BitVec 32 := Scalar.subi v258 v260
  let v262 : BitVec 1 := Scalar.cmpi .ne v256 v261
  let v263 : BitVec 32 := Scalar.remsi v250 c256_i32_136
  let c0_i32_141 : BitVec 32 := 0#32
  let v264 : BitVec 1 := Scalar.cmpi .ne v263 c0_i32_141
  let v265 : BitVec 1 := Scalar.andi v262 v264
  let v251 : BitVec 32 := Scalar.divsi v250 c256_i32_136
  let c1_i32_142 : BitVec 32 := 1#32
  let v266 : BitVec 32 := Scalar.subi v251 c1_i32_142
  let v267 : BitVec 32 := Scalar.select v265 v266 v251
  let c1_i32_143 : BitVec 32 := 1#32
  let v268 : BitVec 32 := Scalar.subi v267 c1_i32_143
  let c1_i32_144 : BitVec 32 := 1#32
  let v269 : BitVec 1 := Scalar.cmpi .eq v268 c1_i32_144
  let c256_i32_145 : BitVec 32 := 256#32
  let v270 : BitVec 32 := Scalar.subi v85 c256_i32_145
  let c256_i32_146 : BitVec 32 := 256#32
  let v271 : BitVec 32 := Scalar.select v269 v270 c256_i32_146
  let v272 : BitVec 32 := Scalar.maxsi c0_i32_147 v271
  let v273 : BitVec 32 := Scalar.minsi c1024_i32_148 v272
  let v278 : BitVec 32 := Scalar.addi c0_i32_151 v273
  let v279 : BitVec 32 := Scalar.maxsi c0_i32_152 v278
  let v280 : BitVec 32 := Scalar.minsi c768_i32_153 v279
  v280
def k0_off19 (v10 : BitVec 32) : Fin 2 → Nat :=
  let c768_i32_150 : BitVec 32 := 768#32
  let c0_i32_149 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_133 : BitVec 32 := 1024#32
  let c0_i32_132 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_119 : BitVec 32 := 256#32
  let v224 : BitVec 32 := Scalar.addi v47 c256_i32_119
  let c1_i32_120 : BitVec 32 := 1#32
  let v225 : BitVec 32 := Scalar.subi v224 c1_i32_120
  let c0_i32_122 : BitVec 32 := 0#32
  let v227 : BitVec 1 := Scalar.cmpi .sgt v225 c0_i32_122
  let v228 : BitVec 32 := Scalar.extui v227
  let c0_i32_123 : BitVec 32 := 0#32
  let v229 : BitVec 1 := Scalar.cmpi .slt v225 c0_i32_123
  let v230 : BitVec 32 := Scalar.extui v229
  let v231 : BitVec 32 := Scalar.subi v228 v230
  let c256_i32_121 : BitVec 32 := 256#32
  let c0_i32_124 : BitVec 32 := 0#32
  let v232 : BitVec 1 := Scalar.cmpi .sgt c256_i32_121 c0_i32_124
  let v233 : BitVec 32 := Scalar.extui v232
  let c0_i32_125 : BitVec 32 := 0#32
  let v234 : BitVec 1 := Scalar.cmpi .slt c256_i32_121 c0_i32_125
  let v235 : BitVec 32 := Scalar.extui v234
  let v236 : BitVec 32 := Scalar.subi v233 v235
  let v237 : BitVec 1 := Scalar.cmpi .ne v231 v236
  let v238 : BitVec 32 := Scalar.remsi v225 c256_i32_121
  let c0_i32_126 : BitVec 32 := 0#32
  let v239 : BitVec 1 := Scalar.cmpi .ne v238 c0_i32_126
  let v240 : BitVec 1 := Scalar.andi v237 v239
  let v226 : BitVec 32 := Scalar.divsi v225 c256_i32_121
  let c1_i32_127 : BitVec 32 := 1#32
  let v241 : BitVec 32 := Scalar.subi v226 c1_i32_127
  let v242 : BitVec 32 := Scalar.select v240 v241 v226
  let c1_i32_128 : BitVec 32 := 1#32
  let v243 : BitVec 32 := Scalar.subi v242 c1_i32_128
  let c1_i32_129 : BitVec 32 := 1#32
  let v244 : BitVec 1 := Scalar.cmpi .eq v243 c1_i32_129
  let c256_i32_130 : BitVec 32 := 256#32
  let v245 : BitVec 32 := Scalar.subi v47 c256_i32_130
  let c256_i32_131 : BitVec 32 := 256#32
  let v246 : BitVec 32 := Scalar.select v244 v245 c256_i32_131
  let v247 : BitVec 32 := Scalar.maxsi c0_i32_132 v246
  let v248 : BitVec 32 := Scalar.minsi c1024_i32_133 v247
  let v274 : BitVec 32 := Scalar.addi v66 v248
  let v275 : BitVec 32 := Scalar.maxsi c0_i32_149 v274
  let v276 : BitVec 32 := Scalar.minsi c768_i32_150 v275
  let v277 : BitVec 32 := v276
  let c0_i32_375 : BitVec 32 := 0#32
  ![v277.toNat, 0]
def k0_cond20 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c1_i32_154 : BitVec 32 := 1#32
  let v282 : BitVec 1 := Scalar.cmpi .sgt v124 c1_i32_154
  let v283 : BitVec 32 := Scalar.extui v282
  let c0_i32_159 : BitVec 32 := 0#32
  let v284 : BitVec 1 := Scalar.cmpi .ne v283 c0_i32_159
  v284

def k0_dev7 (d0 : Dev nD) : Nat :=
  let c0_i32_372 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_371 : BitVec 32 := 8#32
  let v614 : BitVec 32 := Scalar.muli v9 c8_i32_371
  let v615 : BitVec 32 := Scalar.addi c0_i32_372 v614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v616 : BitVec 32 := Scalar.muli v5 c4_i32_373
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v618 : BitVec 32 := Scalar.muli v8 c1_i32_374
  let v619 : BitVec 32 := Scalar.addi v617 v618
  v619.toNat
def k0_mult18 (v10 : BitVec 32) : BitVec 32 :=
  let c768_i32_190 : BitVec 32 := 768#32
  let c0_i32_189 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_173 : BitVec 32 := 1024#32
  let c0_i32_172 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_160 : BitVec 32 := 256#32
  let v285 : BitVec 32 := Scalar.addi v47 c256_i32_160
  let c1_i32_161 : BitVec 32 := 1#32
  let v286 : BitVec 32 := Scalar.subi v285 c1_i32_161
  let c0_i32_163 : BitVec 32 := 0#32
  let v288 : BitVec 1 := Scalar.cmpi .sgt v286 c0_i32_163
  let v289 : BitVec 32 := Scalar.extui v288
  let c0_i32_164 : BitVec 32 := 0#32
  let v290 : BitVec 1 := Scalar.cmpi .slt v286 c0_i32_164
  let v291 : BitVec 32 := Scalar.extui v290
  let v292 : BitVec 32 := Scalar.subi v289 v291
  let c256_i32_162 : BitVec 32 := 256#32
  let c0_i32_165 : BitVec 32 := 0#32
  let v293 : BitVec 1 := Scalar.cmpi .sgt c256_i32_162 c0_i32_165
  let v294 : BitVec 32 := Scalar.extui v293
  let c0_i32_166 : BitVec 32 := 0#32
  let v295 : BitVec 1 := Scalar.cmpi .slt c256_i32_162 c0_i32_166
  let v296 : BitVec 32 := Scalar.extui v295
  let v297 : BitVec 32 := Scalar.subi v294 v296
  let v298 : BitVec 1 := Scalar.cmpi .ne v292 v297
  let v299 : BitVec 32 := Scalar.remsi v286 c256_i32_162
  let c0_i32_167 : BitVec 32 := 0#32
  let v300 : BitVec 1 := Scalar.cmpi .ne v299 c0_i32_167
  let v301 : BitVec 1 := Scalar.andi v298 v300
  let v287 : BitVec 32 := Scalar.divsi v286 c256_i32_162
  let c1_i32_168 : BitVec 32 := 1#32
  let v302 : BitVec 32 := Scalar.subi v287 c1_i32_168
  let v303 : BitVec 32 := Scalar.select v301 v302 v287
  let c1_i32_169 : BitVec 32 := 1#32
  let v304 : BitVec 32 := Scalar.subi v303 c1_i32_169
  let c2_i32_170 : BitVec 32 := 2#32
  let v305 : BitVec 1 := Scalar.cmpi .eq v304 c2_i32_170
  let c256_i32_171 : BitVec 32 := 256#32
  let v306 : BitVec 32 := Scalar.subi v47 c256_i32_171
  let c512_i32 : BitVec 32 := 512#32
  let v307 : BitVec 32 := Scalar.select v305 v306 c512_i32
  let v308 : BitVec 32 := Scalar.maxsi c0_i32_172 v307
  let v309 : BitVec 32 := Scalar.minsi c1024_i32_173 v308
  let v335 : BitVec 32 := Scalar.addi v66 v309
  let v336 : BitVec 32 := Scalar.maxsi c0_i32_189 v335
  let v337 : BitVec 32 := Scalar.minsi c768_i32_190 v336
  v337
def k0_mult19 (v10 : BitVec 32) : BitVec 32 :=
  let c768_i32_193 : BitVec 32 := 768#32
  let c0_i32_192 : BitVec 32 := 0#32
  let c0_i32_191 : BitVec 32 := 0#32
  let c1024_i32_188 : BitVec 32 := 1024#32
  let c0_i32_187 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_174 : BitVec 32 := 256#32
  let v310 : BitVec 32 := Scalar.addi v85 c256_i32_174
  let c1_i32_175 : BitVec 32 := 1#32
  let v311 : BitVec 32 := Scalar.subi v310 c1_i32_175
  let c0_i32_177 : BitVec 32 := 0#32
  let v313 : BitVec 1 := Scalar.cmpi .sgt v311 c0_i32_177
  let v314 : BitVec 32 := Scalar.extui v313
  let c0_i32_178 : BitVec 32 := 0#32
  let v315 : BitVec 1 := Scalar.cmpi .slt v311 c0_i32_178
  let v316 : BitVec 32 := Scalar.extui v315
  let v317 : BitVec 32 := Scalar.subi v314 v316
  let c256_i32_176 : BitVec 32 := 256#32
  let c0_i32_179 : BitVec 32 := 0#32
  let v318 : BitVec 1 := Scalar.cmpi .sgt c256_i32_176 c0_i32_179
  let v319 : BitVec 32 := Scalar.extui v318
  let c0_i32_180 : BitVec 32 := 0#32
  let v320 : BitVec 1 := Scalar.cmpi .slt c256_i32_176 c0_i32_180
  let v321 : BitVec 32 := Scalar.extui v320
  let v322 : BitVec 32 := Scalar.subi v319 v321
  let v323 : BitVec 1 := Scalar.cmpi .ne v317 v322
  let v324 : BitVec 32 := Scalar.remsi v311 c256_i32_176
  let c0_i32_181 : BitVec 32 := 0#32
  let v325 : BitVec 1 := Scalar.cmpi .ne v324 c0_i32_181
  let v326 : BitVec 1 := Scalar.andi v323 v325
  let v312 : BitVec 32 := Scalar.divsi v311 c256_i32_176
  let c1_i32_182 : BitVec 32 := 1#32
  let v327 : BitVec 32 := Scalar.subi v312 c1_i32_182
  let v328 : BitVec 32 := Scalar.select v326 v327 v312
  let c1_i32_183 : BitVec 32 := 1#32
  let v329 : BitVec 32 := Scalar.subi v328 c1_i32_183
  let c2_i32_184 : BitVec 32 := 2#32
  let v330 : BitVec 1 := Scalar.cmpi .eq v329 c2_i32_184
  let c256_i32_185 : BitVec 32 := 256#32
  let v331 : BitVec 32 := Scalar.subi v85 c256_i32_185
  let c512_i32_186 : BitVec 32 := 512#32
  let v332 : BitVec 32 := Scalar.select v330 v331 c512_i32_186
  let v333 : BitVec 32 := Scalar.maxsi c0_i32_187 v332
  let v334 : BitVec 32 := Scalar.minsi c1024_i32_188 v333
  let v339 : BitVec 32 := Scalar.addi c0_i32_191 v334
  let v340 : BitVec 32 := Scalar.maxsi c0_i32_192 v339
  let v341 : BitVec 32 := Scalar.minsi c768_i32_193 v340
  v341
def k0_off20 (v10 : BitVec 32) : Fin 2 → Nat :=
  let c768_i32_190 : BitVec 32 := 768#32
  let c0_i32_189 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_173 : BitVec 32 := 1024#32
  let c0_i32_172 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_160 : BitVec 32 := 256#32
  let v285 : BitVec 32 := Scalar.addi v47 c256_i32_160
  let c1_i32_161 : BitVec 32 := 1#32
  let v286 : BitVec 32 := Scalar.subi v285 c1_i32_161
  let c0_i32_163 : BitVec 32 := 0#32
  let v288 : BitVec 1 := Scalar.cmpi .sgt v286 c0_i32_163
  let v289 : BitVec 32 := Scalar.extui v288
  let c0_i32_164 : BitVec 32 := 0#32
  let v290 : BitVec 1 := Scalar.cmpi .slt v286 c0_i32_164
  let v291 : BitVec 32 := Scalar.extui v290
  let v292 : BitVec 32 := Scalar.subi v289 v291
  let c256_i32_162 : BitVec 32 := 256#32
  let c0_i32_165 : BitVec 32 := 0#32
  let v293 : BitVec 1 := Scalar.cmpi .sgt c256_i32_162 c0_i32_165
  let v294 : BitVec 32 := Scalar.extui v293
  let c0_i32_166 : BitVec 32 := 0#32
  let v295 : BitVec 1 := Scalar.cmpi .slt c256_i32_162 c0_i32_166
  let v296 : BitVec 32 := Scalar.extui v295
  let v297 : BitVec 32 := Scalar.subi v294 v296
  let v298 : BitVec 1 := Scalar.cmpi .ne v292 v297
  let v299 : BitVec 32 := Scalar.remsi v286 c256_i32_162
  let c0_i32_167 : BitVec 32 := 0#32
  let v300 : BitVec 1 := Scalar.cmpi .ne v299 c0_i32_167
  let v301 : BitVec 1 := Scalar.andi v298 v300
  let v287 : BitVec 32 := Scalar.divsi v286 c256_i32_162
  let c1_i32_168 : BitVec 32 := 1#32
  let v302 : BitVec 32 := Scalar.subi v287 c1_i32_168
  let v303 : BitVec 32 := Scalar.select v301 v302 v287
  let c1_i32_169 : BitVec 32 := 1#32
  let v304 : BitVec 32 := Scalar.subi v303 c1_i32_169
  let c2_i32_170 : BitVec 32 := 2#32
  let v305 : BitVec 1 := Scalar.cmpi .eq v304 c2_i32_170
  let c256_i32_171 : BitVec 32 := 256#32
  let v306 : BitVec 32 := Scalar.subi v47 c256_i32_171
  let c512_i32 : BitVec 32 := 512#32
  let v307 : BitVec 32 := Scalar.select v305 v306 c512_i32
  let v308 : BitVec 32 := Scalar.maxsi c0_i32_172 v307
  let v309 : BitVec 32 := Scalar.minsi c1024_i32_173 v308
  let v335 : BitVec 32 := Scalar.addi v66 v309
  let v336 : BitVec 32 := Scalar.maxsi c0_i32_189 v335
  let v337 : BitVec 32 := Scalar.minsi c768_i32_190 v336
  let v338 : BitVec 32 := v337
  let c0_i32_375 : BitVec 32 := 0#32
  ![v338.toNat, 0]
def k0_cond21 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c2_i32_194 : BitVec 32 := 2#32
  let v343 : BitVec 1 := Scalar.cmpi .sgt v124 c2_i32_194
  let v344 : BitVec 32 := Scalar.extui v343
  let c0_i32_199 : BitVec 32 := 0#32
  let v345 : BitVec 1 := Scalar.cmpi .ne v344 c0_i32_199
  v345

def k0_dev8 (d0 : Dev nD) : Nat :=
  let c0_i32_372 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_371 : BitVec 32 := 8#32
  let v614 : BitVec 32 := Scalar.muli v9 c8_i32_371
  let v615 : BitVec 32 := Scalar.addi c0_i32_372 v614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v616 : BitVec 32 := Scalar.muli v5 c4_i32_373
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v618 : BitVec 32 := Scalar.muli v8 c1_i32_374
  let v619 : BitVec 32 := Scalar.addi v617 v618
  v619.toNat
def k0_mult20 (v10 : BitVec 32) : BitVec 32 :=
  let c768_i32_230 : BitVec 32 := 768#32
  let c0_i32_229 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_213 : BitVec 32 := 1024#32
  let c0_i32_212 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_200 : BitVec 32 := 256#32
  let v346 : BitVec 32 := Scalar.addi v47 c256_i32_200
  let c1_i32_201 : BitVec 32 := 1#32
  let v347 : BitVec 32 := Scalar.subi v346 c1_i32_201
  let c0_i32_203 : BitVec 32 := 0#32
  let v349 : BitVec 1 := Scalar.cmpi .sgt v347 c0_i32_203
  let v350 : BitVec 32 := Scalar.extui v349
  let c0_i32_204 : BitVec 32 := 0#32
  let v351 : BitVec 1 := Scalar.cmpi .slt v347 c0_i32_204
  let v352 : BitVec 32 := Scalar.extui v351
  let v353 : BitVec 32 := Scalar.subi v350 v352
  let c256_i32_202 : BitVec 32 := 256#32
  let c0_i32_205 : BitVec 32 := 0#32
  let v354 : BitVec 1 := Scalar.cmpi .sgt c256_i32_202 c0_i32_205
  let v355 : BitVec 32 := Scalar.extui v354
  let c0_i32_206 : BitVec 32 := 0#32
  let v356 : BitVec 1 := Scalar.cmpi .slt c256_i32_202 c0_i32_206
  let v357 : BitVec 32 := Scalar.extui v356
  let v358 : BitVec 32 := Scalar.subi v355 v357
  let v359 : BitVec 1 := Scalar.cmpi .ne v353 v358
  let v360 : BitVec 32 := Scalar.remsi v347 c256_i32_202
  let c0_i32_207 : BitVec 32 := 0#32
  let v361 : BitVec 1 := Scalar.cmpi .ne v360 c0_i32_207
  let v362 : BitVec 1 := Scalar.andi v359 v361
  let v348 : BitVec 32 := Scalar.divsi v347 c256_i32_202
  let c1_i32_208 : BitVec 32 := 1#32
  let v363 : BitVec 32 := Scalar.subi v348 c1_i32_208
  let v364 : BitVec 32 := Scalar.select v362 v363 v348
  let c1_i32_209 : BitVec 32 := 1#32
  let v365 : BitVec 32 := Scalar.subi v364 c1_i32_209
  let c3_i32 : BitVec 32 := 3#32
  let v366 : BitVec 1 := Scalar.cmpi .eq v365 c3_i32
  let c256_i32_210 : BitVec 32 := 256#32
  let v367 : BitVec 32 := Scalar.subi v47 c256_i32_210
  let c768_i32_211 : BitVec 32 := 768#32
  let v368 : BitVec 32 := Scalar.select v366 v367 c768_i32_211
  let v369 : BitVec 32 := Scalar.maxsi c0_i32_212 v368
  let v370 : BitVec 32 := Scalar.minsi c1024_i32_213 v369
  let v396 : BitVec 32 := Scalar.addi v66 v370
  let v397 : BitVec 32 := Scalar.maxsi c0_i32_229 v396
  let v398 : BitVec 32 := Scalar.minsi c768_i32_230 v397
  v398
def k0_mult21 (v10 : BitVec 32) : BitVec 32 :=
  let c768_i32_233 : BitVec 32 := 768#32
  let c0_i32_232 : BitVec 32 := 0#32
  let c0_i32_231 : BitVec 32 := 0#32
  let c1024_i32_228 : BitVec 32 := 1024#32
  let c0_i32_227 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_214 : BitVec 32 := 256#32
  let v371 : BitVec 32 := Scalar.addi v85 c256_i32_214
  let c1_i32_215 : BitVec 32 := 1#32
  let v372 : BitVec 32 := Scalar.subi v371 c1_i32_215
  let c0_i32_217 : BitVec 32 := 0#32
  let v374 : BitVec 1 := Scalar.cmpi .sgt v372 c0_i32_217
  let v375 : BitVec 32 := Scalar.extui v374
  let c0_i32_218 : BitVec 32 := 0#32
  let v376 : BitVec 1 := Scalar.cmpi .slt v372 c0_i32_218
  let v377 : BitVec 32 := Scalar.extui v376
  let v378 : BitVec 32 := Scalar.subi v375 v377
  let c256_i32_216 : BitVec 32 := 256#32
  let c0_i32_219 : BitVec 32 := 0#32
  let v379 : BitVec 1 := Scalar.cmpi .sgt c256_i32_216 c0_i32_219
  let v380 : BitVec 32 := Scalar.extui v379
  let c0_i32_220 : BitVec 32 := 0#32
  let v381 : BitVec 1 := Scalar.cmpi .slt c256_i32_216 c0_i32_220
  let v382 : BitVec 32 := Scalar.extui v381
  let v383 : BitVec 32 := Scalar.subi v380 v382
  let v384 : BitVec 1 := Scalar.cmpi .ne v378 v383
  let v385 : BitVec 32 := Scalar.remsi v372 c256_i32_216
  let c0_i32_221 : BitVec 32 := 0#32
  let v386 : BitVec 1 := Scalar.cmpi .ne v385 c0_i32_221
  let v387 : BitVec 1 := Scalar.andi v384 v386
  let v373 : BitVec 32 := Scalar.divsi v372 c256_i32_216
  let c1_i32_222 : BitVec 32 := 1#32
  let v388 : BitVec 32 := Scalar.subi v373 c1_i32_222
  let v389 : BitVec 32 := Scalar.select v387 v388 v373
  let c1_i32_223 : BitVec 32 := 1#32
  let v390 : BitVec 32 := Scalar.subi v389 c1_i32_223
  let c3_i32_224 : BitVec 32 := 3#32
  let v391 : BitVec 1 := Scalar.cmpi .eq v390 c3_i32_224
  let c256_i32_225 : BitVec 32 := 256#32
  let v392 : BitVec 32 := Scalar.subi v85 c256_i32_225
  let c768_i32_226 : BitVec 32 := 768#32
  let v393 : BitVec 32 := Scalar.select v391 v392 c768_i32_226
  let v394 : BitVec 32 := Scalar.maxsi c0_i32_227 v393
  let v395 : BitVec 32 := Scalar.minsi c1024_i32_228 v394
  let v400 : BitVec 32 := Scalar.addi c0_i32_231 v395
  let v401 : BitVec 32 := Scalar.maxsi c0_i32_232 v400
  let v402 : BitVec 32 := Scalar.minsi c768_i32_233 v401
  v402
def k0_off21 (v10 : BitVec 32) : Fin 2 → Nat :=
  let c768_i32_230 : BitVec 32 := 768#32
  let c0_i32_229 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_213 : BitVec 32 := 1024#32
  let c0_i32_212 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_200 : BitVec 32 := 256#32
  let v346 : BitVec 32 := Scalar.addi v47 c256_i32_200
  let c1_i32_201 : BitVec 32 := 1#32
  let v347 : BitVec 32 := Scalar.subi v346 c1_i32_201
  let c0_i32_203 : BitVec 32 := 0#32
  let v349 : BitVec 1 := Scalar.cmpi .sgt v347 c0_i32_203
  let v350 : BitVec 32 := Scalar.extui v349
  let c0_i32_204 : BitVec 32 := 0#32
  let v351 : BitVec 1 := Scalar.cmpi .slt v347 c0_i32_204
  let v352 : BitVec 32 := Scalar.extui v351
  let v353 : BitVec 32 := Scalar.subi v350 v352
  let c256_i32_202 : BitVec 32 := 256#32
  let c0_i32_205 : BitVec 32 := 0#32
  let v354 : BitVec 1 := Scalar.cmpi .sgt c256_i32_202 c0_i32_205
  let v355 : BitVec 32 := Scalar.extui v354
  let c0_i32_206 : BitVec 32 := 0#32
  let v356 : BitVec 1 := Scalar.cmpi .slt c256_i32_202 c0_i32_206
  let v357 : BitVec 32 := Scalar.extui v356
  let v358 : BitVec 32 := Scalar.subi v355 v357
  let v359 : BitVec 1 := Scalar.cmpi .ne v353 v358
  let v360 : BitVec 32 := Scalar.remsi v347 c256_i32_202
  let c0_i32_207 : BitVec 32 := 0#32
  let v361 : BitVec 1 := Scalar.cmpi .ne v360 c0_i32_207
  let v362 : BitVec 1 := Scalar.andi v359 v361
  let v348 : BitVec 32 := Scalar.divsi v347 c256_i32_202
  let c1_i32_208 : BitVec 32 := 1#32
  let v363 : BitVec 32 := Scalar.subi v348 c1_i32_208
  let v364 : BitVec 32 := Scalar.select v362 v363 v348
  let c1_i32_209 : BitVec 32 := 1#32
  let v365 : BitVec 32 := Scalar.subi v364 c1_i32_209
  let c3_i32 : BitVec 32 := 3#32
  let v366 : BitVec 1 := Scalar.cmpi .eq v365 c3_i32
  let c256_i32_210 : BitVec 32 := 256#32
  let v367 : BitVec 32 := Scalar.subi v47 c256_i32_210
  let c768_i32_211 : BitVec 32 := 768#32
  let v368 : BitVec 32 := Scalar.select v366 v367 c768_i32_211
  let v369 : BitVec 32 := Scalar.maxsi c0_i32_212 v368
  let v370 : BitVec 32 := Scalar.minsi c1024_i32_213 v369
  let v396 : BitVec 32 := Scalar.addi v66 v370
  let v397 : BitVec 32 := Scalar.maxsi c0_i32_229 v396
  let v398 : BitVec 32 := Scalar.minsi c768_i32_230 v397
  let v399 : BitVec 32 := v398
  let c0_i32_375 : BitVec 32 := 0#32
  ![v399.toNat, 0]
def k0_cond22 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c3_i32_234 : BitVec 32 := 3#32
  let v404 : BitVec 1 := Scalar.cmpi .sgt v124 c3_i32_234
  let v405 : BitVec 32 := Scalar.extui v404
  let c0_i32_239 : BitVec 32 := 0#32
  let v406 : BitVec 1 := Scalar.cmpi .ne v405 c0_i32_239
  v406

def k0_dev9 (d0 : Dev nD) : Nat :=
  let c0_i32_372 : BitVec 32 := 0#32
  let c1_i32_2 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.subi c1_i32_2 v2
  let c8_i32_371 : BitVec 32 := 8#32
  let v614 : BitVec 32 := Scalar.muli v9 c8_i32_371
  let v615 : BitVec 32 := Scalar.addi c0_i32_372 v614
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_373 : BitVec 32 := 4#32
  let v616 : BitVec 32 := Scalar.muli v5 c4_i32_373
  let v617 : BitVec 32 := Scalar.addi v615 v616
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_374 : BitVec 32 := 1#32
  let v618 : BitVec 32 := Scalar.muli v8 c1_i32_374
  let v619 : BitVec 32 := Scalar.addi v617 v618
  v619.toNat
def k0_mult22 (v10 : BitVec 32) : BitVec 32 :=
  let c768_i32_256 : BitVec 32 := 768#32
  let c0_i32_255 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_254 : BitVec 32 := 1024#32
  let c0_i32_253 : BitVec 32 := 0#32
  let c1024_i32_52 : BitVec 32 := 1024#32
  let v105 : BitVec 32 := Scalar.subi c1024_i32_52 v104
  let c256_i32_240 : BitVec 32 := 256#32
  let v407 : BitVec 32 := Scalar.addi v105 c256_i32_240
  let c1_i32_241 : BitVec 32 := 1#32
  let v408 : BitVec 32 := Scalar.subi v407 c1_i32_241
  let c0_i32_243 : BitVec 32 := 0#32
  let v410 : BitVec 1 := Scalar.cmpi .sgt v408 c0_i32_243
  let v411 : BitVec 32 := Scalar.extui v410
  let c0_i32_244 : BitVec 32 := 0#32
  let v412 : BitVec 1 := Scalar.cmpi .slt v408 c0_i32_244
  let v413 : BitVec 32 := Scalar.extui v412
  let v414 : BitVec 32 := Scalar.subi v411 v413
  let c256_i32_242 : BitVec 32 := 256#32
  let c0_i32_245 : BitVec 32 := 0#32
  let v415 : BitVec 1 := Scalar.cmpi .sgt c256_i32_242 c0_i32_245
  let v416 : BitVec 32 := Scalar.extui v415
  let c0_i32_246 : BitVec 32 := 0#32
  let v417 : BitVec 1 := Scalar.cmpi .slt c256_i32_242 c0_i32_246
  let v418 : BitVec 32 := Scalar.extui v417
  let v419 : BitVec 32 := Scalar.subi v416 v418
  let v420 : BitVec 1 := Scalar.cmpi .ne v414 v419
  let v421 : BitVec 32 := Scalar.remsi v408 c256_i32_242
  let c0_i32_247 : BitVec 32 := 0#32
  let v422 : BitVec 1 := Scalar.cmpi .ne v421 c0_i32_247
  let v423 : BitVec 1 := Scalar.andi v420 v422
  let v409 : BitVec 32 := Scalar.divsi v408 c256_i32_242
  let c1_i32_248 : BitVec 32 := 1#32
  let v424 : BitVec 32 := Scalar.subi v409 c1_i32_248
  let v425 : BitVec 32 := Scalar.select v423 v424 v409
  let c1_i32_249 : BitVec 32 := 1#32
  let v426 : BitVec 32 := Scalar.subi v425 c1_i32_249
  let c0_i32_250 : BitVec 32 := 0#32
  let v427 : BitVec 1 := Scalar.cmpi .eq v426 c0_i32_250
  let c256_i32_251 : BitVec 32 := 256#32
  let v428 : BitVec 32 := Scalar.subi v105 c256_i32_251
  let c0_i32_252 : BitVec 32 := 0#32
  let v429 : BitVec 32 := Scalar.select v427 v428 c0_i32_252
  let v430 : BitVec 32 := Scalar.maxsi c0_i32_253 v429
  let v431 : BitVec 32 := Scalar.minsi c1024_i32_254 v430
  let v432 : BitVec 32 := Scalar.addi v104 v431
  let v433 : BitVec 32 := Scalar.maxsi c0_i32_255 v432
  let v434 : BitVec 32 := Scalar.minsi c768_i32_256 v433
  v434
def k0_off22 (v10 : BitVec 32) : Fin 2 → Nat :=
  let c768_i32_256 : BitVec 32 := 768#32
  let c0_i32_255 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_254 : BitVec 32 := 1024#32
  let c0_i32_253 : BitVec 32 := 0#32
  let c1024_i32_52 : BitVec 32 := 1024#32
  let v105 : BitVec 32 := Scalar.subi c1024_i32_52 v104
  let c256_i32_240 : BitVec 32 := 256#32
  let v407 : BitVec 32 := Scalar.addi v105 c256_i32_240
  let c1_i32_241 : BitVec 32 := 1#32
  let v408 : BitVec 32 := Scalar.subi v407 c1_i32_241
  let c0_i32_243 : BitVec 32 := 0#32
  let v410 : BitVec 1 := Scalar.cmpi .sgt v408 c0_i32_243
  let v411 : BitVec 32 := Scalar.extui v410
  let c0_i32_244 : BitVec 32 := 0#32
  let v412 : BitVec 1 := Scalar.cmpi .slt v408 c0_i32_244
  let v413 : BitVec 32 := Scalar.extui v412
  let v414 : BitVec 32 := Scalar.subi v411 v413
  let c256_i32_242 : BitVec 32 := 256#32
  let c0_i32_245 : BitVec 32 := 0#32
  let v415 : BitVec 1 := Scalar.cmpi .sgt c256_i32_242 c0_i32_245
  let v416 : BitVec 32 := Scalar.extui v415
  let c0_i32_246 : BitVec 32 := 0#32
  let v417 : BitVec 1 := Scalar.cmpi .slt c256_i32_242 c0_i32_246
  let v418 : BitVec 32 := Scalar.extui v417
  let v419 : BitVec 32 := Scalar.subi v416 v418
  let v420 : BitVec 1 := Scalar.cmpi .ne v414 v419
  let v421 : BitVec 32 := Scalar.remsi v408 c256_i32_242
  let c0_i32_247 : BitVec 32 := 0#32
  let v422 : BitVec 1 := Scalar.cmpi .ne v421 c0_i32_247
  let v423 : BitVec 1 := Scalar.andi v420 v422
  let v409 : BitVec 32 := Scalar.divsi v408 c256_i32_242
  let c1_i32_248 : BitVec 32 := 1#32
  let v424 : BitVec 32 := Scalar.subi v409 c1_i32_248
  let v425 : BitVec 32 := Scalar.select v423 v424 v409
  let c1_i32_249 : BitVec 32 := 1#32
  let v426 : BitVec 32 := Scalar.subi v425 c1_i32_249
  let c0_i32_250 : BitVec 32 := 0#32
  let v427 : BitVec 1 := Scalar.cmpi .eq v426 c0_i32_250
  let c256_i32_251 : BitVec 32 := 256#32
  let v428 : BitVec 32 := Scalar.subi v105 c256_i32_251
  let c0_i32_252 : BitVec 32 := 0#32
  let v429 : BitVec 32 := Scalar.select v427 v428 c0_i32_252
  let v430 : BitVec 32 := Scalar.maxsi c0_i32_253 v429
  let v431 : BitVec 32 := Scalar.minsi c1024_i32_254 v430
  let v432 : BitVec 32 := Scalar.addi v104 v431
  let v433 : BitVec 32 := Scalar.maxsi c0_i32_255 v432
  let v434 : BitVec 32 := Scalar.minsi c768_i32_256 v433
  let v435 : BitVec 32 := v434
  let v611 : Index := Scalar.indexCast v435
  let c0_370 : Index := 0#32
  ![v611.toNat, 0]
def k0_cond23 (v10 : BitVec 32) : BitVec 1 :=
  let c1024_i32_52 : BitVec 32 := 1024#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let v105 : BitVec 32 := Scalar.subi c1024_i32_52 v104
  let c256_i32_70 : BitVec 32 := 256#32
  let v144 : BitVec 32 := Scalar.addi v105 c256_i32_70
  let c1_i32_71 : BitVec 32 := 1#32
  let v145 : BitVec 32 := Scalar.subi v144 c1_i32_71
  let c0_i32_73 : BitVec 32 := 0#32
  let v147 : BitVec 1 := Scalar.cmpi .sgt v145 c0_i32_73
  let v148 : BitVec 32 := Scalar.extui v147
  let c0_i32_74 : BitVec 32 := 0#32
  let v149 : BitVec 1 := Scalar.cmpi .slt v145 c0_i32_74
  let v150 : BitVec 32 := Scalar.extui v149
  let v151 : BitVec 32 := Scalar.subi v148 v150
  let c256_i32_72 : BitVec 32 := 256#32
  let c0_i32_75 : BitVec 32 := 0#32
  let v152 : BitVec 1 := Scalar.cmpi .sgt c256_i32_72 c0_i32_75
  let v153 : BitVec 32 := Scalar.extui v152
  let c0_i32_76 : BitVec 32 := 0#32
  let v154 : BitVec 1 := Scalar.cmpi .slt c256_i32_72 c0_i32_76
  let v155 : BitVec 32 := Scalar.extui v154
  let v156 : BitVec 32 := Scalar.subi v153 v155
  let v157 : BitVec 1 := Scalar.cmpi .ne v151 v156
  let v158 : BitVec 32 := Scalar.remsi v145 c256_i32_72
  let c0_i32_77 : BitVec 32 := 0#32
  let v159 : BitVec 1 := Scalar.cmpi .ne v158 c0_i32_77
  let v160 : BitVec 1 := Scalar.andi v157 v159
  let v146 : BitVec 32 := Scalar.divsi v145 c256_i32_72
  let c1_i32_78 : BitVec 32 := 1#32
  let v161 : BitVec 32 := Scalar.subi v146 c1_i32_78
  let v162 : BitVec 32 := Scalar.select v160 v161 v146
  let c0_i32_257 : BitVec 32 := 0#32
  let v436 : BitVec 1 := Scalar.cmpi .sgt v162 c0_i32_257
  let v437 : BitVec 32 := Scalar.extui v436
  let c0_i32_258 : BitVec 32 := 0#32
  let v438 : BitVec 1 := Scalar.cmpi .ne v437 c0_i32_258
  v438

def k0_mult23 (v10 : BitVec 32) : BitVec 32 :=
  let c768_i32_275 : BitVec 32 := 768#32
  let c0_i32_274 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_273 : BitVec 32 := 1024#32
  let c0_i32_272 : BitVec 32 := 0#32
  let c1024_i32_52 : BitVec 32 := 1024#32
  let v105 : BitVec 32 := Scalar.subi c1024_i32_52 v104
  let c256_i32_259 : BitVec 32 := 256#32
  let v439 : BitVec 32 := Scalar.addi v105 c256_i32_259
  let c1_i32_260 : BitVec 32 := 1#32
  let v440 : BitVec 32 := Scalar.subi v439 c1_i32_260
  let c0_i32_262 : BitVec 32 := 0#32
  let v442 : BitVec 1 := Scalar.cmpi .sgt v440 c0_i32_262
  let v443 : BitVec 32 := Scalar.extui v442
  let c0_i32_263 : BitVec 32 := 0#32
  let v444 : BitVec 1 := Scalar.cmpi .slt v440 c0_i32_263
  let v445 : BitVec 32 := Scalar.extui v444
  let v446 : BitVec 32 := Scalar.subi v443 v445
  let c256_i32_261 : BitVec 32 := 256#32
  let c0_i32_264 : BitVec 32 := 0#32
  let v447 : BitVec 1 := Scalar.cmpi .sgt c256_i32_261 c0_i32_264
  let v448 : BitVec 32 := Scalar.extui v447
  let c0_i32_265 : BitVec 32 := 0#32
  let v449 : BitVec 1 := Scalar.cmpi .slt c256_i32_261 c0_i32_265
  let v450 : BitVec 32 := Scalar.extui v449
  let v451 : BitVec 32 := Scalar.subi v448 v450
  let v452 : BitVec 1 := Scalar.cmpi .ne v446 v451
  let v453 : BitVec 32 := Scalar.remsi v440 c256_i32_261
  let c0_i32_266 : BitVec 32 := 0#32
  let v454 : BitVec 1 := Scalar.cmpi .ne v453 c0_i32_266
  let v455 : BitVec 1 := Scalar.andi v452 v454
  let v441 : BitVec 32 := Scalar.divsi v440 c256_i32_261
  let c1_i32_267 : BitVec 32 := 1#32
  let v456 : BitVec 32 := Scalar.subi v441 c1_i32_267
  let v457 : BitVec 32 := Scalar.select v455 v456 v441
  let c1_i32_268 : BitVec 32 := 1#32
  let v458 : BitVec 32 := Scalar.subi v457 c1_i32_268
  let c1_i32_269 : BitVec 32 := 1#32
  let v459 : BitVec 1 := Scalar.cmpi .eq v458 c1_i32_269
  let c256_i32_270 : BitVec 32 := 256#32
  let v460 : BitVec 32 := Scalar.subi v105 c256_i32_270
  let c256_i32_271 : BitVec 32 := 256#32
  let v461 : BitVec 32 := Scalar.select v459 v460 c256_i32_271
  let v462 : BitVec 32 := Scalar.maxsi c0_i32_272 v461
  let v463 : BitVec 32 := Scalar.minsi c1024_i32_273 v462
  let v464 : BitVec 32 := Scalar.addi v104 v463
  let v465 : BitVec 32 := Scalar.maxsi c0_i32_274 v464
  let v466 : BitVec 32 := Scalar.minsi c768_i32_275 v465
  v466
def k0_off23 (v10 : BitVec 32) : Fin 2 → Nat :=
  let c768_i32_275 : BitVec 32 := 768#32
  let c0_i32_274 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_273 : BitVec 32 := 1024#32
  let c0_i32_272 : BitVec 32 := 0#32
  let c1024_i32_52 : BitVec 32 := 1024#32
  let v105 : BitVec 32 := Scalar.subi c1024_i32_52 v104
  let c256_i32_259 : BitVec 32 := 256#32
  let v439 : BitVec 32 := Scalar.addi v105 c256_i32_259
  let c1_i32_260 : BitVec 32 := 1#32
  let v440 : BitVec 32 := Scalar.subi v439 c1_i32_260
  let c0_i32_262 : BitVec 32 := 0#32
  let v442 : BitVec 1 := Scalar.cmpi .sgt v440 c0_i32_262
  let v443 : BitVec 32 := Scalar.extui v442
  let c0_i32_263 : BitVec 32 := 0#32
  let v444 : BitVec 1 := Scalar.cmpi .slt v440 c0_i32_263
  let v445 : BitVec 32 := Scalar.extui v444
  let v446 : BitVec 32 := Scalar.subi v443 v445
  let c256_i32_261 : BitVec 32 := 256#32
  let c0_i32_264 : BitVec 32 := 0#32
  let v447 : BitVec 1 := Scalar.cmpi .sgt c256_i32_261 c0_i32_264
  let v448 : BitVec 32 := Scalar.extui v447
  let c0_i32_265 : BitVec 32 := 0#32
  let v449 : BitVec 1 := Scalar.cmpi .slt c256_i32_261 c0_i32_265
  let v450 : BitVec 32 := Scalar.extui v449
  let v451 : BitVec 32 := Scalar.subi v448 v450
  let v452 : BitVec 1 := Scalar.cmpi .ne v446 v451
  let v453 : BitVec 32 := Scalar.remsi v440 c256_i32_261
  let c0_i32_266 : BitVec 32 := 0#32
  let v454 : BitVec 1 := Scalar.cmpi .ne v453 c0_i32_266
  let v455 : BitVec 1 := Scalar.andi v452 v454
  let v441 : BitVec 32 := Scalar.divsi v440 c256_i32_261
  let c1_i32_267 : BitVec 32 := 1#32
  let v456 : BitVec 32 := Scalar.subi v441 c1_i32_267
  let v457 : BitVec 32 := Scalar.select v455 v456 v441
  let c1_i32_268 : BitVec 32 := 1#32
  let v458 : BitVec 32 := Scalar.subi v457 c1_i32_268
  let c1_i32_269 : BitVec 32 := 1#32
  let v459 : BitVec 1 := Scalar.cmpi .eq v458 c1_i32_269
  let c256_i32_270 : BitVec 32 := 256#32
  let v460 : BitVec 32 := Scalar.subi v105 c256_i32_270
  let c256_i32_271 : BitVec 32 := 256#32
  let v461 : BitVec 32 := Scalar.select v459 v460 c256_i32_271
  let v462 : BitVec 32 := Scalar.maxsi c0_i32_272 v461
  let v463 : BitVec 32 := Scalar.minsi c1024_i32_273 v462
  let v464 : BitVec 32 := Scalar.addi v104 v463
  let v465 : BitVec 32 := Scalar.maxsi c0_i32_274 v464
  let v466 : BitVec 32 := Scalar.minsi c768_i32_275 v465
  let v467 : BitVec 32 := v466
  let v611 : Index := Scalar.indexCast v467
  let c0_370 : Index := 0#32
  ![v611.toNat, 0]
def k0_cond24 (v10 : BitVec 32) : BitVec 1 :=
  let c1024_i32_52 : BitVec 32 := 1024#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let v105 : BitVec 32 := Scalar.subi c1024_i32_52 v104
  let c256_i32_70 : BitVec 32 := 256#32
  let v144 : BitVec 32 := Scalar.addi v105 c256_i32_70
  let c1_i32_71 : BitVec 32 := 1#32
  let v145 : BitVec 32 := Scalar.subi v144 c1_i32_71
  let c0_i32_73 : BitVec 32 := 0#32
  let v147 : BitVec 1 := Scalar.cmpi .sgt v145 c0_i32_73
  let v148 : BitVec 32 := Scalar.extui v147
  let c0_i32_74 : BitVec 32 := 0#32
  let v149 : BitVec 1 := Scalar.cmpi .slt v145 c0_i32_74
  let v150 : BitVec 32 := Scalar.extui v149
  let v151 : BitVec 32 := Scalar.subi v148 v150
  let c256_i32_72 : BitVec 32 := 256#32
  let c0_i32_75 : BitVec 32 := 0#32
  let v152 : BitVec 1 := Scalar.cmpi .sgt c256_i32_72 c0_i32_75
  let v153 : BitVec 32 := Scalar.extui v152
  let c0_i32_76 : BitVec 32 := 0#32
  let v154 : BitVec 1 := Scalar.cmpi .slt c256_i32_72 c0_i32_76
  let v155 : BitVec 32 := Scalar.extui v154
  let v156 : BitVec 32 := Scalar.subi v153 v155
  let v157 : BitVec 1 := Scalar.cmpi .ne v151 v156
  let v158 : BitVec 32 := Scalar.remsi v145 c256_i32_72
  let c0_i32_77 : BitVec 32 := 0#32
  let v159 : BitVec 1 := Scalar.cmpi .ne v158 c0_i32_77
  let v160 : BitVec 1 := Scalar.andi v157 v159
  let v146 : BitVec 32 := Scalar.divsi v145 c256_i32_72
  let c1_i32_78 : BitVec 32 := 1#32
  let v161 : BitVec 32 := Scalar.subi v146 c1_i32_78
  let v162 : BitVec 32 := Scalar.select v160 v161 v146
  let c1_i32_276 : BitVec 32 := 1#32
  let v468 : BitVec 1 := Scalar.cmpi .sgt v162 c1_i32_276
  let v469 : BitVec 32 := Scalar.extui v468
  let c0_i32_277 : BitVec 32 := 0#32
  let v470 : BitVec 1 := Scalar.cmpi .ne v469 c0_i32_277
  v470

def k0_mult24 (v10 : BitVec 32) : BitVec 32 :=
  let c768_i32_294 : BitVec 32 := 768#32
  let c0_i32_293 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_292 : BitVec 32 := 1024#32
  let c0_i32_291 : BitVec 32 := 0#32
  let c1024_i32_52 : BitVec 32 := 1024#32
  let v105 : BitVec 32 := Scalar.subi c1024_i32_52 v104
  let c256_i32_278 : BitVec 32 := 256#32
  let v471 : BitVec 32 := Scalar.addi v105 c256_i32_278
  let c1_i32_279 : BitVec 32 := 1#32
  let v472 : BitVec 32 := Scalar.subi v471 c1_i32_279
  let c0_i32_281 : BitVec 32 := 0#32
  let v474 : BitVec 1 := Scalar.cmpi .sgt v472 c0_i32_281
  let v475 : BitVec 32 := Scalar.extui v474
  let c0_i32_282 : BitVec 32 := 0#32
  let v476 : BitVec 1 := Scalar.cmpi .slt v472 c0_i32_282
  let v477 : BitVec 32 := Scalar.extui v476
  let v478 : BitVec 32 := Scalar.subi v475 v477
  let c256_i32_280 : BitVec 32 := 256#32
  let c0_i32_283 : BitVec 32 := 0#32
  let v479 : BitVec 1 := Scalar.cmpi .sgt c256_i32_280 c0_i32_283
  let v480 : BitVec 32 := Scalar.extui v479
  let c0_i32_284 : BitVec 32 := 0#32
  let v481 : BitVec 1 := Scalar.cmpi .slt c256_i32_280 c0_i32_284
  let v482 : BitVec 32 := Scalar.extui v481
  let v483 : BitVec 32 := Scalar.subi v480 v482
  let v484 : BitVec 1 := Scalar.cmpi .ne v478 v483
  let v485 : BitVec 32 := Scalar.remsi v472 c256_i32_280
  let c0_i32_285 : BitVec 32 := 0#32
  let v486 : BitVec 1 := Scalar.cmpi .ne v485 c0_i32_285
  let v487 : BitVec 1 := Scalar.andi v484 v486
  let v473 : BitVec 32 := Scalar.divsi v472 c256_i32_280
  let c1_i32_286 : BitVec 32 := 1#32
  let v488 : BitVec 32 := Scalar.subi v473 c1_i32_286
  let v489 : BitVec 32 := Scalar.select v487 v488 v473
  let c1_i32_287 : BitVec 32 := 1#32
  let v490 : BitVec 32 := Scalar.subi v489 c1_i32_287
  let c2_i32_288 : BitVec 32 := 2#32
  let v491 : BitVec 1 := Scalar.cmpi .eq v490 c2_i32_288
  let c256_i32_289 : BitVec 32 := 256#32
  let v492 : BitVec 32 := Scalar.subi v105 c256_i32_289
  let c512_i32_290 : BitVec 32 := 512#32
  let v493 : BitVec 32 := Scalar.select v491 v492 c512_i32_290
  let v494 : BitVec 32 := Scalar.maxsi c0_i32_291 v493
  let v495 : BitVec 32 := Scalar.minsi c1024_i32_292 v494
  let v496 : BitVec 32 := Scalar.addi v104 v495
  let v497 : BitVec 32 := Scalar.maxsi c0_i32_293 v496
  let v498 : BitVec 32 := Scalar.minsi c768_i32_294 v497
  v498
def k0_off24 (v10 : BitVec 32) : Fin 2 → Nat :=
  let c768_i32_294 : BitVec 32 := 768#32
  let c0_i32_293 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_292 : BitVec 32 := 1024#32
  let c0_i32_291 : BitVec 32 := 0#32
  let c1024_i32_52 : BitVec 32 := 1024#32
  let v105 : BitVec 32 := Scalar.subi c1024_i32_52 v104
  let c256_i32_278 : BitVec 32 := 256#32
  let v471 : BitVec 32 := Scalar.addi v105 c256_i32_278
  let c1_i32_279 : BitVec 32 := 1#32
  let v472 : BitVec 32 := Scalar.subi v471 c1_i32_279
  let c0_i32_281 : BitVec 32 := 0#32
  let v474 : BitVec 1 := Scalar.cmpi .sgt v472 c0_i32_281
  let v475 : BitVec 32 := Scalar.extui v474
  let c0_i32_282 : BitVec 32 := 0#32
  let v476 : BitVec 1 := Scalar.cmpi .slt v472 c0_i32_282
  let v477 : BitVec 32 := Scalar.extui v476
  let v478 : BitVec 32 := Scalar.subi v475 v477
  let c256_i32_280 : BitVec 32 := 256#32
  let c0_i32_283 : BitVec 32 := 0#32
  let v479 : BitVec 1 := Scalar.cmpi .sgt c256_i32_280 c0_i32_283
  let v480 : BitVec 32 := Scalar.extui v479
  let c0_i32_284 : BitVec 32 := 0#32
  let v481 : BitVec 1 := Scalar.cmpi .slt c256_i32_280 c0_i32_284
  let v482 : BitVec 32 := Scalar.extui v481
  let v483 : BitVec 32 := Scalar.subi v480 v482
  let v484 : BitVec 1 := Scalar.cmpi .ne v478 v483
  let v485 : BitVec 32 := Scalar.remsi v472 c256_i32_280
  let c0_i32_285 : BitVec 32 := 0#32
  let v486 : BitVec 1 := Scalar.cmpi .ne v485 c0_i32_285
  let v487 : BitVec 1 := Scalar.andi v484 v486
  let v473 : BitVec 32 := Scalar.divsi v472 c256_i32_280
  let c1_i32_286 : BitVec 32 := 1#32
  let v488 : BitVec 32 := Scalar.subi v473 c1_i32_286
  let v489 : BitVec 32 := Scalar.select v487 v488 v473
  let c1_i32_287 : BitVec 32 := 1#32
  let v490 : BitVec 32 := Scalar.subi v489 c1_i32_287
  let c2_i32_288 : BitVec 32 := 2#32
  let v491 : BitVec 1 := Scalar.cmpi .eq v490 c2_i32_288
  let c256_i32_289 : BitVec 32 := 256#32
  let v492 : BitVec 32 := Scalar.subi v105 c256_i32_289
  let c512_i32_290 : BitVec 32 := 512#32
  let v493 : BitVec 32 := Scalar.select v491 v492 c512_i32_290
  let v494 : BitVec 32 := Scalar.maxsi c0_i32_291 v493
  let v495 : BitVec 32 := Scalar.minsi c1024_i32_292 v494
  let v496 : BitVec 32 := Scalar.addi v104 v495
  let v497 : BitVec 32 := Scalar.maxsi c0_i32_293 v496
  let v498 : BitVec 32 := Scalar.minsi c768_i32_294 v497
  let v499 : BitVec 32 := v498
  let v611 : Index := Scalar.indexCast v499
  let c0_370 : Index := 0#32
  ![v611.toNat, 0]
def k0_cond25 (v10 : BitVec 32) : BitVec 1 :=
  let c1024_i32_52 : BitVec 32 := 1024#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let v105 : BitVec 32 := Scalar.subi c1024_i32_52 v104
  let c256_i32_70 : BitVec 32 := 256#32
  let v144 : BitVec 32 := Scalar.addi v105 c256_i32_70
  let c1_i32_71 : BitVec 32 := 1#32
  let v145 : BitVec 32 := Scalar.subi v144 c1_i32_71
  let c0_i32_73 : BitVec 32 := 0#32
  let v147 : BitVec 1 := Scalar.cmpi .sgt v145 c0_i32_73
  let v148 : BitVec 32 := Scalar.extui v147
  let c0_i32_74 : BitVec 32 := 0#32
  let v149 : BitVec 1 := Scalar.cmpi .slt v145 c0_i32_74
  let v150 : BitVec 32 := Scalar.extui v149
  let v151 : BitVec 32 := Scalar.subi v148 v150
  let c256_i32_72 : BitVec 32 := 256#32
  let c0_i32_75 : BitVec 32 := 0#32
  let v152 : BitVec 1 := Scalar.cmpi .sgt c256_i32_72 c0_i32_75
  let v153 : BitVec 32 := Scalar.extui v152
  let c0_i32_76 : BitVec 32 := 0#32
  let v154 : BitVec 1 := Scalar.cmpi .slt c256_i32_72 c0_i32_76
  let v155 : BitVec 32 := Scalar.extui v154
  let v156 : BitVec 32 := Scalar.subi v153 v155
  let v157 : BitVec 1 := Scalar.cmpi .ne v151 v156
  let v158 : BitVec 32 := Scalar.remsi v145 c256_i32_72
  let c0_i32_77 : BitVec 32 := 0#32
  let v159 : BitVec 1 := Scalar.cmpi .ne v158 c0_i32_77
  let v160 : BitVec 1 := Scalar.andi v157 v159
  let v146 : BitVec 32 := Scalar.divsi v145 c256_i32_72
  let c1_i32_78 : BitVec 32 := 1#32
  let v161 : BitVec 32 := Scalar.subi v146 c1_i32_78
  let v162 : BitVec 32 := Scalar.select v160 v161 v146
  let c2_i32_295 : BitVec 32 := 2#32
  let v500 : BitVec 1 := Scalar.cmpi .sgt v162 c2_i32_295
  let v501 : BitVec 32 := Scalar.extui v500
  let c0_i32_296 : BitVec 32 := 0#32
  let v502 : BitVec 1 := Scalar.cmpi .ne v501 c0_i32_296
  v502

def k0_mult25 (v10 : BitVec 32) : BitVec 32 :=
  let c768_i32_313 : BitVec 32 := 768#32
  let c0_i32_312 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_311 : BitVec 32 := 1024#32
  let c0_i32_310 : BitVec 32 := 0#32
  let c1024_i32_52 : BitVec 32 := 1024#32
  let v105 : BitVec 32 := Scalar.subi c1024_i32_52 v104
  let c256_i32_297 : BitVec 32 := 256#32
  let v503 : BitVec 32 := Scalar.addi v105 c256_i32_297
  let c1_i32_298 : BitVec 32 := 1#32
  let v504 : BitVec 32 := Scalar.subi v503 c1_i32_298
  let c0_i32_300 : BitVec 32 := 0#32
  let v506 : BitVec 1 := Scalar.cmpi .sgt v504 c0_i32_300
  let v507 : BitVec 32 := Scalar.extui v506
  let c0_i32_301 : BitVec 32 := 0#32
  let v508 : BitVec 1 := Scalar.cmpi .slt v504 c0_i32_301
  let v509 : BitVec 32 := Scalar.extui v508
  let v510 : BitVec 32 := Scalar.subi v507 v509
  let c256_i32_299 : BitVec 32 := 256#32
  let c0_i32_302 : BitVec 32 := 0#32
  let v511 : BitVec 1 := Scalar.cmpi .sgt c256_i32_299 c0_i32_302
  let v512 : BitVec 32 := Scalar.extui v511
  let c0_i32_303 : BitVec 32 := 0#32
  let v513 : BitVec 1 := Scalar.cmpi .slt c256_i32_299 c0_i32_303
  let v514 : BitVec 32 := Scalar.extui v513
  let v515 : BitVec 32 := Scalar.subi v512 v514
  let v516 : BitVec 1 := Scalar.cmpi .ne v510 v515
  let v517 : BitVec 32 := Scalar.remsi v504 c256_i32_299
  let c0_i32_304 : BitVec 32 := 0#32
  let v518 : BitVec 1 := Scalar.cmpi .ne v517 c0_i32_304
  let v519 : BitVec 1 := Scalar.andi v516 v518
  let v505 : BitVec 32 := Scalar.divsi v504 c256_i32_299
  let c1_i32_305 : BitVec 32 := 1#32
  let v520 : BitVec 32 := Scalar.subi v505 c1_i32_305
  let v521 : BitVec 32 := Scalar.select v519 v520 v505
  let c1_i32_306 : BitVec 32 := 1#32
  let v522 : BitVec 32 := Scalar.subi v521 c1_i32_306
  let c3_i32_307 : BitVec 32 := 3#32
  let v523 : BitVec 1 := Scalar.cmpi .eq v522 c3_i32_307
  let c256_i32_308 : BitVec 32 := 256#32
  let v524 : BitVec 32 := Scalar.subi v105 c256_i32_308
  let c768_i32_309 : BitVec 32 := 768#32
  let v525 : BitVec 32 := Scalar.select v523 v524 c768_i32_309
  let v526 : BitVec 32 := Scalar.maxsi c0_i32_310 v525
  let v527 : BitVec 32 := Scalar.minsi c1024_i32_311 v526
  let v528 : BitVec 32 := Scalar.addi v104 v527
  let v529 : BitVec 32 := Scalar.maxsi c0_i32_312 v528
  let v530 : BitVec 32 := Scalar.minsi c768_i32_313 v529
  v530
def k0_off25 (v10 : BitVec 32) : Fin 2 → Nat :=
  let c768_i32_313 : BitVec 32 := 768#32
  let c0_i32_312 : BitVec 32 := 0#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let c1024_i32_311 : BitVec 32 := 1024#32
  let c0_i32_310 : BitVec 32 := 0#32
  let c1024_i32_52 : BitVec 32 := 1024#32
  let v105 : BitVec 32 := Scalar.subi c1024_i32_52 v104
  let c256_i32_297 : BitVec 32 := 256#32
  let v503 : BitVec 32 := Scalar.addi v105 c256_i32_297
  let c1_i32_298 : BitVec 32 := 1#32
  let v504 : BitVec 32 := Scalar.subi v503 c1_i32_298
  let c0_i32_300 : BitVec 32 := 0#32
  let v506 : BitVec 1 := Scalar.cmpi .sgt v504 c0_i32_300
  let v507 : BitVec 32 := Scalar.extui v506
  let c0_i32_301 : BitVec 32 := 0#32
  let v508 : BitVec 1 := Scalar.cmpi .slt v504 c0_i32_301
  let v509 : BitVec 32 := Scalar.extui v508
  let v510 : BitVec 32 := Scalar.subi v507 v509
  let c256_i32_299 : BitVec 32 := 256#32
  let c0_i32_302 : BitVec 32 := 0#32
  let v511 : BitVec 1 := Scalar.cmpi .sgt c256_i32_299 c0_i32_302
  let v512 : BitVec 32 := Scalar.extui v511
  let c0_i32_303 : BitVec 32 := 0#32
  let v513 : BitVec 1 := Scalar.cmpi .slt c256_i32_299 c0_i32_303
  let v514 : BitVec 32 := Scalar.extui v513
  let v515 : BitVec 32 := Scalar.subi v512 v514
  let v516 : BitVec 1 := Scalar.cmpi .ne v510 v515
  let v517 : BitVec 32 := Scalar.remsi v504 c256_i32_299
  let c0_i32_304 : BitVec 32 := 0#32
  let v518 : BitVec 1 := Scalar.cmpi .ne v517 c0_i32_304
  let v519 : BitVec 1 := Scalar.andi v516 v518
  let v505 : BitVec 32 := Scalar.divsi v504 c256_i32_299
  let c1_i32_305 : BitVec 32 := 1#32
  let v520 : BitVec 32 := Scalar.subi v505 c1_i32_305
  let v521 : BitVec 32 := Scalar.select v519 v520 v505
  let c1_i32_306 : BitVec 32 := 1#32
  let v522 : BitVec 32 := Scalar.subi v521 c1_i32_306
  let c3_i32_307 : BitVec 32 := 3#32
  let v523 : BitVec 1 := Scalar.cmpi .eq v522 c3_i32_307
  let c256_i32_308 : BitVec 32 := 256#32
  let v524 : BitVec 32 := Scalar.subi v105 c256_i32_308
  let c768_i32_309 : BitVec 32 := 768#32
  let v525 : BitVec 32 := Scalar.select v523 v524 c768_i32_309
  let v526 : BitVec 32 := Scalar.maxsi c0_i32_310 v525
  let v527 : BitVec 32 := Scalar.minsi c1024_i32_311 v526
  let v528 : BitVec 32 := Scalar.addi v104 v527
  let v529 : BitVec 32 := Scalar.maxsi c0_i32_312 v528
  let v530 : BitVec 32 := Scalar.minsi c768_i32_313 v529
  let v531 : BitVec 32 := v530
  let v611 : Index := Scalar.indexCast v531
  let c0_370 : Index := 0#32
  ![v611.toNat, 0]
def k0_cond26 (v10 : BitVec 32) : BitVec 1 :=
  let c1024_i32_52 : BitVec 32 := 1024#32
  let c7_i32_43 : BitVec 32 := 7#32
  let v86 : BitVec 32 := Scalar.addi v10 c7_i32_43
  let c0_i32_45 : BitVec 32 := 0#32
  let v88 : BitVec 1 := Scalar.cmpi .sgt v86 c0_i32_45
  let v89 : BitVec 32 := Scalar.extui v88
  let c0_i32_46 : BitVec 32 := 0#32
  let v90 : BitVec 1 := Scalar.cmpi .slt v86 c0_i32_46
  let v91 : BitVec 32 := Scalar.extui v90
  let v92 : BitVec 32 := Scalar.subi v89 v91
  let c8_i32_44 : BitVec 32 := 8#32
  let c0_i32_47 : BitVec 32 := 0#32
  let v93 : BitVec 1 := Scalar.cmpi .sgt c8_i32_44 c0_i32_47
  let v94 : BitVec 32 := Scalar.extui v93
  let c0_i32_48 : BitVec 32 := 0#32
  let v95 : BitVec 1 := Scalar.cmpi .slt c8_i32_44 c0_i32_48
  let v96 : BitVec 32 := Scalar.extui v95
  let v97 : BitVec 32 := Scalar.subi v94 v96
  let v98 : BitVec 1 := Scalar.cmpi .ne v92 v97
  let v99 : BitVec 32 := Scalar.remsi v86 c8_i32_44
  let c0_i32_49 : BitVec 32 := 0#32
  let v100 : BitVec 1 := Scalar.cmpi .ne v99 c0_i32_49
  let v101 : BitVec 1 := Scalar.andi v98 v100
  let v87 : BitVec 32 := Scalar.divsi v86 c8_i32_44
  let c1_i32_50 : BitVec 32 := 1#32
  let v102 : BitVec 32 := Scalar.subi v87 c1_i32_50
  let v103 : BitVec 32 := Scalar.select v101 v102 v87
  let c8_i32_51 : BitVec 32 := 8#32
  let v104 : BitVec 32 := Scalar.muli v103 c8_i32_51
  let v105 : BitVec 32 := Scalar.subi c1024_i32_52 v104
  let c256_i32_70 : BitVec 32 := 256#32
  let v144 : BitVec 32 := Scalar.addi v105 c256_i32_70
  let c1_i32_71 : BitVec 32 := 1#32
  let v145 : BitVec 32 := Scalar.subi v144 c1_i32_71
  let c0_i32_73 : BitVec 32 := 0#32
  let v147 : BitVec 1 := Scalar.cmpi .sgt v145 c0_i32_73
  let v148 : BitVec 32 := Scalar.extui v147
  let c0_i32_74 : BitVec 32 := 0#32
  let v149 : BitVec 1 := Scalar.cmpi .slt v145 c0_i32_74
  let v150 : BitVec 32 := Scalar.extui v149
  let v151 : BitVec 32 := Scalar.subi v148 v150
  let c256_i32_72 : BitVec 32 := 256#32
  let c0_i32_75 : BitVec 32 := 0#32
  let v152 : BitVec 1 := Scalar.cmpi .sgt c256_i32_72 c0_i32_75
  let v153 : BitVec 32 := Scalar.extui v152
  let c0_i32_76 : BitVec 32 := 0#32
  let v154 : BitVec 1 := Scalar.cmpi .slt c256_i32_72 c0_i32_76
  let v155 : BitVec 32 := Scalar.extui v154
  let v156 : BitVec 32 := Scalar.subi v153 v155
  let v157 : BitVec 1 := Scalar.cmpi .ne v151 v156
  let v158 : BitVec 32 := Scalar.remsi v145 c256_i32_72
  let c0_i32_77 : BitVec 32 := 0#32
  let v159 : BitVec 1 := Scalar.cmpi .ne v158 c0_i32_77
  let v160 : BitVec 1 := Scalar.andi v157 v159
  let v146 : BitVec 32 := Scalar.divsi v145 c256_i32_72
  let c1_i32_78 : BitVec 32 := 1#32
  let v161 : BitVec 32 := Scalar.subi v146 c1_i32_78
  let v162 : BitVec 32 := Scalar.select v160 v161 v146
  let c3_i32_314 : BitVec 32 := 3#32
  let v532 : BitVec 1 := Scalar.cmpi .sgt v162 c3_i32_314
  let v533 : BitVec 32 := Scalar.extui v532
  let c0_i32_315 : BitVec 32 := 0#32
  let v534 : BitVec 1 := Scalar.cmpi .ne v533 c0_i32_315
  v534

def k0_off26 (v10 : BitVec 32) : Fin 2 → Nat :=
  let c768_i32_112 : BitVec 32 := 768#32
  let c0_i32_111 : BitVec 32 := 0#32
  let c0_i32_110 : BitVec 32 := 0#32
  let c1024_i32_108 : BitVec 32 := 1024#32
  let c0_i32_107 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_94 : BitVec 32 := 256#32
  let v188 : BitVec 32 := Scalar.addi v85 c256_i32_94
  let c1_i32_95 : BitVec 32 := 1#32
  let v189 : BitVec 32 := Scalar.subi v188 c1_i32_95
  let c0_i32_97 : BitVec 32 := 0#32
  let v191 : BitVec 1 := Scalar.cmpi .sgt v189 c0_i32_97
  let v192 : BitVec 32 := Scalar.extui v191
  let c0_i32_98 : BitVec 32 := 0#32
  let v193 : BitVec 1 := Scalar.cmpi .slt v189 c0_i32_98
  let v194 : BitVec 32 := Scalar.extui v193
  let v195 : BitVec 32 := Scalar.subi v192 v194
  let c256_i32_96 : BitVec 32 := 256#32
  let c0_i32_99 : BitVec 32 := 0#32
  let v196 : BitVec 1 := Scalar.cmpi .sgt c256_i32_96 c0_i32_99
  let v197 : BitVec 32 := Scalar.extui v196
  let c0_i32_100 : BitVec 32 := 0#32
  let v198 : BitVec 1 := Scalar.cmpi .slt c256_i32_96 c0_i32_100
  let v199 : BitVec 32 := Scalar.extui v198
  let v200 : BitVec 32 := Scalar.subi v197 v199
  let v201 : BitVec 1 := Scalar.cmpi .ne v195 v200
  let v202 : BitVec 32 := Scalar.remsi v189 c256_i32_96
  let c0_i32_101 : BitVec 32 := 0#32
  let v203 : BitVec 1 := Scalar.cmpi .ne v202 c0_i32_101
  let v204 : BitVec 1 := Scalar.andi v201 v203
  let v190 : BitVec 32 := Scalar.divsi v189 c256_i32_96
  let c1_i32_102 : BitVec 32 := 1#32
  let v205 : BitVec 32 := Scalar.subi v190 c1_i32_102
  let v206 : BitVec 32 := Scalar.select v204 v205 v190
  let c1_i32_103 : BitVec 32 := 1#32
  let v207 : BitVec 32 := Scalar.subi v206 c1_i32_103
  let c0_i32_104 : BitVec 32 := 0#32
  let v208 : BitVec 1 := Scalar.cmpi .eq v207 c0_i32_104
  let c256_i32_105 : BitVec 32 := 256#32
  let v209 : BitVec 32 := Scalar.subi v85 c256_i32_105
  let c0_i32_106 : BitVec 32 := 0#32
  let v210 : BitVec 32 := Scalar.select v208 v209 c0_i32_106
  let v211 : BitVec 32 := Scalar.maxsi c0_i32_107 v210
  let v212 : BitVec 32 := Scalar.minsi c1024_i32_108 v211
  let v217 : BitVec 32 := Scalar.addi c0_i32_110 v212
  let v218 : BitVec 32 := Scalar.maxsi c0_i32_111 v217
  let v219 : BitVec 32 := Scalar.minsi c768_i32_112 v218
  let v220 : BitVec 32 := v219
  let c0_i32_372 : BitVec 32 := 0#32
  ![v220.toNat, 0]
def k0_cond27 (v10 : BitVec 32) : BitVec 1 :=
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_61 : BitVec 32 := 256#32
  let v125 : BitVec 32 := Scalar.addi v85 c256_i32_61
  let c1_i32_62 : BitVec 32 := 1#32
  let v126 : BitVec 32 := Scalar.subi v125 c1_i32_62
  let c0_i32_64 : BitVec 32 := 0#32
  let v128 : BitVec 1 := Scalar.cmpi .sgt v126 c0_i32_64
  let v129 : BitVec 32 := Scalar.extui v128
  let c0_i32_65 : BitVec 32 := 0#32
  let v130 : BitVec 1 := Scalar.cmpi .slt v126 c0_i32_65
  let v131 : BitVec 32 := Scalar.extui v130
  let v132 : BitVec 32 := Scalar.subi v129 v131
  let c256_i32_63 : BitVec 32 := 256#32
  let c0_i32_66 : BitVec 32 := 0#32
  let v133 : BitVec 1 := Scalar.cmpi .sgt c256_i32_63 c0_i32_66
  let v134 : BitVec 32 := Scalar.extui v133
  let c0_i32_67 : BitVec 32 := 0#32
  let v135 : BitVec 1 := Scalar.cmpi .slt c256_i32_63 c0_i32_67
  let v136 : BitVec 32 := Scalar.extui v135
  let v137 : BitVec 32 := Scalar.subi v134 v136
  let v138 : BitVec 1 := Scalar.cmpi .ne v132 v137
  let v139 : BitVec 32 := Scalar.remsi v126 c256_i32_63
  let c0_i32_68 : BitVec 32 := 0#32
  let v140 : BitVec 1 := Scalar.cmpi .ne v139 c0_i32_68
  let v141 : BitVec 1 := Scalar.andi v138 v140
  let v127 : BitVec 32 := Scalar.divsi v126 c256_i32_63
  let c1_i32_69 : BitVec 32 := 1#32
  let v142 : BitVec 32 := Scalar.subi v127 c1_i32_69
  let v143 : BitVec 32 := Scalar.select v141 v142 v127
  let c0_i32_316 : BitVec 32 := 0#32
  let v535 : BitVec 1 := Scalar.cmpi .sgt v143 c0_i32_316
  let v536 : BitVec 32 := Scalar.extui v535
  let c0_i32_320 : BitVec 32 := 0#32
  let v537 : BitVec 1 := Scalar.cmpi .ne v536 c0_i32_320
  v537

def k0_off27 (v10 : BitVec 32) : Fin 2 → Nat :=
  let c768_i32_153 : BitVec 32 := 768#32
  let c0_i32_152 : BitVec 32 := 0#32
  let c0_i32_151 : BitVec 32 := 0#32
  let c1024_i32_148 : BitVec 32 := 1024#32
  let c0_i32_147 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_134 : BitVec 32 := 256#32
  let v249 : BitVec 32 := Scalar.addi v85 c256_i32_134
  let c1_i32_135 : BitVec 32 := 1#32
  let v250 : BitVec 32 := Scalar.subi v249 c1_i32_135
  let c0_i32_137 : BitVec 32 := 0#32
  let v252 : BitVec 1 := Scalar.cmpi .sgt v250 c0_i32_137
  let v253 : BitVec 32 := Scalar.extui v252
  let c0_i32_138 : BitVec 32 := 0#32
  let v254 : BitVec 1 := Scalar.cmpi .slt v250 c0_i32_138
  let v255 : BitVec 32 := Scalar.extui v254
  let v256 : BitVec 32 := Scalar.subi v253 v255
  let c256_i32_136 : BitVec 32 := 256#32
  let c0_i32_139 : BitVec 32 := 0#32
  let v257 : BitVec 1 := Scalar.cmpi .sgt c256_i32_136 c0_i32_139
  let v258 : BitVec 32 := Scalar.extui v257
  let c0_i32_140 : BitVec 32 := 0#32
  let v259 : BitVec 1 := Scalar.cmpi .slt c256_i32_136 c0_i32_140
  let v260 : BitVec 32 := Scalar.extui v259
  let v261 : BitVec 32 := Scalar.subi v258 v260
  let v262 : BitVec 1 := Scalar.cmpi .ne v256 v261
  let v263 : BitVec 32 := Scalar.remsi v250 c256_i32_136
  let c0_i32_141 : BitVec 32 := 0#32
  let v264 : BitVec 1 := Scalar.cmpi .ne v263 c0_i32_141
  let v265 : BitVec 1 := Scalar.andi v262 v264
  let v251 : BitVec 32 := Scalar.divsi v250 c256_i32_136
  let c1_i32_142 : BitVec 32 := 1#32
  let v266 : BitVec 32 := Scalar.subi v251 c1_i32_142
  let v267 : BitVec 32 := Scalar.select v265 v266 v251
  let c1_i32_143 : BitVec 32 := 1#32
  let v268 : BitVec 32 := Scalar.subi v267 c1_i32_143
  let c1_i32_144 : BitVec 32 := 1#32
  let v269 : BitVec 1 := Scalar.cmpi .eq v268 c1_i32_144
  let c256_i32_145 : BitVec 32 := 256#32
  let v270 : BitVec 32 := Scalar.subi v85 c256_i32_145
  let c256_i32_146 : BitVec 32 := 256#32
  let v271 : BitVec 32 := Scalar.select v269 v270 c256_i32_146
  let v272 : BitVec 32 := Scalar.maxsi c0_i32_147 v271
  let v273 : BitVec 32 := Scalar.minsi c1024_i32_148 v272
  let v278 : BitVec 32 := Scalar.addi c0_i32_151 v273
  let v279 : BitVec 32 := Scalar.maxsi c0_i32_152 v278
  let v280 : BitVec 32 := Scalar.minsi c768_i32_153 v279
  let v281 : BitVec 32 := v280
  let c0_i32_372 : BitVec 32 := 0#32
  ![v281.toNat, 0]
def k0_cond28 (v10 : BitVec 32) : BitVec 1 :=
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_61 : BitVec 32 := 256#32
  let v125 : BitVec 32 := Scalar.addi v85 c256_i32_61
  let c1_i32_62 : BitVec 32 := 1#32
  let v126 : BitVec 32 := Scalar.subi v125 c1_i32_62
  let c0_i32_64 : BitVec 32 := 0#32
  let v128 : BitVec 1 := Scalar.cmpi .sgt v126 c0_i32_64
  let v129 : BitVec 32 := Scalar.extui v128
  let c0_i32_65 : BitVec 32 := 0#32
  let v130 : BitVec 1 := Scalar.cmpi .slt v126 c0_i32_65
  let v131 : BitVec 32 := Scalar.extui v130
  let v132 : BitVec 32 := Scalar.subi v129 v131
  let c256_i32_63 : BitVec 32 := 256#32
  let c0_i32_66 : BitVec 32 := 0#32
  let v133 : BitVec 1 := Scalar.cmpi .sgt c256_i32_63 c0_i32_66
  let v134 : BitVec 32 := Scalar.extui v133
  let c0_i32_67 : BitVec 32 := 0#32
  let v135 : BitVec 1 := Scalar.cmpi .slt c256_i32_63 c0_i32_67
  let v136 : BitVec 32 := Scalar.extui v135
  let v137 : BitVec 32 := Scalar.subi v134 v136
  let v138 : BitVec 1 := Scalar.cmpi .ne v132 v137
  let v139 : BitVec 32 := Scalar.remsi v126 c256_i32_63
  let c0_i32_68 : BitVec 32 := 0#32
  let v140 : BitVec 1 := Scalar.cmpi .ne v139 c0_i32_68
  let v141 : BitVec 1 := Scalar.andi v138 v140
  let v127 : BitVec 32 := Scalar.divsi v126 c256_i32_63
  let c1_i32_69 : BitVec 32 := 1#32
  let v142 : BitVec 32 := Scalar.subi v127 c1_i32_69
  let v143 : BitVec 32 := Scalar.select v141 v142 v127
  let c1_i32_321 : BitVec 32 := 1#32
  let v538 : BitVec 1 := Scalar.cmpi .sgt v143 c1_i32_321
  let v539 : BitVec 32 := Scalar.extui v538
  let c0_i32_325 : BitVec 32 := 0#32
  let v540 : BitVec 1 := Scalar.cmpi .ne v539 c0_i32_325
  v540

def k0_off28 (v10 : BitVec 32) : Fin 2 → Nat :=
  let c768_i32_193 : BitVec 32 := 768#32
  let c0_i32_192 : BitVec 32 := 0#32
  let c0_i32_191 : BitVec 32 := 0#32
  let c1024_i32_188 : BitVec 32 := 1024#32
  let c0_i32_187 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_174 : BitVec 32 := 256#32
  let v310 : BitVec 32 := Scalar.addi v85 c256_i32_174
  let c1_i32_175 : BitVec 32 := 1#32
  let v311 : BitVec 32 := Scalar.subi v310 c1_i32_175
  let c0_i32_177 : BitVec 32 := 0#32
  let v313 : BitVec 1 := Scalar.cmpi .sgt v311 c0_i32_177
  let v314 : BitVec 32 := Scalar.extui v313
  let c0_i32_178 : BitVec 32 := 0#32
  let v315 : BitVec 1 := Scalar.cmpi .slt v311 c0_i32_178
  let v316 : BitVec 32 := Scalar.extui v315
  let v317 : BitVec 32 := Scalar.subi v314 v316
  let c256_i32_176 : BitVec 32 := 256#32
  let c0_i32_179 : BitVec 32 := 0#32
  let v318 : BitVec 1 := Scalar.cmpi .sgt c256_i32_176 c0_i32_179
  let v319 : BitVec 32 := Scalar.extui v318
  let c0_i32_180 : BitVec 32 := 0#32
  let v320 : BitVec 1 := Scalar.cmpi .slt c256_i32_176 c0_i32_180
  let v321 : BitVec 32 := Scalar.extui v320
  let v322 : BitVec 32 := Scalar.subi v319 v321
  let v323 : BitVec 1 := Scalar.cmpi .ne v317 v322
  let v324 : BitVec 32 := Scalar.remsi v311 c256_i32_176
  let c0_i32_181 : BitVec 32 := 0#32
  let v325 : BitVec 1 := Scalar.cmpi .ne v324 c0_i32_181
  let v326 : BitVec 1 := Scalar.andi v323 v325
  let v312 : BitVec 32 := Scalar.divsi v311 c256_i32_176
  let c1_i32_182 : BitVec 32 := 1#32
  let v327 : BitVec 32 := Scalar.subi v312 c1_i32_182
  let v328 : BitVec 32 := Scalar.select v326 v327 v312
  let c1_i32_183 : BitVec 32 := 1#32
  let v329 : BitVec 32 := Scalar.subi v328 c1_i32_183
  let c2_i32_184 : BitVec 32 := 2#32
  let v330 : BitVec 1 := Scalar.cmpi .eq v329 c2_i32_184
  let c256_i32_185 : BitVec 32 := 256#32
  let v331 : BitVec 32 := Scalar.subi v85 c256_i32_185
  let c512_i32_186 : BitVec 32 := 512#32
  let v332 : BitVec 32 := Scalar.select v330 v331 c512_i32_186
  let v333 : BitVec 32 := Scalar.maxsi c0_i32_187 v332
  let v334 : BitVec 32 := Scalar.minsi c1024_i32_188 v333
  let v339 : BitVec 32 := Scalar.addi c0_i32_191 v334
  let v340 : BitVec 32 := Scalar.maxsi c0_i32_192 v339
  let v341 : BitVec 32 := Scalar.minsi c768_i32_193 v340
  let v342 : BitVec 32 := v341
  let c0_i32_372 : BitVec 32 := 0#32
  ![v342.toNat, 0]
def k0_cond29 (v10 : BitVec 32) : BitVec 1 :=
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_61 : BitVec 32 := 256#32
  let v125 : BitVec 32 := Scalar.addi v85 c256_i32_61
  let c1_i32_62 : BitVec 32 := 1#32
  let v126 : BitVec 32 := Scalar.subi v125 c1_i32_62
  let c0_i32_64 : BitVec 32 := 0#32
  let v128 : BitVec 1 := Scalar.cmpi .sgt v126 c0_i32_64
  let v129 : BitVec 32 := Scalar.extui v128
  let c0_i32_65 : BitVec 32 := 0#32
  let v130 : BitVec 1 := Scalar.cmpi .slt v126 c0_i32_65
  let v131 : BitVec 32 := Scalar.extui v130
  let v132 : BitVec 32 := Scalar.subi v129 v131
  let c256_i32_63 : BitVec 32 := 256#32
  let c0_i32_66 : BitVec 32 := 0#32
  let v133 : BitVec 1 := Scalar.cmpi .sgt c256_i32_63 c0_i32_66
  let v134 : BitVec 32 := Scalar.extui v133
  let c0_i32_67 : BitVec 32 := 0#32
  let v135 : BitVec 1 := Scalar.cmpi .slt c256_i32_63 c0_i32_67
  let v136 : BitVec 32 := Scalar.extui v135
  let v137 : BitVec 32 := Scalar.subi v134 v136
  let v138 : BitVec 1 := Scalar.cmpi .ne v132 v137
  let v139 : BitVec 32 := Scalar.remsi v126 c256_i32_63
  let c0_i32_68 : BitVec 32 := 0#32
  let v140 : BitVec 1 := Scalar.cmpi .ne v139 c0_i32_68
  let v141 : BitVec 1 := Scalar.andi v138 v140
  let v127 : BitVec 32 := Scalar.divsi v126 c256_i32_63
  let c1_i32_69 : BitVec 32 := 1#32
  let v142 : BitVec 32 := Scalar.subi v127 c1_i32_69
  let v143 : BitVec 32 := Scalar.select v141 v142 v127
  let c2_i32_326 : BitVec 32 := 2#32
  let v541 : BitVec 1 := Scalar.cmpi .sgt v143 c2_i32_326
  let v542 : BitVec 32 := Scalar.extui v541
  let c0_i32_330 : BitVec 32 := 0#32
  let v543 : BitVec 1 := Scalar.cmpi .ne v542 c0_i32_330
  v543

def k0_off29 (v10 : BitVec 32) : Fin 2 → Nat :=
  let c768_i32_233 : BitVec 32 := 768#32
  let c0_i32_232 : BitVec 32 := 0#32
  let c0_i32_231 : BitVec 32 := 0#32
  let c1024_i32_228 : BitVec 32 := 1024#32
  let c0_i32_227 : BitVec 32 := 0#32
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_214 : BitVec 32 := 256#32
  let v371 : BitVec 32 := Scalar.addi v85 c256_i32_214
  let c1_i32_215 : BitVec 32 := 1#32
  let v372 : BitVec 32 := Scalar.subi v371 c1_i32_215
  let c0_i32_217 : BitVec 32 := 0#32
  let v374 : BitVec 1 := Scalar.cmpi .sgt v372 c0_i32_217
  let v375 : BitVec 32 := Scalar.extui v374
  let c0_i32_218 : BitVec 32 := 0#32
  let v376 : BitVec 1 := Scalar.cmpi .slt v372 c0_i32_218
  let v377 : BitVec 32 := Scalar.extui v376
  let v378 : BitVec 32 := Scalar.subi v375 v377
  let c256_i32_216 : BitVec 32 := 256#32
  let c0_i32_219 : BitVec 32 := 0#32
  let v379 : BitVec 1 := Scalar.cmpi .sgt c256_i32_216 c0_i32_219
  let v380 : BitVec 32 := Scalar.extui v379
  let c0_i32_220 : BitVec 32 := 0#32
  let v381 : BitVec 1 := Scalar.cmpi .slt c256_i32_216 c0_i32_220
  let v382 : BitVec 32 := Scalar.extui v381
  let v383 : BitVec 32 := Scalar.subi v380 v382
  let v384 : BitVec 1 := Scalar.cmpi .ne v378 v383
  let v385 : BitVec 32 := Scalar.remsi v372 c256_i32_216
  let c0_i32_221 : BitVec 32 := 0#32
  let v386 : BitVec 1 := Scalar.cmpi .ne v385 c0_i32_221
  let v387 : BitVec 1 := Scalar.andi v384 v386
  let v373 : BitVec 32 := Scalar.divsi v372 c256_i32_216
  let c1_i32_222 : BitVec 32 := 1#32
  let v388 : BitVec 32 := Scalar.subi v373 c1_i32_222
  let v389 : BitVec 32 := Scalar.select v387 v388 v373
  let c1_i32_223 : BitVec 32 := 1#32
  let v390 : BitVec 32 := Scalar.subi v389 c1_i32_223
  let c3_i32_224 : BitVec 32 := 3#32
  let v391 : BitVec 1 := Scalar.cmpi .eq v390 c3_i32_224
  let c256_i32_225 : BitVec 32 := 256#32
  let v392 : BitVec 32 := Scalar.subi v85 c256_i32_225
  let c768_i32_226 : BitVec 32 := 768#32
  let v393 : BitVec 32 := Scalar.select v391 v392 c768_i32_226
  let v394 : BitVec 32 := Scalar.maxsi c0_i32_227 v393
  let v395 : BitVec 32 := Scalar.minsi c1024_i32_228 v394
  let v400 : BitVec 32 := Scalar.addi c0_i32_231 v395
  let v401 : BitVec 32 := Scalar.maxsi c0_i32_232 v400
  let v402 : BitVec 32 := Scalar.minsi c768_i32_233 v401
  let v403 : BitVec 32 := v402
  let c0_i32_372 : BitVec 32 := 0#32
  ![v403.toNat, 0]
def k0_cond30 (v10 : BitVec 32) : BitVec 1 :=
  let c7_i32 : BitVec 32 := 7#32
  let v67 : BitVec 32 := Scalar.addi v10 c7_i32
  let c0_i32_36 : BitVec 32 := 0#32
  let v69 : BitVec 1 := Scalar.cmpi .sgt v67 c0_i32_36
  let v70 : BitVec 32 := Scalar.extui v69
  let c0_i32_37 : BitVec 32 := 0#32
  let v71 : BitVec 1 := Scalar.cmpi .slt v67 c0_i32_37
  let v72 : BitVec 32 := Scalar.extui v71
  let v73 : BitVec 32 := Scalar.subi v70 v72
  let c8_i32_35 : BitVec 32 := 8#32
  let c0_i32_38 : BitVec 32 := 0#32
  let v74 : BitVec 1 := Scalar.cmpi .sgt c8_i32_35 c0_i32_38
  let v75 : BitVec 32 := Scalar.extui v74
  let c0_i32_39 : BitVec 32 := 0#32
  let v76 : BitVec 1 := Scalar.cmpi .slt c8_i32_35 c0_i32_39
  let v77 : BitVec 32 := Scalar.extui v76
  let v78 : BitVec 32 := Scalar.subi v75 v77
  let v79 : BitVec 1 := Scalar.cmpi .ne v73 v78
  let v80 : BitVec 32 := Scalar.remsi v67 c8_i32_35
  let c0_i32_40 : BitVec 32 := 0#32
  let v81 : BitVec 1 := Scalar.cmpi .ne v80 c0_i32_40
  let v82 : BitVec 1 := Scalar.andi v79 v81
  let v68 : BitVec 32 := Scalar.divsi v67 c8_i32_35
  let c1_i32_41 : BitVec 32 := 1#32
  let v83 : BitVec 32 := Scalar.subi v68 c1_i32_41
  let v84 : BitVec 32 := Scalar.select v82 v83 v68
  let c8_i32_42 : BitVec 32 := 8#32
  let v85 : BitVec 32 := Scalar.muli v84 c8_i32_42
  let c256_i32_61 : BitVec 32 := 256#32
  let v125 : BitVec 32 := Scalar.addi v85 c256_i32_61
  let c1_i32_62 : BitVec 32 := 1#32
  let v126 : BitVec 32 := Scalar.subi v125 c1_i32_62
  let c0_i32_64 : BitVec 32 := 0#32
  let v128 : BitVec 1 := Scalar.cmpi .sgt v126 c0_i32_64
  let v129 : BitVec 32 := Scalar.extui v128
  let c0_i32_65 : BitVec 32 := 0#32
  let v130 : BitVec 1 := Scalar.cmpi .slt v126 c0_i32_65
  let v131 : BitVec 32 := Scalar.extui v130
  let v132 : BitVec 32 := Scalar.subi v129 v131
  let c256_i32_63 : BitVec 32 := 256#32
  let c0_i32_66 : BitVec 32 := 0#32
  let v133 : BitVec 1 := Scalar.cmpi .sgt c256_i32_63 c0_i32_66
  let v134 : BitVec 32 := Scalar.extui v133
  let c0_i32_67 : BitVec 32 := 0#32
  let v135 : BitVec 1 := Scalar.cmpi .slt c256_i32_63 c0_i32_67
  let v136 : BitVec 32 := Scalar.extui v135
  let v137 : BitVec 32 := Scalar.subi v134 v136
  let v138 : BitVec 1 := Scalar.cmpi .ne v132 v137
  let v139 : BitVec 32 := Scalar.remsi v126 c256_i32_63
  let c0_i32_68 : BitVec 32 := 0#32
  let v140 : BitVec 1 := Scalar.cmpi .ne v139 c0_i32_68
  let v141 : BitVec 1 := Scalar.andi v138 v140
  let v127 : BitVec 32 := Scalar.divsi v126 c256_i32_63
  let c1_i32_69 : BitVec 32 := 1#32
  let v142 : BitVec 32 := Scalar.subi v127 c1_i32_69
  let v143 : BitVec 32 := Scalar.select v141 v142 v127
  let c3_i32_331 : BitVec 32 := 3#32
  let v544 : BitVec 1 := Scalar.cmpi .sgt v143 c3_i32_331
  let v545 : BitVec 32 := Scalar.extui v544
  let c0_i32_335 : BitVec 32 := 0#32
  let v546 : BitVec 1 := Scalar.cmpi .ne v545 c0_i32_335
  v546

def k0_off30 (v10 : BitVec 32) : Fin 2 → Nat :=
  let c768_i32 : BitVec 32 := 768#32
  let c0_i32_109 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_93 : BitVec 32 := 1024#32
  let c0_i32_92 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_79 : BitVec 32 := 256#32
  let v163 : BitVec 32 := Scalar.addi v47 c256_i32_79
  let c1_i32_80 : BitVec 32 := 1#32
  let v164 : BitVec 32 := Scalar.subi v163 c1_i32_80
  let c0_i32_82 : BitVec 32 := 0#32
  let v166 : BitVec 1 := Scalar.cmpi .sgt v164 c0_i32_82
  let v167 : BitVec 32 := Scalar.extui v166
  let c0_i32_83 : BitVec 32 := 0#32
  let v168 : BitVec 1 := Scalar.cmpi .slt v164 c0_i32_83
  let v169 : BitVec 32 := Scalar.extui v168
  let v170 : BitVec 32 := Scalar.subi v167 v169
  let c256_i32_81 : BitVec 32 := 256#32
  let c0_i32_84 : BitVec 32 := 0#32
  let v171 : BitVec 1 := Scalar.cmpi .sgt c256_i32_81 c0_i32_84
  let v172 : BitVec 32 := Scalar.extui v171
  let c0_i32_85 : BitVec 32 := 0#32
  let v173 : BitVec 1 := Scalar.cmpi .slt c256_i32_81 c0_i32_85
  let v174 : BitVec 32 := Scalar.extui v173
  let v175 : BitVec 32 := Scalar.subi v172 v174
  let v176 : BitVec 1 := Scalar.cmpi .ne v170 v175
  let v177 : BitVec 32 := Scalar.remsi v164 c256_i32_81
  let c0_i32_86 : BitVec 32 := 0#32
  let v178 : BitVec 1 := Scalar.cmpi .ne v177 c0_i32_86
  let v179 : BitVec 1 := Scalar.andi v176 v178
  let v165 : BitVec 32 := Scalar.divsi v164 c256_i32_81
  let c1_i32_87 : BitVec 32 := 1#32
  let v180 : BitVec 32 := Scalar.subi v165 c1_i32_87
  let v181 : BitVec 32 := Scalar.select v179 v180 v165
  let c1_i32_88 : BitVec 32 := 1#32
  let v182 : BitVec 32 := Scalar.subi v181 c1_i32_88
  let c0_i32_89 : BitVec 32 := 0#32
  let v183 : BitVec 1 := Scalar.cmpi .eq v182 c0_i32_89
  let c256_i32_90 : BitVec 32 := 256#32
  let v184 : BitVec 32 := Scalar.subi v47 c256_i32_90
  let c0_i32_91 : BitVec 32 := 0#32
  let v185 : BitVec 32 := Scalar.select v183 v184 c0_i32_91
  let v186 : BitVec 32 := Scalar.maxsi c0_i32_92 v185
  let v187 : BitVec 32 := Scalar.minsi c1024_i32_93 v186
  let v213 : BitVec 32 := Scalar.addi v66 v187
  let v214 : BitVec 32 := Scalar.maxsi c0_i32_109 v213
  let v215 : BitVec 32 := Scalar.minsi c768_i32 v214
  let v216 : BitVec 32 := v215
  let c0_i32_371 : BitVec 32 := 0#32
  ![v216.toNat, 0]
def k0_cond31 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c0_i32_336 : BitVec 32 := 0#32
  let v547 : BitVec 1 := Scalar.cmpi .sgt v124 c0_i32_336
  let v548 : BitVec 32 := Scalar.extui v547
  let c0_i32_340 : BitVec 32 := 0#32
  let v549 : BitVec 1 := Scalar.cmpi .ne v548 c0_i32_340
  v549

def k0_off31 (v10 : BitVec 32) : Fin 2 → Nat :=
  let c768_i32_150 : BitVec 32 := 768#32
  let c0_i32_149 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_133 : BitVec 32 := 1024#32
  let c0_i32_132 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_119 : BitVec 32 := 256#32
  let v224 : BitVec 32 := Scalar.addi v47 c256_i32_119
  let c1_i32_120 : BitVec 32 := 1#32
  let v225 : BitVec 32 := Scalar.subi v224 c1_i32_120
  let c0_i32_122 : BitVec 32 := 0#32
  let v227 : BitVec 1 := Scalar.cmpi .sgt v225 c0_i32_122
  let v228 : BitVec 32 := Scalar.extui v227
  let c0_i32_123 : BitVec 32 := 0#32
  let v229 : BitVec 1 := Scalar.cmpi .slt v225 c0_i32_123
  let v230 : BitVec 32 := Scalar.extui v229
  let v231 : BitVec 32 := Scalar.subi v228 v230
  let c256_i32_121 : BitVec 32 := 256#32
  let c0_i32_124 : BitVec 32 := 0#32
  let v232 : BitVec 1 := Scalar.cmpi .sgt c256_i32_121 c0_i32_124
  let v233 : BitVec 32 := Scalar.extui v232
  let c0_i32_125 : BitVec 32 := 0#32
  let v234 : BitVec 1 := Scalar.cmpi .slt c256_i32_121 c0_i32_125
  let v235 : BitVec 32 := Scalar.extui v234
  let v236 : BitVec 32 := Scalar.subi v233 v235
  let v237 : BitVec 1 := Scalar.cmpi .ne v231 v236
  let v238 : BitVec 32 := Scalar.remsi v225 c256_i32_121
  let c0_i32_126 : BitVec 32 := 0#32
  let v239 : BitVec 1 := Scalar.cmpi .ne v238 c0_i32_126
  let v240 : BitVec 1 := Scalar.andi v237 v239
  let v226 : BitVec 32 := Scalar.divsi v225 c256_i32_121
  let c1_i32_127 : BitVec 32 := 1#32
  let v241 : BitVec 32 := Scalar.subi v226 c1_i32_127
  let v242 : BitVec 32 := Scalar.select v240 v241 v226
  let c1_i32_128 : BitVec 32 := 1#32
  let v243 : BitVec 32 := Scalar.subi v242 c1_i32_128
  let c1_i32_129 : BitVec 32 := 1#32
  let v244 : BitVec 1 := Scalar.cmpi .eq v243 c1_i32_129
  let c256_i32_130 : BitVec 32 := 256#32
  let v245 : BitVec 32 := Scalar.subi v47 c256_i32_130
  let c256_i32_131 : BitVec 32 := 256#32
  let v246 : BitVec 32 := Scalar.select v244 v245 c256_i32_131
  let v247 : BitVec 32 := Scalar.maxsi c0_i32_132 v246
  let v248 : BitVec 32 := Scalar.minsi c1024_i32_133 v247
  let v274 : BitVec 32 := Scalar.addi v66 v248
  let v275 : BitVec 32 := Scalar.maxsi c0_i32_149 v274
  let v276 : BitVec 32 := Scalar.minsi c768_i32_150 v275
  let v277 : BitVec 32 := v276
  let c0_i32_371 : BitVec 32 := 0#32
  ![v277.toNat, 0]
def k0_cond32 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c1_i32_341 : BitVec 32 := 1#32
  let v550 : BitVec 1 := Scalar.cmpi .sgt v124 c1_i32_341
  let v551 : BitVec 32 := Scalar.extui v550
  let c0_i32_345 : BitVec 32 := 0#32
  let v552 : BitVec 1 := Scalar.cmpi .ne v551 c0_i32_345
  v552

def k0_off32 (v10 : BitVec 32) : Fin 2 → Nat :=
  let c768_i32_190 : BitVec 32 := 768#32
  let c0_i32_189 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_173 : BitVec 32 := 1024#32
  let c0_i32_172 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_160 : BitVec 32 := 256#32
  let v285 : BitVec 32 := Scalar.addi v47 c256_i32_160
  let c1_i32_161 : BitVec 32 := 1#32
  let v286 : BitVec 32 := Scalar.subi v285 c1_i32_161
  let c0_i32_163 : BitVec 32 := 0#32
  let v288 : BitVec 1 := Scalar.cmpi .sgt v286 c0_i32_163
  let v289 : BitVec 32 := Scalar.extui v288
  let c0_i32_164 : BitVec 32 := 0#32
  let v290 : BitVec 1 := Scalar.cmpi .slt v286 c0_i32_164
  let v291 : BitVec 32 := Scalar.extui v290
  let v292 : BitVec 32 := Scalar.subi v289 v291
  let c256_i32_162 : BitVec 32 := 256#32
  let c0_i32_165 : BitVec 32 := 0#32
  let v293 : BitVec 1 := Scalar.cmpi .sgt c256_i32_162 c0_i32_165
  let v294 : BitVec 32 := Scalar.extui v293
  let c0_i32_166 : BitVec 32 := 0#32
  let v295 : BitVec 1 := Scalar.cmpi .slt c256_i32_162 c0_i32_166
  let v296 : BitVec 32 := Scalar.extui v295
  let v297 : BitVec 32 := Scalar.subi v294 v296
  let v298 : BitVec 1 := Scalar.cmpi .ne v292 v297
  let v299 : BitVec 32 := Scalar.remsi v286 c256_i32_162
  let c0_i32_167 : BitVec 32 := 0#32
  let v300 : BitVec 1 := Scalar.cmpi .ne v299 c0_i32_167
  let v301 : BitVec 1 := Scalar.andi v298 v300
  let v287 : BitVec 32 := Scalar.divsi v286 c256_i32_162
  let c1_i32_168 : BitVec 32 := 1#32
  let v302 : BitVec 32 := Scalar.subi v287 c1_i32_168
  let v303 : BitVec 32 := Scalar.select v301 v302 v287
  let c1_i32_169 : BitVec 32 := 1#32
  let v304 : BitVec 32 := Scalar.subi v303 c1_i32_169
  let c2_i32_170 : BitVec 32 := 2#32
  let v305 : BitVec 1 := Scalar.cmpi .eq v304 c2_i32_170
  let c256_i32_171 : BitVec 32 := 256#32
  let v306 : BitVec 32 := Scalar.subi v47 c256_i32_171
  let c512_i32 : BitVec 32 := 512#32
  let v307 : BitVec 32 := Scalar.select v305 v306 c512_i32
  let v308 : BitVec 32 := Scalar.maxsi c0_i32_172 v307
  let v309 : BitVec 32 := Scalar.minsi c1024_i32_173 v308
  let v335 : BitVec 32 := Scalar.addi v66 v309
  let v336 : BitVec 32 := Scalar.maxsi c0_i32_189 v335
  let v337 : BitVec 32 := Scalar.minsi c768_i32_190 v336
  let v338 : BitVec 32 := v337
  let c0_i32_371 : BitVec 32 := 0#32
  ![v338.toNat, 0]
def k0_cond33 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c2_i32_346 : BitVec 32 := 2#32
  let v553 : BitVec 1 := Scalar.cmpi .sgt v124 c2_i32_346
  let v554 : BitVec 32 := Scalar.extui v553
  let c0_i32_350 : BitVec 32 := 0#32
  let v555 : BitVec 1 := Scalar.cmpi .ne v554 c0_i32_350
  v555

def k0_off33 (v10 : BitVec 32) : Fin 2 → Nat :=
  let c768_i32_230 : BitVec 32 := 768#32
  let c0_i32_229 : BitVec 32 := 0#32
  let c1024_i32_26 : BitVec 32 := 1024#32
  let v48 : BitVec 32 := Scalar.subi c1024_i32_26 v10
  let c0_i32_28 : BitVec 32 := 0#32
  let v50 : BitVec 1 := Scalar.cmpi .sgt v48 c0_i32_28
  let v51 : BitVec 32 := Scalar.extui v50
  let c0_i32_29 : BitVec 32 := 0#32
  let v52 : BitVec 1 := Scalar.cmpi .slt v48 c0_i32_29
  let v53 : BitVec 32 := Scalar.extui v52
  let v54 : BitVec 32 := Scalar.subi v51 v53
  let c8_i32_27 : BitVec 32 := 8#32
  let c0_i32_30 : BitVec 32 := 0#32
  let v55 : BitVec 1 := Scalar.cmpi .sgt c8_i32_27 c0_i32_30
  let v56 : BitVec 32 := Scalar.extui v55
  let c0_i32_31 : BitVec 32 := 0#32
  let v57 : BitVec 1 := Scalar.cmpi .slt c8_i32_27 c0_i32_31
  let v58 : BitVec 32 := Scalar.extui v57
  let v59 : BitVec 32 := Scalar.subi v56 v58
  let v60 : BitVec 1 := Scalar.cmpi .ne v54 v59
  let v61 : BitVec 32 := Scalar.remsi v48 c8_i32_27
  let c0_i32_32 : BitVec 32 := 0#32
  let v62 : BitVec 1 := Scalar.cmpi .ne v61 c0_i32_32
  let v63 : BitVec 1 := Scalar.andi v60 v62
  let v49 : BitVec 32 := Scalar.divsi v48 c8_i32_27
  let c1_i32_33 : BitVec 32 := 1#32
  let v64 : BitVec 32 := Scalar.subi v49 c1_i32_33
  let v65 : BitVec 32 := Scalar.select v63 v64 v49
  let c8_i32_34 : BitVec 32 := 8#32
  let v66 : BitVec 32 := Scalar.muli v65 c8_i32_34
  let c1024_i32_213 : BitVec 32 := 1024#32
  let c0_i32_212 : BitVec 32 := 0#32
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32_200 : BitVec 32 := 256#32
  let v346 : BitVec 32 := Scalar.addi v47 c256_i32_200
  let c1_i32_201 : BitVec 32 := 1#32
  let v347 : BitVec 32 := Scalar.subi v346 c1_i32_201
  let c0_i32_203 : BitVec 32 := 0#32
  let v349 : BitVec 1 := Scalar.cmpi .sgt v347 c0_i32_203
  let v350 : BitVec 32 := Scalar.extui v349
  let c0_i32_204 : BitVec 32 := 0#32
  let v351 : BitVec 1 := Scalar.cmpi .slt v347 c0_i32_204
  let v352 : BitVec 32 := Scalar.extui v351
  let v353 : BitVec 32 := Scalar.subi v350 v352
  let c256_i32_202 : BitVec 32 := 256#32
  let c0_i32_205 : BitVec 32 := 0#32
  let v354 : BitVec 1 := Scalar.cmpi .sgt c256_i32_202 c0_i32_205
  let v355 : BitVec 32 := Scalar.extui v354
  let c0_i32_206 : BitVec 32 := 0#32
  let v356 : BitVec 1 := Scalar.cmpi .slt c256_i32_202 c0_i32_206
  let v357 : BitVec 32 := Scalar.extui v356
  let v358 : BitVec 32 := Scalar.subi v355 v357
  let v359 : BitVec 1 := Scalar.cmpi .ne v353 v358
  let v360 : BitVec 32 := Scalar.remsi v347 c256_i32_202
  let c0_i32_207 : BitVec 32 := 0#32
  let v361 : BitVec 1 := Scalar.cmpi .ne v360 c0_i32_207
  let v362 : BitVec 1 := Scalar.andi v359 v361
  let v348 : BitVec 32 := Scalar.divsi v347 c256_i32_202
  let c1_i32_208 : BitVec 32 := 1#32
  let v363 : BitVec 32 := Scalar.subi v348 c1_i32_208
  let v364 : BitVec 32 := Scalar.select v362 v363 v348
  let c1_i32_209 : BitVec 32 := 1#32
  let v365 : BitVec 32 := Scalar.subi v364 c1_i32_209
  let c3_i32 : BitVec 32 := 3#32
  let v366 : BitVec 1 := Scalar.cmpi .eq v365 c3_i32
  let c256_i32_210 : BitVec 32 := 256#32
  let v367 : BitVec 32 := Scalar.subi v47 c256_i32_210
  let c768_i32_211 : BitVec 32 := 768#32
  let v368 : BitVec 32 := Scalar.select v366 v367 c768_i32_211
  let v369 : BitVec 32 := Scalar.maxsi c0_i32_212 v368
  let v370 : BitVec 32 := Scalar.minsi c1024_i32_213 v369
  let v396 : BitVec 32 := Scalar.addi v66 v370
  let v397 : BitVec 32 := Scalar.maxsi c0_i32_229 v396
  let v398 : BitVec 32 := Scalar.minsi c768_i32_230 v397
  let v399 : BitVec 32 := v398
  let c0_i32_371 : BitVec 32 := 0#32
  ![v399.toNat, 0]
def k0_cond34 (v10 : BitVec 32) : BitVec 1 :=
  let c1024_i32_25 : BitVec 32 := 1024#32
  let c1024_i32 : BitVec 32 := 1024#32
  let v28 : BitVec 32 := Scalar.subi c1024_i32 v10
  let c0_i32_18 : BitVec 32 := 0#32
  let v30 : BitVec 1 := Scalar.cmpi .sgt v28 c0_i32_18
  let v31 : BitVec 32 := Scalar.extui v30
  let c0_i32_19 : BitVec 32 := 0#32
  let v32 : BitVec 1 := Scalar.cmpi .slt v28 c0_i32_19
  let v33 : BitVec 32 := Scalar.extui v32
  let v34 : BitVec 32 := Scalar.subi v31 v33
  let c8_i32_17 : BitVec 32 := 8#32
  let c0_i32_20 : BitVec 32 := 0#32
  let v35 : BitVec 1 := Scalar.cmpi .sgt c8_i32_17 c0_i32_20
  let v36 : BitVec 32 := Scalar.extui v35
  let c0_i32_21 : BitVec 32 := 0#32
  let v37 : BitVec 1 := Scalar.cmpi .slt c8_i32_17 c0_i32_21
  let v38 : BitVec 32 := Scalar.extui v37
  let v39 : BitVec 32 := Scalar.subi v36 v38
  let v40 : BitVec 1 := Scalar.cmpi .ne v34 v39
  let v41 : BitVec 32 := Scalar.remsi v28 c8_i32_17
  let c0_i32_22 : BitVec 32 := 0#32
  let v42 : BitVec 1 := Scalar.cmpi .ne v41 c0_i32_22
  let v43 : BitVec 1 := Scalar.andi v40 v42
  let v29 : BitVec 32 := Scalar.divsi v28 c8_i32_17
  let c1_i32_23 : BitVec 32 := 1#32
  let v44 : BitVec 32 := Scalar.subi v29 c1_i32_23
  let v45 : BitVec 32 := Scalar.select v43 v44 v29
  let c8_i32_24 : BitVec 32 := 8#32
  let v46 : BitVec 32 := Scalar.muli v45 c8_i32_24
  let v47 : BitVec 32 := Scalar.subi c1024_i32_25 v46
  let c256_i32 : BitVec 32 := 256#32
  let v106 : BitVec 32 := Scalar.addi v47 c256_i32
  let c1_i32_53 : BitVec 32 := 1#32
  let v107 : BitVec 32 := Scalar.subi v106 c1_i32_53
  let c0_i32_55 : BitVec 32 := 0#32
  let v109 : BitVec 1 := Scalar.cmpi .sgt v107 c0_i32_55
  let v110 : BitVec 32 := Scalar.extui v109
  let c0_i32_56 : BitVec 32 := 0#32
  let v111 : BitVec 1 := Scalar.cmpi .slt v107 c0_i32_56
  let v112 : BitVec 32 := Scalar.extui v111
  let v113 : BitVec 32 := Scalar.subi v110 v112
  let c256_i32_54 : BitVec 32 := 256#32
  let c0_i32_57 : BitVec 32 := 0#32
  let v114 : BitVec 1 := Scalar.cmpi .sgt c256_i32_54 c0_i32_57
  let v115 : BitVec 32 := Scalar.extui v114
  let c0_i32_58 : BitVec 32 := 0#32
  let v116 : BitVec 1 := Scalar.cmpi .slt c256_i32_54 c0_i32_58
  let v117 : BitVec 32 := Scalar.extui v116
  let v118 : BitVec 32 := Scalar.subi v115 v117
  let v119 : BitVec 1 := Scalar.cmpi .ne v113 v118
  let v120 : BitVec 32 := Scalar.remsi v107 c256_i32_54
  let c0_i32_59 : BitVec 32 := 0#32
  let v121 : BitVec 1 := Scalar.cmpi .ne v120 c0_i32_59
  let v122 : BitVec 1 := Scalar.andi v119 v121
  let v108 : BitVec 32 := Scalar.divsi v107 c256_i32_54
  let c1_i32_60 : BitVec 32 := 1#32
  let v123 : BitVec 32 := Scalar.subi v108 c1_i32_60
  let v124 : BitVec 32 := Scalar.select v122 v123 v108
  let c3_i32_351 : BitVec 32 := 3#32
  let v556 : BitVec 1 := Scalar.cmpi .sgt v124 c3_i32_351
  let v557 : BitVec 32 := Scalar.extui v556
  let c0_i32_355 : BitVec 32 := 0#32
  let v558 : BitVec 1 := Scalar.cmpi .ne v557 c0_i32_355
  v558

def k0_mult26 (v10 : BitVec 32) : BitVec 32 :=
  let c1016_i32 : BitVec 32 := 1016#32
  let c0_i32_364 : BitVec 32 := 0#32
  let c0_i32_357 : BitVec 32 := 0#32
  let v560 : BitVec 1 := Scalar.cmpi .sgt v10 c0_i32_357
  let v561 : BitVec 32 := Scalar.extui v560
  let c0_i32_358 : BitVec 32 := 0#32
  let v562 : BitVec 1 := Scalar.cmpi .slt v10 c0_i32_358
  let v563 : BitVec 32 := Scalar.extui v562
  let v564 : BitVec 32 := Scalar.subi v561 v563
  let c8_i32_356 : BitVec 32 := 8#32
  let c0_i32_359 : BitVec 32 := 0#32
  let v565 : BitVec 1 := Scalar.cmpi .sgt c8_i32_356 c0_i32_359
  let v566 : BitVec 32 := Scalar.extui v565
  let c0_i32_360 : BitVec 32 := 0#32
  let v567 : BitVec 1 := Scalar.cmpi .slt c8_i32_356 c0_i32_360
  let v568 : BitVec 32 := Scalar.extui v567
  let v569 : BitVec 32 := Scalar.subi v566 v568
  let v570 : BitVec 1 := Scalar.cmpi .ne v564 v569
  let v571 : BitVec 32 := Scalar.remsi v10 c8_i32_356
  let c0_i32_361 : BitVec 32 := 0#32
  let v572 : BitVec 1 := Scalar.cmpi .ne v571 c0_i32_361
  let v573 : BitVec 1 := Scalar.andi v570 v572
  let v559 : BitVec 32 := Scalar.divsi v10 c8_i32_356
  let c1_i32_362 : BitVec 32 := 1#32
  let v574 : BitVec 32 := Scalar.subi v559 c1_i32_362
  let v575 : BitVec 32 := Scalar.select v573 v574 v559
  let c8_i32_363 : BitVec 32 := 8#32
  let v576 : BitVec 32 := Scalar.muli v575 c8_i32_363
  let v577 : BitVec 32 := Scalar.maxsi c0_i32_364 v576
  let v578 : BitVec 32 := Scalar.minsi c1016_i32 v577
  v578
def k0_off34 (v10 : BitVec 32) : Fin 2 → Nat :=
  let c1016_i32 : BitVec 32 := 1016#32
  let c0_i32_364 : BitVec 32 := 0#32
  let c0_i32_357 : BitVec 32 := 0#32
  let v560 : BitVec 1 := Scalar.cmpi .sgt v10 c0_i32_357
  let v561 : BitVec 32 := Scalar.extui v560
  let c0_i32_358 : BitVec 32 := 0#32
  let v562 : BitVec 1 := Scalar.cmpi .slt v10 c0_i32_358
  let v563 : BitVec 32 := Scalar.extui v562
  let v564 : BitVec 32 := Scalar.subi v561 v563
  let c8_i32_356 : BitVec 32 := 8#32
  let c0_i32_359 : BitVec 32 := 0#32
  let v565 : BitVec 1 := Scalar.cmpi .sgt c8_i32_356 c0_i32_359
  let v566 : BitVec 32 := Scalar.extui v565
  let c0_i32_360 : BitVec 32 := 0#32
  let v567 : BitVec 1 := Scalar.cmpi .slt c8_i32_356 c0_i32_360
  let v568 : BitVec 32 := Scalar.extui v567
  let v569 : BitVec 32 := Scalar.subi v566 v568
  let v570 : BitVec 1 := Scalar.cmpi .ne v564 v569
  let v571 : BitVec 32 := Scalar.remsi v10 c8_i32_356
  let c0_i32_361 : BitVec 32 := 0#32
  let v572 : BitVec 1 := Scalar.cmpi .ne v571 c0_i32_361
  let v573 : BitVec 1 := Scalar.andi v570 v572
  let v559 : BitVec 32 := Scalar.divsi v10 c8_i32_356
  let c1_i32_362 : BitVec 32 := 1#32
  let v574 : BitVec 32 := Scalar.subi v559 c1_i32_362
  let v575 : BitVec 32 := Scalar.select v573 v574 v559
  let c8_i32_363 : BitVec 32 := 8#32
  let v576 : BitVec 32 := Scalar.muli v575 c8_i32_363
  let v577 : BitVec 32 := Scalar.maxsi c0_i32_364 v576
  let v578 : BitVec 32 := Scalar.minsi c1016_i32 v577
  let v579 : BitVec 32 := v578
  let v580 : Index := Scalar.indexCast v579
  let c0_365 : Index := 0#32
  ![v580.toNat, 0]

def k0_chk1_0 (d0 : Dev nD) (v10 : BitVec 32) : Prop :=
  (∀ (k0_h1 : k0_cond1 d0 = 1#1), 8 ∣ (k0_mult1 v10).toNat) ∧
  (∀ (k0_h1 : k0_cond1 d0 = 1#1), 8 ∣ (k0_mult2 v10).toNat) ∧
  (∀ (k0_h1 : k0_cond1 d0 = 1#1), ∀ (k0_h2 : k0_cond2 v10 = 1#1), ∀ a, (k0_off1 v10) a + S256x512.size a ≤ S1024x512.size a) ∧
  (∀ (k0_h1 : k0_cond1 d0 = 1#1), 8 ∣ (k0_mult3 v10).toNat) ∧
  (∀ (k0_h1 : k0_cond1 d0 = 1#1), 8 ∣ (k0_mult4 v10).toNat) ∧
  (∀ (k0_h1 : k0_cond1 d0 = 1#1), ∀ (k0_h3 : k0_cond3 v10 = 1#1), ∀ a, (k0_off2 v10) a + S256x512.size a ≤ S1024x512.size a) ∧
  (∀ (k0_h1 : k0_cond1 d0 = 1#1), 8 ∣ (k0_mult5 v10).toNat) ∧
  (∀ (k0_h1 : k0_cond1 d0 = 1#1), 8 ∣ (k0_mult6 v10).toNat) ∧
  (∀ (k0_h1 : k0_cond1 d0 = 1#1), ∀ (k0_h4 : k0_cond4 v10 = 1#1), ∀ a, (k0_off3 v10) a + S256x512.size a ≤ S1024x512.size a) ∧
  (∀ (k0_h1 : k0_cond1 d0 = 1#1), 8 ∣ (k0_mult7 v10).toNat) ∧
  (∀ (k0_h1 : k0_cond1 d0 = 1#1), 8 ∣ (k0_mult8 v10).toNat) ∧
  (∀ (k0_h1 : k0_cond1 d0 = 1#1), ∀ (k0_h5 : k0_cond5 v10 = 1#1), ∀ a, (k0_off4 v10) a + S256x512.size a ≤ S1024x512.size a) ∧
  (∀ (k0_h1 : k0_cond1 d0 = 1#1), 8 ∣ (k0_mult9 v10).toNat) ∧
  (∀ (k0_h1 : k0_cond1 d0 = 1#1), ∀ (k0_h6 : k0_cond6 v10 = 1#1), ∀ a, (k0_off5 v10) a + S256x512.size a ≤ S1024x512.size a) ∧
  (∀ (k0_h1 : k0_cond1 d0 = 1#1), 8 ∣ (k0_mult10 v10).toNat) ∧
  (∀ (k0_h1 : k0_cond1 d0 = 1#1), ∀ (k0_h7 : k0_cond7 v10 = 1#1), ∀ a, (k0_off6 v10) a + S256x512.size a ≤ S1024x512.size a) ∧
  (∀ (k0_h1 : k0_cond1 d0 = 1#1), 8 ∣ (k0_mult11 v10).toNat) ∧
  (∀ (k0_h1 : k0_cond1 d0 = 1#1), ∀ (k0_h8 : k0_cond8 v10 = 1#1), ∀ a, (k0_off7 v10) a + S256x512.size a ≤ S1024x512.size a) ∧
  (∀ (k0_h1 : k0_cond1 d0 = 1#1), 8 ∣ (k0_mult12 v10).toNat) ∧
  (∀ (k0_h1 : k0_cond1 d0 = 1#1), ∀ (k0_h9 : k0_cond9 v10 = 1#1), ∀ a, (k0_off8 v10) a + S256x512.size a ≤ S1024x512.size a) ∧
  (∀ (k0_h1 : k0_cond1 d0 = 1#1), ∀ (k0_h10 : k0_cond10 v10 = 1#1), ∀ a, (k0_off9 v10) a + S256x512.size a ≤ S1024x512.size a) ∧
  (∀ (k0_h1 : k0_cond1 d0 = 1#1), ∀ (k0_h11 : k0_cond11 v10 = 1#1), ∀ a, (k0_off10 v10) a + S256x512.size a ≤ S1024x512.size a) ∧
  (∀ (k0_h1 : k0_cond1 d0 = 1#1), ∀ (k0_h12 : k0_cond12 v10 = 1#1), ∀ a, (k0_off11 v10) a + S256x512.size a ≤ S1024x512.size a) ∧
  (∀ (k0_h1 : k0_cond1 d0 = 1#1), ∀ (k0_h13 : k0_cond13 v10 = 1#1), ∀ a, (k0_off12 v10) a + S256x512.size a ≤ S1024x512.size a) ∧
  (∀ (k0_h1 : k0_cond1 d0 = 1#1), ∀ (k0_h14 : k0_cond14 v10 = 1#1), ∀ a, (k0_off13 v10) a + S256x512.size a ≤ S1024x512.size a) ∧
  (∀ (k0_h1 : k0_cond1 d0 = 1#1), ∀ (k0_h15 : k0_cond15 v10 = 1#1), ∀ a, (k0_off14 v10) a + S256x512.size a ≤ S1024x512.size a) ∧
  (∀ (k0_h1 : k0_cond1 d0 = 1#1), ∀ (k0_h16 : k0_cond16 v10 = 1#1), ∀ a, (k0_off15 v10) a + S256x512.size a ≤ S1024x512.size a) ∧
  (∀ (k0_h1 : k0_cond1 d0 = 1#1), ∀ (k0_h17 : k0_cond17 v10 = 1#1), ∀ a, (k0_off16 v10) a + S256x512.size a ≤ S1024x512.size a) ∧
  (∀ (k0_h1 : k0_cond1 d0 = 1#1), 8 ∣ (k0_mult13 v10).toNat) ∧
  (∀ (k0_h1 : k0_cond1 d0 = 1#1), ∀ a, (k0_off17 v10) a + S8x512.size a ≤ S1024x512.size a) ∧
  (∀ (k0_h18 : k0_cond18 d0 = 1#1), 8 ∣ (k0_mult14 v10).toNat) ∧
  (∀ (k0_h18 : k0_cond18 d0 = 1#1), 8 ∣ (k0_mult15 v10).toNat)
def k0_chk1_1 (d0 : Dev nD) (v10 : BitVec 32) : Prop :=
  (∀ (k0_h18 : k0_cond18 d0 = 1#1), ∀ (k0_h19 : k0_cond19 v10 = 1#1), ∀ a, (k0_off18 v10) a + S256x512.size a ≤ S1024x512.size a) ∧
  (∀ (k0_h18 : k0_cond18 d0 = 1#1), 8 ∣ (k0_mult16 v10).toNat) ∧
  (∀ (k0_h18 : k0_cond18 d0 = 1#1), 8 ∣ (k0_mult17 v10).toNat) ∧
  (∀ (k0_h18 : k0_cond18 d0 = 1#1), ∀ (k0_h20 : k0_cond20 v10 = 1#1), ∀ a, (k0_off19 v10) a + S256x512.size a ≤ S1024x512.size a) ∧
  (∀ (k0_h18 : k0_cond18 d0 = 1#1), 8 ∣ (k0_mult18 v10).toNat) ∧
  (∀ (k0_h18 : k0_cond18 d0 = 1#1), 8 ∣ (k0_mult19 v10).toNat) ∧
  (∀ (k0_h18 : k0_cond18 d0 = 1#1), ∀ (k0_h21 : k0_cond21 v10 = 1#1), ∀ a, (k0_off20 v10) a + S256x512.size a ≤ S1024x512.size a) ∧
  (∀ (k0_h18 : k0_cond18 d0 = 1#1), 8 ∣ (k0_mult20 v10).toNat) ∧
  (∀ (k0_h18 : k0_cond18 d0 = 1#1), 8 ∣ (k0_mult21 v10).toNat) ∧
  (∀ (k0_h18 : k0_cond18 d0 = 1#1), ∀ (k0_h22 : k0_cond22 v10 = 1#1), ∀ a, (k0_off21 v10) a + S256x512.size a ≤ S1024x512.size a) ∧
  (∀ (k0_h18 : k0_cond18 d0 = 1#1), 8 ∣ (k0_mult22 v10).toNat) ∧
  (∀ (k0_h18 : k0_cond18 d0 = 1#1), ∀ (k0_h23 : k0_cond23 v10 = 1#1), ∀ a, (k0_off22 v10) a + S256x512.size a ≤ S1024x512.size a) ∧
  (∀ (k0_h18 : k0_cond18 d0 = 1#1), 8 ∣ (k0_mult23 v10).toNat) ∧
  (∀ (k0_h18 : k0_cond18 d0 = 1#1), ∀ (k0_h24 : k0_cond24 v10 = 1#1), ∀ a, (k0_off23 v10) a + S256x512.size a ≤ S1024x512.size a) ∧
  (∀ (k0_h18 : k0_cond18 d0 = 1#1), 8 ∣ (k0_mult24 v10).toNat) ∧
  (∀ (k0_h18 : k0_cond18 d0 = 1#1), ∀ (k0_h25 : k0_cond25 v10 = 1#1), ∀ a, (k0_off24 v10) a + S256x512.size a ≤ S1024x512.size a) ∧
  (∀ (k0_h18 : k0_cond18 d0 = 1#1), 8 ∣ (k0_mult25 v10).toNat) ∧
  (∀ (k0_h18 : k0_cond18 d0 = 1#1), ∀ (k0_h26 : k0_cond26 v10 = 1#1), ∀ a, (k0_off25 v10) a + S256x512.size a ≤ S1024x512.size a) ∧
  (∀ (k0_h18 : k0_cond18 d0 = 1#1), ∀ (k0_h27 : k0_cond27 v10 = 1#1), ∀ a, (k0_off26 v10) a + S256x512.size a ≤ S1024x512.size a) ∧
  (∀ (k0_h18 : k0_cond18 d0 = 1#1), ∀ (k0_h28 : k0_cond28 v10 = 1#1), ∀ a, (k0_off27 v10) a + S256x512.size a ≤ S1024x512.size a) ∧
  (∀ (k0_h18 : k0_cond18 d0 = 1#1), ∀ (k0_h29 : k0_cond29 v10 = 1#1), ∀ a, (k0_off28 v10) a + S256x512.size a ≤ S1024x512.size a) ∧
  (∀ (k0_h18 : k0_cond18 d0 = 1#1), ∀ (k0_h30 : k0_cond30 v10 = 1#1), ∀ a, (k0_off29 v10) a + S256x512.size a ≤ S1024x512.size a) ∧
  (∀ (k0_h18 : k0_cond18 d0 = 1#1), ∀ (k0_h31 : k0_cond31 v10 = 1#1), ∀ a, (k0_off30 v10) a + S256x512.size a ≤ S1024x512.size a) ∧
  (∀ (k0_h18 : k0_cond18 d0 = 1#1), ∀ (k0_h32 : k0_cond32 v10 = 1#1), ∀ a, (k0_off31 v10) a + S256x512.size a ≤ S1024x512.size a) ∧
  (∀ (k0_h18 : k0_cond18 d0 = 1#1), ∀ (k0_h33 : k0_cond33 v10 = 1#1), ∀ a, (k0_off32 v10) a + S256x512.size a ≤ S1024x512.size a) ∧
  (∀ (k0_h18 : k0_cond18 d0 = 1#1), ∀ (k0_h34 : k0_cond34 v10 = 1#1), ∀ a, (k0_off33 v10) a + S256x512.size a ≤ S1024x512.size a) ∧
  (∀ (k0_h18 : k0_cond18 d0 = 1#1), 8 ∣ (k0_mult26 v10).toNat) ∧
  (∀ (k0_h18 : k0_cond18 d0 = 1#1), ∀ a, (k0_off34 v10) a + S8x512.size a ≤ S1024x512.size a)
def k0_chk1 (d0 : Dev nD) (v10 : BitVec 32) : Prop :=
  k0_chk1_0 d0 v10 ∧
  k0_chk1_1 d0 v10
theorem k0_mult1_dvd : ∀ (d0 : Dev nD) (v10 : BitVec 32) (k0_hw1 : k0_chk1 d0 v10), ∀ (k0_h1 : k0_cond1 d0 = 1#1), 8 ∣ (k0_mult1 v10).toNat := fun d0 v10 k0_hw1 k0_h1 => k0_hw1.1.1 k0_h1
theorem k0_mult2_dvd : ∀ (d0 : Dev nD) (v10 : BitVec 32) (k0_hw1 : k0_chk1 d0 v10), ∀ (k0_h1 : k0_cond1 d0 = 1#1), 8 ∣ (k0_mult2 v10).toNat := fun d0 v10 k0_hw1 k0_h1 => k0_hw1.1.2.1 k0_h1
theorem k0_off1_inb : ∀ (d0 : Dev nD) (v10 : BitVec 32) (k0_hw1 : k0_chk1 d0 v10), ∀ (k0_h1 : k0_cond1 d0 = 1#1), ∀ (k0_h2 : k0_cond2 v10 = 1#1), ∀ a, (k0_off1 v10) a + S256x512.size a ≤ S1024x512.size a := fun d0 v10 k0_hw1 k0_h1 k0_h2 => k0_hw1.1.2.2.1 k0_h1 k0_h2
theorem k0_mult3_dvd : ∀ (d0 : Dev nD) (v10 : BitVec 32) (k0_hw1 : k0_chk1 d0 v10), ∀ (k0_h1 : k0_cond1 d0 = 1#1), 8 ∣ (k0_mult3 v10).toNat := fun d0 v10 k0_hw1 k0_h1 => k0_hw1.1.2.2.2.1 k0_h1
theorem k0_mult4_dvd : ∀ (d0 : Dev nD) (v10 : BitVec 32) (k0_hw1 : k0_chk1 d0 v10), ∀ (k0_h1 : k0_cond1 d0 = 1#1), 8 ∣ (k0_mult4 v10).toNat := fun d0 v10 k0_hw1 k0_h1 => k0_hw1.1.2.2.2.2.1 k0_h1
theorem k0_off2_inb : ∀ (d0 : Dev nD) (v10 : BitVec 32) (k0_hw1 : k0_chk1 d0 v10), ∀ (k0_h1 : k0_cond1 d0 = 1#1), ∀ (k0_h3 : k0_cond3 v10 = 1#1), ∀ a, (k0_off2 v10) a + S256x512.size a ≤ S1024x512.size a := fun d0 v10 k0_hw1 k0_h1 k0_h3 => k0_hw1.1.2.2.2.2.2.1 k0_h1 k0_h3
theorem k0_mult5_dvd : ∀ (d0 : Dev nD) (v10 : BitVec 32) (k0_hw1 : k0_chk1 d0 v10), ∀ (k0_h1 : k0_cond1 d0 = 1#1), 8 ∣ (k0_mult5 v10).toNat := fun d0 v10 k0_hw1 k0_h1 => k0_hw1.1.2.2.2.2.2.2.1 k0_h1
theorem k0_mult6_dvd : ∀ (d0 : Dev nD) (v10 : BitVec 32) (k0_hw1 : k0_chk1 d0 v10), ∀ (k0_h1 : k0_cond1 d0 = 1#1), 8 ∣ (k0_mult6 v10).toNat := fun d0 v10 k0_hw1 k0_h1 => k0_hw1.1.2.2.2.2.2.2.2.1 k0_h1
theorem k0_off3_inb : ∀ (d0 : Dev nD) (v10 : BitVec 32) (k0_hw1 : k0_chk1 d0 v10), ∀ (k0_h1 : k0_cond1 d0 = 1#1), ∀ (k0_h4 : k0_cond4 v10 = 1#1), ∀ a, (k0_off3 v10) a + S256x512.size a ≤ S1024x512.size a := fun d0 v10 k0_hw1 k0_h1 k0_h4 => k0_hw1.1.2.2.2.2.2.2.2.2.1 k0_h1 k0_h4
theorem k0_mult7_dvd : ∀ (d0 : Dev nD) (v10 : BitVec 32) (k0_hw1 : k0_chk1 d0 v10), ∀ (k0_h1 : k0_cond1 d0 = 1#1), 8 ∣ (k0_mult7 v10).toNat := fun d0 v10 k0_hw1 k0_h1 => k0_hw1.1.2.2.2.2.2.2.2.2.2.1 k0_h1
theorem k0_mult8_dvd : ∀ (d0 : Dev nD) (v10 : BitVec 32) (k0_hw1 : k0_chk1 d0 v10), ∀ (k0_h1 : k0_cond1 d0 = 1#1), 8 ∣ (k0_mult8 v10).toNat := fun d0 v10 k0_hw1 k0_h1 => k0_hw1.1.2.2.2.2.2.2.2.2.2.2.1 k0_h1
theorem k0_off4_inb : ∀ (d0 : Dev nD) (v10 : BitVec 32) (k0_hw1 : k0_chk1 d0 v10), ∀ (k0_h1 : k0_cond1 d0 = 1#1), ∀ (k0_h5 : k0_cond5 v10 = 1#1), ∀ a, (k0_off4 v10) a + S256x512.size a ≤ S1024x512.size a := fun d0 v10 k0_hw1 k0_h1 k0_h5 => k0_hw1.1.2.2.2.2.2.2.2.2.2.2.2.1 k0_h1 k0_h5
theorem k0_mult9_dvd : ∀ (d0 : Dev nD) (v10 : BitVec 32) (k0_hw1 : k0_chk1 d0 v10), ∀ (k0_h1 : k0_cond1 d0 = 1#1), 8 ∣ (k0_mult9 v10).toNat := fun d0 v10 k0_hw1 k0_h1 => k0_hw1.1.2.2.2.2.2.2.2.2.2.2.2.2.1 k0_h1
theorem k0_off5_inb : ∀ (d0 : Dev nD) (v10 : BitVec 32) (k0_hw1 : k0_chk1 d0 v10), ∀ (k0_h1 : k0_cond1 d0 = 1#1), ∀ (k0_h6 : k0_cond6 v10 = 1#1), ∀ a, (k0_off5 v10) a + S256x512.size a ≤ S1024x512.size a := fun d0 v10 k0_hw1 k0_h1 k0_h6 => k0_hw1.1.2.2.2.2.2.2.2.2.2.2.2.2.2.1 k0_h1 k0_h6
theorem k0_mult10_dvd : ∀ (d0 : Dev nD) (v10 : BitVec 32) (k0_hw1 : k0_chk1 d0 v10), ∀ (k0_h1 : k0_cond1 d0 = 1#1), 8 ∣ (k0_mult10 v10).toNat := fun d0 v10 k0_hw1 k0_h1 => k0_hw1.1.2.2.2.2.2.2.2.2.2.2.2.2.2.2.1 k0_h1
theorem k0_off6_inb : ∀ (d0 : Dev nD) (v10 : BitVec 32) (k0_hw1 : k0_chk1 d0 v10), ∀ (k0_h1 : k0_cond1 d0 = 1#1), ∀ (k0_h7 : k0_cond7 v10 = 1#1), ∀ a, (k0_off6 v10) a + S256x512.size a ≤ S1024x512.size a := fun d0 v10 k0_hw1 k0_h1 k0_h7 => k0_hw1.1.2.2.2.2.2.2.2.2.2.2.2.2.2.2.2.1 k0_h1 k0_h7
theorem k0_mult11_dvd : ∀ (d0 : Dev nD) (v10 : BitVec 32) (k0_hw1 : k0_chk1 d0 v10), ∀ (k0_h1 : k0_cond1 d0 = 1#1), 8 ∣ (k0_mult11 v10).toNat := fun d0 v10 k0_hw1 k0_h1 => k0_hw1.1.2.2.2.2.2.2.2.2.2.2.2.2.2.2.2.2.1 k0_h1
theorem k0_off7_inb : ∀ (d0 : Dev nD) (v10 : BitVec 32) (k0_hw1 : k0_chk1 d0 v10), ∀ (k0_h1 : k0_cond1 d0 = 1#1), ∀ (k0_h8 : k0_cond8 v10 = 1#1), ∀ a, (k0_off7 v10) a + S256x512.size a ≤ S1024x512.size a := fun d0 v10 k0_hw1 k0_h1 k0_h8 => k0_hw1.1.2.2.2.2.2.2.2.2.2.2.2.2.2.2.2.2.2.1 k0_h1 k0_h8
theorem k0_mult12_dvd : ∀ (d0 : Dev nD) (v10 : BitVec 32) (k0_hw1 : k0_chk1 d0 v10), ∀ (k0_h1 : k0_cond1 d0 = 1#1), 8 ∣ (k0_mult12 v10).toNat := fun d0 v10 k0_hw1 k0_h1 => k0_hw1.1.2.2.2.2.2.2.2.2.2.2.2.2.2.2.2.2.2.2.1 k0_h1
theorem k0_off8_inb : ∀ (d0 : Dev nD) (v10 : BitVec 32) (k0_hw1 : k0_chk1 d0 v10), ∀ (k0_h1 : k0_cond1 d0 = 1#1), ∀ (k0_h9 : k0_cond9 v10 = 1#1), ∀ a, (k0_off8 v10) a + S256x512.size a ≤ S1024x512.size a := fun d0 v10 k0_hw1 k0_h1 k0_h9 => k0_hw1.1.2.2.2.2.2.2.2.2.2.2.2.2.2.2.2.2.2.2.2.1 k0_h1 k0_h9
theorem k0_off9_inb : ∀ (d0 : Dev nD) (v10 : BitVec 32) (k0_hw1 : k0_chk1 d0 v10), ∀ (k0_h1 : k0_cond1 d0 = 1#1), ∀ (k0_h10 : k0_cond10 v10 = 1#1), ∀ a, (k0_off9 v10) a + S256x512.size a ≤ S1024x512.size a := fun d0 v10 k0_hw1 k0_h1 k0_h10 => k0_hw1.1.2.2.2.2.2.2.2.2.2.2.2.2.2.2.2.2.2.2.2.2.1 k0_h1 k0_h10
theorem k0_off10_inb : ∀ (d0 : Dev nD) (v10 : BitVec 32) (k0_hw1 : k0_chk1 d0 v10), ∀ (k0_h1 : k0_cond1 d0 = 1#1), ∀ (k0_h11 : k0_cond11 v10 = 1#1), ∀ a, (k0_off10 v10) a + S256x512.size a ≤ S1024x512.size a := fun d0 v10 k0_hw1 k0_h1 k0_h11 => k0_hw1.1.2.2.2.2.2.2.2.2.2.2.2.2.2.2.2.2.2.2.2.2.2.1 k0_h1 k0_h11
theorem k0_off11_inb : ∀ (d0 : Dev nD) (v10 : BitVec 32) (k0_hw1 : k0_chk1 d0 v10), ∀ (k0_h1 : k0_cond1 d0 = 1#1), ∀ (k0_h12 : k0_cond12 v10 = 1#1), ∀ a, (k0_off11 v10) a + S256x512.size a ≤ S1024x512.size a := fun d0 v10 k0_hw1 k0_h1 k0_h12 => k0_hw1.1.2.2.2.2.2.2.2.2.2.2.2.2.2.2.2.2.2.2.2.2.2.2.1 k0_h1 k0_h12
theorem k0_off12_inb : ∀ (d0 : Dev nD) (v10 : BitVec 32) (k0_hw1 : k0_chk1 d0 v10), ∀ (k0_h1 : k0_cond1 d0 = 1#1), ∀ (k0_h13 : k0_cond13 v10 = 1#1), ∀ a, (k0_off12 v10) a + S256x512.size a ≤ S1024x512.size a := fun d0 v10 k0_hw1 k0_h1 k0_h13 => k0_hw1.1.2.2.2.2.2.2.2.2.2.2.2.2.2.2.2.2.2.2.2.2.2.2.2.1 k0_h1 k0_h13
theorem k0_off13_inb : ∀ (d0 : Dev nD) (v10 : BitVec 32) (k0_hw1 : k0_chk1 d0 v10), ∀ (k0_h1 : k0_cond1 d0 = 1#1), ∀ (k0_h14 : k0_cond14 v10 = 1#1), ∀ a, (k0_off13 v10) a + S256x512.size a ≤ S1024x512.size a := fun d0 v10 k0_hw1 k0_h1 k0_h14 => k0_hw1.1.2.2.2.2.2.2.2.2.2.2.2.2.2.2.2.2.2.2.2.2.2.2.2.2.1 k0_h1 k0_h14
theorem k0_off14_inb : ∀ (d0 : Dev nD) (v10 : BitVec 32) (k0_hw1 : k0_chk1 d0 v10), ∀ (k0_h1 : k0_cond1 d0 = 1#1), ∀ (k0_h15 : k0_cond15 v10 = 1#1), ∀ a, (k0_off14 v10) a + S256x512.size a ≤ S1024x512.size a := fun d0 v10 k0_hw1 k0_h1 k0_h15 => k0_hw1.1.2.2.2.2.2.2.2.2.2.2.2.2.2.2.2.2.2.2.2.2.2.2.2.2.2.1 k0_h1 k0_h15
theorem k0_off15_inb : ∀ (d0 : Dev nD) (v10 : BitVec 32) (k0_hw1 : k0_chk1 d0 v10), ∀ (k0_h1 : k0_cond1 d0 = 1#1), ∀ (k0_h16 : k0_cond16 v10 = 1#1), ∀ a, (k0_off15 v10) a + S256x512.size a ≤ S1024x512.size a := fun d0 v10 k0_hw1 k0_h1 k0_h16 => k0_hw1.1.2.2.2.2.2.2.2.2.2.2.2.2.2.2.2.2.2.2.2.2.2.2.2.2.2.2.1 k0_h1 k0_h16
theorem k0_off16_inb : ∀ (d0 : Dev nD) (v10 : BitVec 32) (k0_hw1 : k0_chk1 d0 v10), ∀ (k0_h1 : k0_cond1 d0 = 1#1), ∀ (k0_h17 : k0_cond17 v10 = 1#1), ∀ a, (k0_off16 v10) a + S256x512.size a ≤ S1024x512.size a := fun d0 v10 k0_hw1 k0_h1 k0_h17 => k0_hw1.1.2.2.2.2.2.2.2.2.2.2.2.2.2.2.2.2.2.2.2.2.2.2.2.2.2.2.2.1 k0_h1 k0_h17
theorem k0_mult13_dvd : ∀ (d0 : Dev nD) (v10 : BitVec 32) (k0_hw1 : k0_chk1 d0 v10), ∀ (k0_h1 : k0_cond1 d0 = 1#1), 8 ∣ (k0_mult13 v10).toNat := fun d0 v10 k0_hw1 k0_h1 => k0_hw1.1.2.2.2.2.2.2.2.2.2.2.2.2.2.2.2.2.2.2.2.2.2.2.2.2.2.2.2.2.1 k0_h1
theorem k0_off17_inb : ∀ (d0 : Dev nD) (v10 : BitVec 32) (k0_hw1 : k0_chk1 d0 v10), ∀ (k0_h1 : k0_cond1 d0 = 1#1), ∀ a, (k0_off17 v10) a + S8x512.size a ≤ S1024x512.size a := fun d0 v10 k0_hw1 k0_h1 => k0_hw1.1.2.2.2.2.2.2.2.2.2.2.2.2.2.2.2.2.2.2.2.2.2.2.2.2.2.2.2.2.2.1 k0_h1
theorem k0_mult14_dvd : ∀ (d0 : Dev nD) (v10 : BitVec 32) (k0_hw1 : k0_chk1 d0 v10), ∀ (k0_h18 : k0_cond18 d0 = 1#1), 8 ∣ (k0_mult14 v10).toNat := fun d0 v10 k0_hw1 k0_h18 => k0_hw1.1.2.2.2.2.2.2.2.2.2.2.2.2.2.2.2.2.2.2.2.2.2.2.2.2.2.2.2.2.2.2.1 k0_h18
theorem k0_mult15_dvd : ∀ (d0 : Dev nD) (v10 : BitVec 32) (k0_hw1 : k0_chk1 d0 v10), ∀ (k0_h18 : k0_cond18 d0 = 1#1), 8 ∣ (k0_mult15 v10).toNat := fun d0 v10 k0_hw1 k0_h18 => k0_hw1.1.2.2.2.2.2.2.2.2.2.2.2.2.2.2.2.2.2.2.2.2.2.2.2.2.2.2.2.2.2.2.2 k0_h18
theorem k0_off18_inb : ∀ (d0 : Dev nD) (v10 : BitVec 32) (k0_hw1 : k0_chk1 d0 v10), ∀ (k0_h18 : k0_cond18 d0 = 1#1), ∀ (k0_h19 : k0_cond19 v10 = 1#1), ∀ a, (k0_off18 v10) a + S256x512.size a ≤ S1024x512.size a := fun d0 v10 k0_hw1 k0_h18 k0_h19 => k0_hw1.2.1 k0_h18 k0_h19
theorem k0_mult16_dvd : ∀ (d0 : Dev nD) (v10 : BitVec 32) (k0_hw1 : k0_chk1 d0 v10), ∀ (k0_h18 : k0_cond18 d0 = 1#1), 8 ∣ (k0_mult16 v10).toNat := fun d0 v10 k0_hw1 k0_h18 => k0_hw1.2.2.1 k0_h18
theorem k0_mult17_dvd : ∀ (d0 : Dev nD) (v10 : BitVec 32) (k0_hw1 : k0_chk1 d0 v10), ∀ (k0_h18 : k0_cond18 d0 = 1#1), 8 ∣ (k0_mult17 v10).toNat := fun d0 v10 k0_hw1 k0_h18 => k0_hw1.2.2.2.1 k0_h18
theorem k0_off19_inb : ∀ (d0 : Dev nD) (v10 : BitVec 32) (k0_hw1 : k0_chk1 d0 v10), ∀ (k0_h18 : k0_cond18 d0 = 1#1), ∀ (k0_h20 : k0_cond20 v10 = 1#1), ∀ a, (k0_off19 v10) a + S256x512.size a ≤ S1024x512.size a := fun d0 v10 k0_hw1 k0_h18 k0_h20 => k0_hw1.2.2.2.2.1 k0_h18 k0_h20
theorem k0_mult18_dvd : ∀ (d0 : Dev nD) (v10 : BitVec 32) (k0_hw1 : k0_chk1 d0 v10), ∀ (k0_h18 : k0_cond18 d0 = 1#1), 8 ∣ (k0_mult18 v10).toNat := fun d0 v10 k0_hw1 k0_h18 => k0_hw1.2.2.2.2.2.1 k0_h18
theorem k0_mult19_dvd : ∀ (d0 : Dev nD) (v10 : BitVec 32) (k0_hw1 : k0_chk1 d0 v10), ∀ (k0_h18 : k0_cond18 d0 = 1#1), 8 ∣ (k0_mult19 v10).toNat := fun d0 v10 k0_hw1 k0_h18 => k0_hw1.2.2.2.2.2.2.1 k0_h18
theorem k0_off20_inb : ∀ (d0 : Dev nD) (v10 : BitVec 32) (k0_hw1 : k0_chk1 d0 v10), ∀ (k0_h18 : k0_cond18 d0 = 1#1), ∀ (k0_h21 : k0_cond21 v10 = 1#1), ∀ a, (k0_off20 v10) a + S256x512.size a ≤ S1024x512.size a := fun d0 v10 k0_hw1 k0_h18 k0_h21 => k0_hw1.2.2.2.2.2.2.2.1 k0_h18 k0_h21
theorem k0_mult20_dvd : ∀ (d0 : Dev nD) (v10 : BitVec 32) (k0_hw1 : k0_chk1 d0 v10), ∀ (k0_h18 : k0_cond18 d0 = 1#1), 8 ∣ (k0_mult20 v10).toNat := fun d0 v10 k0_hw1 k0_h18 => k0_hw1.2.2.2.2.2.2.2.2.1 k0_h18
theorem k0_mult21_dvd : ∀ (d0 : Dev nD) (v10 : BitVec 32) (k0_hw1 : k0_chk1 d0 v10), ∀ (k0_h18 : k0_cond18 d0 = 1#1), 8 ∣ (k0_mult21 v10).toNat := fun d0 v10 k0_hw1 k0_h18 => k0_hw1.2.2.2.2.2.2.2.2.2.1 k0_h18
theorem k0_off21_inb : ∀ (d0 : Dev nD) (v10 : BitVec 32) (k0_hw1 : k0_chk1 d0 v10), ∀ (k0_h18 : k0_cond18 d0 = 1#1), ∀ (k0_h22 : k0_cond22 v10 = 1#1), ∀ a, (k0_off21 v10) a + S256x512.size a ≤ S1024x512.size a := fun d0 v10 k0_hw1 k0_h18 k0_h22 => k0_hw1.2.2.2.2.2.2.2.2.2.2.1 k0_h18 k0_h22
theorem k0_mult22_dvd : ∀ (d0 : Dev nD) (v10 : BitVec 32) (k0_hw1 : k0_chk1 d0 v10), ∀ (k0_h18 : k0_cond18 d0 = 1#1), 8 ∣ (k0_mult22 v10).toNat := fun d0 v10 k0_hw1 k0_h18 => k0_hw1.2.2.2.2.2.2.2.2.2.2.2.1 k0_h18
theorem k0_off22_inb : ∀ (d0 : Dev nD) (v10 : BitVec 32) (k0_hw1 : k0_chk1 d0 v10), ∀ (k0_h18 : k0_cond18 d0 = 1#1), ∀ (k0_h23 : k0_cond23 v10 = 1#1), ∀ a, (k0_off22 v10) a + S256x512.size a ≤ S1024x512.size a := fun d0 v10 k0_hw1 k0_h18 k0_h23 => k0_hw1.2.2.2.2.2.2.2.2.2.2.2.2.1 k0_h18 k0_h23
theorem k0_mult23_dvd : ∀ (d0 : Dev nD) (v10 : BitVec 32) (k0_hw1 : k0_chk1 d0 v10), ∀ (k0_h18 : k0_cond18 d0 = 1#1), 8 ∣ (k0_mult23 v10).toNat := fun d0 v10 k0_hw1 k0_h18 => k0_hw1.2.2.2.2.2.2.2.2.2.2.2.2.2.1 k0_h18
theorem k0_off23_inb : ∀ (d0 : Dev nD) (v10 : BitVec 32) (k0_hw1 : k0_chk1 d0 v10), ∀ (k0_h18 : k0_cond18 d0 = 1#1), ∀ (k0_h24 : k0_cond24 v10 = 1#1), ∀ a, (k0_off23 v10) a + S256x512.size a ≤ S1024x512.size a := fun d0 v10 k0_hw1 k0_h18 k0_h24 => k0_hw1.2.2.2.2.2.2.2.2.2.2.2.2.2.2.1 k0_h18 k0_h24
theorem k0_mult24_dvd : ∀ (d0 : Dev nD) (v10 : BitVec 32) (k0_hw1 : k0_chk1 d0 v10), ∀ (k0_h18 : k0_cond18 d0 = 1#1), 8 ∣ (k0_mult24 v10).toNat := fun d0 v10 k0_hw1 k0_h18 => k0_hw1.2.2.2.2.2.2.2.2.2.2.2.2.2.2.2.1 k0_h18
theorem k0_off24_inb : ∀ (d0 : Dev nD) (v10 : BitVec 32) (k0_hw1 : k0_chk1 d0 v10), ∀ (k0_h18 : k0_cond18 d0 = 1#1), ∀ (k0_h25 : k0_cond25 v10 = 1#1), ∀ a, (k0_off24 v10) a + S256x512.size a ≤ S1024x512.size a := fun d0 v10 k0_hw1 k0_h18 k0_h25 => k0_hw1.2.2.2.2.2.2.2.2.2.2.2.2.2.2.2.2.1 k0_h18 k0_h25
theorem k0_mult25_dvd : ∀ (d0 : Dev nD) (v10 : BitVec 32) (k0_hw1 : k0_chk1 d0 v10), ∀ (k0_h18 : k0_cond18 d0 = 1#1), 8 ∣ (k0_mult25 v10).toNat := fun d0 v10 k0_hw1 k0_h18 => k0_hw1.2.2.2.2.2.2.2.2.2.2.2.2.2.2.2.2.2.1 k0_h18
theorem k0_off25_inb : ∀ (d0 : Dev nD) (v10 : BitVec 32) (k0_hw1 : k0_chk1 d0 v10), ∀ (k0_h18 : k0_cond18 d0 = 1#1), ∀ (k0_h26 : k0_cond26 v10 = 1#1), ∀ a, (k0_off25 v10) a + S256x512.size a ≤ S1024x512.size a := fun d0 v10 k0_hw1 k0_h18 k0_h26 => k0_hw1.2.2.2.2.2.2.2.2.2.2.2.2.2.2.2.2.2.2.1 k0_h18 k0_h26
theorem k0_off26_inb : ∀ (d0 : Dev nD) (v10 : BitVec 32) (k0_hw1 : k0_chk1 d0 v10), ∀ (k0_h18 : k0_cond18 d0 = 1#1), ∀ (k0_h27 : k0_cond27 v10 = 1#1), ∀ a, (k0_off26 v10) a + S256x512.size a ≤ S1024x512.size a := fun d0 v10 k0_hw1 k0_h18 k0_h27 => k0_hw1.2.2.2.2.2.2.2.2.2.2.2.2.2.2.2.2.2.2.2.1 k0_h18 k0_h27
theorem k0_off27_inb : ∀ (d0 : Dev nD) (v10 : BitVec 32) (k0_hw1 : k0_chk1 d0 v10), ∀ (k0_h18 : k0_cond18 d0 = 1#1), ∀ (k0_h28 : k0_cond28 v10 = 1#1), ∀ a, (k0_off27 v10) a + S256x512.size a ≤ S1024x512.size a := fun d0 v10 k0_hw1 k0_h18 k0_h28 => k0_hw1.2.2.2.2.2.2.2.2.2.2.2.2.2.2.2.2.2.2.2.2.1 k0_h18 k0_h28
theorem k0_off28_inb : ∀ (d0 : Dev nD) (v10 : BitVec 32) (k0_hw1 : k0_chk1 d0 v10), ∀ (k0_h18 : k0_cond18 d0 = 1#1), ∀ (k0_h29 : k0_cond29 v10 = 1#1), ∀ a, (k0_off28 v10) a + S256x512.size a ≤ S1024x512.size a := fun d0 v10 k0_hw1 k0_h18 k0_h29 => k0_hw1.2.2.2.2.2.2.2.2.2.2.2.2.2.2.2.2.2.2.2.2.2.1 k0_h18 k0_h29
theorem k0_off29_inb : ∀ (d0 : Dev nD) (v10 : BitVec 32) (k0_hw1 : k0_chk1 d0 v10), ∀ (k0_h18 : k0_cond18 d0 = 1#1), ∀ (k0_h30 : k0_cond30 v10 = 1#1), ∀ a, (k0_off29 v10) a + S256x512.size a ≤ S1024x512.size a := fun d0 v10 k0_hw1 k0_h18 k0_h30 => k0_hw1.2.2.2.2.2.2.2.2.2.2.2.2.2.2.2.2.2.2.2.2.2.2.1 k0_h18 k0_h30
theorem k0_off30_inb : ∀ (d0 : Dev nD) (v10 : BitVec 32) (k0_hw1 : k0_chk1 d0 v10), ∀ (k0_h18 : k0_cond18 d0 = 1#1), ∀ (k0_h31 : k0_cond31 v10 = 1#1), ∀ a, (k0_off30 v10) a + S256x512.size a ≤ S1024x512.size a := fun d0 v10 k0_hw1 k0_h18 k0_h31 => k0_hw1.2.2.2.2.2.2.2.2.2.2.2.2.2.2.2.2.2.2.2.2.2.2.2.1 k0_h18 k0_h31
theorem k0_off31_inb : ∀ (d0 : Dev nD) (v10 : BitVec 32) (k0_hw1 : k0_chk1 d0 v10), ∀ (k0_h18 : k0_cond18 d0 = 1#1), ∀ (k0_h32 : k0_cond32 v10 = 1#1), ∀ a, (k0_off31 v10) a + S256x512.size a ≤ S1024x512.size a := fun d0 v10 k0_hw1 k0_h18 k0_h32 => k0_hw1.2.2.2.2.2.2.2.2.2.2.2.2.2.2.2.2.2.2.2.2.2.2.2.2.1 k0_h18 k0_h32
theorem k0_off32_inb : ∀ (d0 : Dev nD) (v10 : BitVec 32) (k0_hw1 : k0_chk1 d0 v10), ∀ (k0_h18 : k0_cond18 d0 = 1#1), ∀ (k0_h33 : k0_cond33 v10 = 1#1), ∀ a, (k0_off32 v10) a + S256x512.size a ≤ S1024x512.size a := fun d0 v10 k0_hw1 k0_h18 k0_h33 => k0_hw1.2.2.2.2.2.2.2.2.2.2.2.2.2.2.2.2.2.2.2.2.2.2.2.2.2.1 k0_h18 k0_h33
theorem k0_off33_inb : ∀ (d0 : Dev nD) (v10 : BitVec 32) (k0_hw1 : k0_chk1 d0 v10), ∀ (k0_h18 : k0_cond18 d0 = 1#1), ∀ (k0_h34 : k0_cond34 v10 = 1#1), ∀ a, (k0_off33 v10) a + S256x512.size a ≤ S1024x512.size a := fun d0 v10 k0_hw1 k0_h18 k0_h34 => k0_hw1.2.2.2.2.2.2.2.2.2.2.2.2.2.2.2.2.2.2.2.2.2.2.2.2.2.2.1 k0_h18 k0_h34
theorem k0_mult26_dvd : ∀ (d0 : Dev nD) (v10 : BitVec 32) (k0_hw1 : k0_chk1 d0 v10), ∀ (k0_h18 : k0_cond18 d0 = 1#1), 8 ∣ (k0_mult26 v10).toNat := fun d0 v10 k0_hw1 k0_h18 => k0_hw1.2.2.2.2.2.2.2.2.2.2.2.2.2.2.2.2.2.2.2.2.2.2.2.2.2.2.2.1 k0_h18
theorem k0_off34_inb : ∀ (d0 : Dev nD) (v10 : BitVec 32) (k0_hw1 : k0_chk1 d0 v10), ∀ (k0_h18 : k0_cond18 d0 = 1#1), ∀ a, (k0_off34 v10) a + S8x512.size a ≤ S1024x512.size a := fun d0 v10 k0_hw1 k0_h18 => k0_hw1.2.2.2.2.2.2.2.2.2.2.2.2.2.2.2.2.2.2.2.2.2.2.2.2.2.2.2.2 k0_h18

abbrev stage0_0 : Fin 1 → Memref sig .tc .vmem S1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S2048x512 : Shape := ⟨2, ![2048, 512]⟩
abbrev S2048 : Shape := ⟨1, ![2048]⟩
abbrev S_ : Shape := ⟨0, ![]⟩
abbrev S2048x1 : Shape := ⟨2, ![2048, 1]⟩

abbrev nBuf : Space → Nat
  | .hbm => 14
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048, .i32⟩
  | .hbm, ⟨2, _⟩ => ⟨S2048, .i32⟩
  | .hbm, ⟨3, _⟩ => ⟨S2048, .i32⟩
  | .hbm, ⟨4, _⟩ => ⟨S2048, .i32⟩
  | .hbm, ⟨5, _⟩ => ⟨S_, .i32⟩
  | .hbm, ⟨6, _⟩ => ⟨S2048, .i32⟩
  | .hbm, ⟨7, _⟩ => ⟨S2048, .i1⟩
  | .hbm, ⟨8, _⟩ => ⟨S_, .i32⟩
  | .hbm, ⟨9, _⟩ => ⟨S2048, .i32⟩
  | .hbm, ⟨10, _⟩ => ⟨S2048, .i32⟩
  | .hbm, ⟨11, _⟩ => ⟨S2048, .i32⟩
  | .hbm, ⟨12, _⟩ => ⟨S2048x1, .i32⟩
  | .hbm, ⟨13, _⟩ => ⟨S2048x512, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Proof.HostReads.lean ====
module

public import proofs.«01_k».proof.Proof.Gen.KernelIdeal.Regions
public import Idealize.ShloMosaic.Lib.StableHlo.Run
public import Idealize.ShloMosaic.Lib.Routing.Words

/-!
# What each host line before the kernel leaves

One lemma per buffer that a later line reads, each for any entering contents `X` of the buffers.
-/

@[expose] public section

noncomputable section

namespace Cert.KProof

open Cert.KernelIdeal Cert.KernelIdeal.Gen
open Idealize.ShloMosaic Idealize.ShloMosaic.TcCoe Idealize.ShloMosaic.StableHlo Idealize.ShloMosaic.WordCmp
open Cert.KernelIdeal.Facts

variable {F : FTy → Type} [FloatOps F]

variable (X : Valuation τ sig (Elt F))

theorem read_v4 (c : Dev nD) : after (hostOps0 c) X main_v4
    = Host.remui (Host.divui (constantI S_ 32 (Dev.word c)) (constantI S_ 32 8#32)) (constantI S_ 32 2#32) := by
  unfold hostOps0; after_results_simp; rfl

theorem read_v6 (c : Dev nD) : after (hostOps0 c) X main_v6
    = cmpi .eq (X main_arg1) (broadcastInDim S1024 ![] bcast_S_S1024 (constantI S_ 32 0#32)) := by
  unfold hostOps0; after_results_simp

theorem read_v7 (c : Dev nD) : after (hostOps0 c) X main_v7
    = extui 32 (cmpi .eq (X main_arg1) (broadcastInDim S1024 ![] bcast_S_S1024 (constantI S_ 32 0#32))) natLt_1_32 := by
  unfold hostOps0; after_results_simp

theorem read_v8_of (f : IVec S1024 32 → IVec S_ 32 → IVec S1024 32) :
    after ([ TRef.nullary (.of main_call0_call0_c : TRef sig ⟨S_, .i32⟩) (constantI S_ 32 0#32),
      TRef.unary (.of main_call0_call0_c : TRef sig ⟨S_, .i32⟩) (.of main_call0_call0_v0 : TRef sig ⟨S_, .i32⟩) (broadcastInDim S_ ![] bcast_S_S_),
      TRef.binary (.of main_v7 : TRef sig ⟨S1024, .i32⟩) (.of main_call0_call0_v0 : TRef sig ⟨S_, .i32⟩) (.of main_v8 : TRef sig ⟨S1024, .i32⟩) f ] :
        List (HloOp τ sig (Elt F))) X main_v8
    = f (X main_v7) (broadcastInDim S_ ![] bcast_S_S_ (constantI S_ 32 0#32)) := by
  after_results_simp; rfl

theorem read_v8 : after hostOps0_1 X main_v8
    = Host.reduceWindow IntOp.addi ![1024] ![1] ![1023] ![0] (X main_v7)
        (broadcastInDim S_ ![] bcast_S_S_ (constantI S_ 32 0#32)) reduceWindows_S1024_S1024_w1024s1p1023_0 h_S_ :=
  read_v8_of X _

theorem read_v12 : after hostOps0_2 X main_v12
    = subi (addi (broadcastInDim S1024 ![] bcast_S_S1024 (constantI S_ 32 1#32)) (iotaInDim S1024 32 0)) (X main_v8) := by
  unfold hostOps0_2; after_results_simp

theorem read_v14 : after hostOps0_2 X main_v14
    = shapeCast S_ (extractStridedSlice S1 ![1023] (X main_v8) slices_S1024_S1_1023) shapeCasts_S1_S_ := by
  unfold hostOps0_2; after_results_simp; rfl

theorem read_v15 : after hostOps0_2 X main_v15
    = subi (constantI S_ 32 1024#32) (shapeCast S_ (extractStridedSlice S1 ![1023] (X main_v8) slices_S1024_S1_1023) shapeCasts_S1_S_) := by
  unfold hostOps0_2; after_results_simp; rfl

theorem read_c4 : after hostOps0_2 X main_c_4 = constantI S_ 32 8#32 := by
  unfold hostOps0_2; after_results_simp

/-- The remainder of two scalars with the divisor's sign, as the host line prints it. -/
def remLine (x d : IVec S_ 32) : IVec S_ 32 :=
  let q := select (cmpi .eq d (constantI S_ 32 0#32)) (constantI S_ 32 1#32) d
  let r := Host.remsi x q
  select (andi (cmpi .ne (cmpi .slt r (constantI S_ 32 0#32)) (cmpi .slt q (constantI S_ 32 0#32))) (cmpi .ne r (constantI S_ 32 0#32)))
    (addi r q) r

/-- The quotient of two scalars rounded down, as the host line prints it. -/
def divLine (x d : IVec S_ 32) : IVec S_ 32 :=
  select (andi (cmpi .ne (signi x) (signi d)) (cmpi .ne (Host.remsi x d) (constantI S_ 32 0#32)))
    (subi (Host.divsi x d) (constantI S_ 32 1#32)) (Host.divsi x d)

theorem read_v16 : after hostOps0_3 X main_v16 = remLine (X main_v15) (X main_c_4) := by
  unfold hostOps0_3; after_results_simp; simp only [TRef.ofBuf_toBuf]; simp only [TRef.ofBuf, TRef.toBuf, cast_eq, id_eq, remLine]

theorem remLine_val : remLine (fun _ => 512#32) (fun _ => 8#32) = fun _ => 0#32 := by
  have e : IntOp.remsi .host 512#32 8#32 = 0#32 := Routing.remsi_word .host (a := 512) (b := 8) (by decide) (by decide) (by decide)
  funext i
  show Scalar.select (IntOp.andi (IntOp.cmpi .ne (IntOp.cmpi .slt (IntOp.remsi .host 512#32 8#32) 0#32) (IntOp.cmpi .slt 8#32 0#32))
    (IntOp.cmpi .ne (IntOp.remsi .host 512#32 8#32) 0#32)) (IntOp.remsi .host 512#32 8#32 + 8#32) (IntOp.remsi .host 512#32 8#32) = 0#32
  rw [e]; rfl

theorem divLine_val : divLine (fun _ => 527#32) (fun _ => 8#32) = fun _ => 65#32 := by
  have e : IntOp.remsi .host 527#32 8#32 = 7#32 := Routing.remsi_word .host (a := 527) (b := 8) (by decide) (by decide) (by decide)
  have e' : IntOp.divsi .host 527#32 8#32 = 65#32 := Routing.divsi_word .host (a := 527) (b := 8) (by decide) (by decide) (by decide)
  funext i
  unfold divLine
  simp only [select_at, cmpi_at, andi_at, Routing.subi_ap, Host.remsi_apply, Host.divsi_apply, signi_apply, constantI_at, e, e']
  rfl

theorem read_v17 : after hostOps0_4 X main_v17 = cmpi .eq (X main_v4) (constantI S_ 32 0#32) := by
  unfold hostOps0_4; after_results_simp

theorem read_v19 : after hostOps0_4 X main_v19
    = addi (addi (X main_v14) (constantI S_ 32 8#32)) (constantI S_ 32 7#32) := by
  unfold hostOps0_4; after_results_simp

theorem read_c8 : after hostOps0_4 X main_c_8 = constantI S_ 32 8#32 := by
  unfold hostOps0_4; after_results_simp

theorem read_v20 : after hostOps0_5 X main_v20 = divLine (X main_v19) (X main_c_8) := by
  unfold hostOps0_5; after_results_simp; rfl

theorem read_v21 : after hostOps0_6 X main_v21 = muli (X main_v20) (constantI S_ 32 8#32) := by
  unfold hostOps0_6; after_results_simp

theorem read_c10 : after hostOps0_6 X main_c_10 = constantI S_ 32 0#32 := by
  unfold hostOps0_6; after_results_simp

theorem read_v22 : after hostOps0_7 X main_v22 = select (X main_v17) (X main_v21) (X main_c_10) := by
  unfold hostOps0_7; after_results_simp; rfl

theorem read_v23 : after hostOps0_8 X main_v23 = cmpi .eq (X main_v4) (constantI S_ 32 0#32) := by
  unfold hostOps0_8; after_results_simp

theorem read_v25 : after hostOps0_8 X main_v25
    = addi (X main_v8) (broadcastInDim S1024 ![] bcast_S_S1024 (constantI S_ 32 7#32)) := by
  unfold hostOps0_8; after_results_simp

theorem read_v29 : after hostOps0_8 X main_v29
    = subi (addi (broadcastInDim S1024 ![] bcast_S_S1024 (X main_v16)) (X main_v8))
        (broadcastInDim S1024 ![] bcast_S_S1024 (constantI S_ 32 1#32)) := by
  unfold hostOps0_8; after_results_simp

theorem read_v30 : after hostOps0_9 X main_v30
    = select (broadcastInDim S1024 ![] bcast_S_S1024 (X main_v23)) (X main_v25) (X main_v29) := by
  unfold hostOps0_9; after_results_simp; rfl

theorem read_v31 : after hostOps0_10 X main_v31 = cmpi .eq (X main_v4) (constantI S_ 32 0#32) := by
  unfold hostOps0_10; after_results_simp

theorem read_v35 : after hostOps0_10 X main_v35
    = subi (addi (broadcastInDim S1024 ![] bcast_S_S1024 (X main_v22)) (X main_v12))
        (broadcastInDim S1024 ![] bcast_S_S1024 (constantI S_ 32 1#32)) := by
  unfold hostOps0_10; after_results_simp

theorem read_v39 : after hostOps0_10 X main_v39
    = addi (addi (broadcastInDim S1024 ![] bcast_S_S1024 (X main_v14)) (X main_v12))
        (broadcastInDim S1024 ![] bcast_S_S1024 (constantI S_ 32 7#32)) := by
  unfold hostOps0_10; after_results_simp

theorem read_v40 : after hostOps0_11 X main_v40
    = select (broadcastInDim S1024 ![] bcast_S_S1024 (X main_v31)) (X main_v35) (X main_v39) := by
  unfold hostOps0_11; after_results_simp; rfl

theorem read_v41 : after hostOps0_12 X main_v41 = select (X main_v6) (X main_v30) (X main_v40) := by
  unfold hostOps0_12; after_results_simp; rfl

theorem read_v42 : after hostOps0_13 X main_v42 = shapeCast S1x1024 (X main_v41) shapeCasts_S1024_S1x1024 := by
  unfold hostOps0_13; after_results_simp; rfl

theorem read_v43 : after hostOps0_13 X main_v43 = shapeCast S1x1 (X main_v14) shapeCasts_S_S1x1 := by
  unfold hostOps0_13; after_results_simp; rfl

end Cert.KProof
-- ==== Proof.Steps.lean ====
/-
# The kernel body as nine kinds of steps

When a device holds 512 rows for each side, every branch and every offset of the kernel is known. What is left is a
straight line: two sends, two local stores, two receive waits, two send waits, and one group of eight rows stored again.
This module names those steps and proves that the printed parts are them.
-/
module

public import proofs.«01_k».proof.Proof.Gen.KernelIdeal.Skeleton
public import proofs.«01_k».proof.Proof.Gen.KernelIdeal.Points
public import proofs.«01_k».proof.Proof.Gen.KernelIdeal.Regions
public import proofs.«01_k».proof.Proof.Gen.KernelIdeal.Launch
public import Idealize.ShloMosaic.Lib.Tactic

@[expose] public section

noncomputable section

namespace Cert.KProof

open Cert.KernelIdeal Cert.KernelIdeal.Gen
open Idealize.ShloMosaic Idealize.SL.Sem

variable {F : FTy → Type} [FloatOps F]

/-! ## The buffers of one call -/

abbrev xM : Memref sig .tc .vmem S1024x512 .f32 := Memref.whole cc0_stg0_0
abbrev pM : Memref sig .tc .vmem S1x1024 .i32 := Memref.whole cc0_stg1_0
abbrev cM : Memref sig .tc .smem S1x1 .i32 := Memref.whole cc0_stg2_0
abbrev oM : Memref sig .tc .vmem S1024x512 .f32 := Memref.whole cc0_stg3_0
abbrev bM : Memref sig .tc .vmem S4x256x512 .f32 := Memref.whole cc0_scratch0

/-! ## The rows -/

/-- First row of block `i` of half `r`. -/
def rowNo (r : Bool) (i : Fin 2) : ℕ := r.toNat * 512 + 256 * i.val
abbrev rowOff (r : Bool) (i : Fin 2) : Fin 2 → ℕ := ![rowNo r i, 0]
theorem rowOff_inb (r : Bool) (i : Fin 2) : ∀ a, rowOff r i a + S256x512.size a ≤ S1024x512.size a := by
  revert r i; decide
abbrev slotOff (i : Fin 2) : Fin 3 → ℕ := ![i.val, 0, 0]
theorem slotOff_inb (i : Fin 2) : ∀ a, slotOff i a + S1x256x512.size a ≤ S4x256x512.size a := by revert i; decide
theorem semOff_inb (i : Fin 2) : ∀ a, (![i.val] : Fin 1 → ℕ) a + S1.size a ≤ S4.size a := by revert i; decide
abbrev fixOff : Fin 2 → ℕ := ![512, 0]
theorem fixOff_inb : ∀ a, fixOff a + S8x512.size a ≤ S1024x512.size a := by decide

/-- Rows `o` to `o + 255` of the result. -/
abbrev rowsM (o : Fin 2 → ℕ) (ho : ∀ a, o a + S256x512.size a ≤ S1024x512.size a) : Memref sig .tc .vmem S256x512 .f32 :=
  oM.slice (Rect.unit (s := S1024x512) o S256x512.size ho) (fun _ => rfl)
/-- Slot `i` of the send buffer. -/
abbrev slotRect (i : Fin 2) : Rect S4x256x512 := Rect.unit (s := S4x256x512) (slotOff i) S1x256x512.size (slotOff_inb i)
abbrev slotM (i : Fin 2) : Memref sig .tc .vmem S256x512 .f32 :=
  (bM.slice (slotRect i) (fun _ => rfl) : Memref sig .tc .vmem S1x256x512 .f32).squeeze S256x512 squeezes_S1x256x512_S256x512
abbrev sendS (i : Fin 2) : DmaSems sig S_ :=
  ((cc0_scratch1 : DmaSems sig S4).slice (Rect.unit (s := S4) ![i.val] S1.size (semOff_inb i)) : DmaSems sig S1).squeeze S_ squeezes_S1_S_
abbrev recvS (i : Fin 2) : DmaSems sig S_ :=
  ((cc0_scratch2 : DmaSems sig S4).slice (Rect.unit (s := S4) ![i.val] S1.size (semOff_inb i)) : DmaSems sig S1).squeeze S_ squeezes_S1_S_

/-! ## The rows of one product -/

/-- Which source row goes to which of the 256 rows from `b` on: 1 where the position is the row's number, else 0. -/
def hot (p : IVec S1x1024 32) (b : BitVec 32) : FVec F S256x1024 .f32 :=
  sitofp .f32 (extui 32 (cmpi .eq (broadcastTo S256x1024 (shapeCast S1x1024 p shapeCasts_S1x1024_S1x1024) broadcasts_S1x1024_S256x1024)
    (addi (broadcast S256x1024 b) (iota .tc S256x1024 32 [0] iota_S256x1024_d0_w32))) natLt_1_32)
/-- The 256 rows at positions `b` on. -/
def rows (p : IVec S1x1024 32) (x : FVec F S1024x512 .f32) (b : BitVec 32) : FVec F S256x512 .f32 :=
  matmul dot_S256x1024_S1024x512_S256x512_1_0_0_1_n_n none (hot p b) x (constant S256x512 .f32 0x00000000#32)
/-- The same rows, shaped as a slot of the send buffer. -/
def slab (p : IVec S1x1024 32) (x : FVec F S1024x512 .f32) (b : BitVec 32) : FVec F S1x256x512 .f32 :=
  shapeCast S1x256x512 (rows p x b) shapeCasts_S256x512_S1x256x512
/-- The eight rows at positions `b` on. -/
def rows8 (p : IVec S1x1024 32) (x : FVec F S1024x512 .f32) (b : BitVec 32) : FVec F S8x512 .f32 :=
  matmul dot_S8x1024_S1024x512_S8x512_1_0_0_1_n_n none
    (sitofp .f32 (extui 32 (cmpi .eq (broadcastTo S8x1024 (shapeCast S1x1024 p shapeCasts_S1x1024_S1x1024) broadcasts_S1x1024_S8x1024)
      (addi (broadcast S8x1024 b) (iota .tc S8x1024 32 [0] iota_S8x1024_d0_w32))) natLt_1_32)) x (constant S8x512 .f32 0x00000000#32)

/-! ## The steps -/

/-- Store a slab in slot `i` and start its copy to device `n`'s rows from `o` on. -/
def sendStep (i : Fin 2) (n : Dev nD) (o : Fin 2 → ℕ) (ho : ∀ a, o a + S256x512.size a ≤ S1024x512.size a) (w : FVec F S1x256x512 .f32) :
    Prog (TpuEff nD τ sig (Elt F) Λ₀ .tc) PUnit := do
  let _ : Vec F S1x256x512 .f32 ← Prog.lift (.load bM (slotRect i).toLoadRect (View.loadsAt_vmem h_S1x256x512))
  Prog.lift (.store bM (slotRect i) w Finset.univ (View.stores_vmem_bits_univ h_S1x256x512 rfl) (.inl rfl))
  Prog.lift (.enqueueDma (slotM i) (.remote (Dev.tc n) (rowsM o ho) (.dma (sendS i).sem)) (.dma (recvS i).sem)
    ((View.wordExact_bits rfl).reshape _ _) (View.wordExact_bits rfl) ⟨⟨rfl, Or.inl rfl⟩, trivial⟩)

/-- Store 256 rows in the result from `o` on. -/
def keepStep (o : Fin 2 → ℕ) (ho : ∀ a, o a + S256x512.size a ≤ S1024x512.size a) (w : FVec F S256x512 .f32) :
    Prog (TpuEff nD τ sig (Elt F) Λ₀ .tc) PUnit := do
  let _ : Vec F S256x512 .f32 ← Prog.lift (.load oM (Rect.unit (s := S1024x512) o S256x512.size ho).toLoadRect (View.loadsAt_vmem h_S256x512))
  Prog.lift (.store oM (Rect.unit (s := S1024x512) o S256x512.size ho) w Finset.univ (View.stores_vmem_bits_univ h_S256x512 rfl) (.inl rfl))

/-- Wait for the rows that land from `o` on. -/
def recvStep (i : Fin 2) (o : Fin 2 → ℕ) (ho : ∀ a, o a + S256x512.size a ≤ S1024x512.size a) :
    Prog (TpuEff nD τ sig (Elt F) Λ₀ .tc) PUnit :=
  Prog.lift (.waitDma2 (recvS i).sem (slotM i) (rowsM o ho) ((View.wordExact_bits rfl).reshape _ _) (View.wordExact_bits rfl))

/-- Wait until slot `i` has been read. -/
def doneStep (i : Fin 2) (o : Fin 2 → ℕ) (ho : ∀ a, o a + S256x512.size a ≤ S1024x512.size a) :
    Prog (TpuEff nD τ sig (Elt F) Λ₀ .tc) PUnit :=
  Prog.lift (.waitDma2 (sendS i).sem (rowsM o ho) (slotM i) (View.wordExact_bits rfl) ((View.wordExact_bits rfl).reshape _ _))

/-- Read eight rows of the result, compute from them, store them back. -/
def fixStep (o : Fin 2 → ℕ) (ho : ∀ a, o a + S8x512.size a ≤ S1024x512.size a) (g : FVec F S8x512 .f32 → FVec F S8x512 .f32) :
    Prog (TpuEff nD τ sig (Elt F) Λ₀ .tc) PUnit := do
  let v : Vec F S8x512 .f32 ← Prog.lift (.load oM (Rect.unit (s := S1024x512) o S8x512.size ho).toLoadRect (View.loadsAt_vmem h_S8x512))
  let _ : Vec F S8x512 .f32 ← Prog.lift (.load oM (Rect.unit (s := S1024x512) o S8x512.size ho).toLoadRect (View.loadsAt_vmem h_S8x512))
  Prog.lift (.store oM (Rect.unit (s := S1024x512) o S8x512.size ho) (g v) Finset.univ (View.stores_vmem_bits_univ h_S8x512 rfl) (.inl rfl))

/-! ## The straight line -/

/-- Which half of the output a device holds: the lower eight devices hold the first. -/
def half (c : Dev nD) : Bool := decide (8 ≤ c.val)
/-- The device at the other end of the x axis. -/
def peer (c : Dev nD) : Dev nD := ⟨(c.val + 8) % 16, Nat.mod_lt _ (by decide)⟩

theorem peer_peer (c : Dev nD) : peer (peer c) = c := by revert c; decide
theorem half_peer (c : Dev nD) : half (peer c) = !half c := by revert c; decide
theorem dev1_eq (c : Dev nD) : (⟨k0_dev1 c, k0_dev1_lt c⟩ : Dev nD) = peer c := by revert c; decide

/-- Position of the first row of the `i`-th block that half `r` sends. -/
def sendBase (r : Bool) (i : Fin 2) : BitVec 32 := BitVec.ofNat 32 ((!r).toNat * 520 + 256 * i.val)
/-- Position of the first row of the `i`-th block that half `r` keeps. -/
def keepBase (r : Bool) (i : Fin 2) : BitVec 32 := BitVec.ofNat 32 (8 + r.toNat * 512 + 256 * i.val)

/-- The rows numbered below 512 among rows 512 to 519: none. -/
def below : IVec S8x512 1 :=
  cmpi .slt (addi (broadcast S8x512 512#32) (iota .tc S8x512 32 [0] iota_S8x512_d0_w32)) (broadcast S8x512 512#32)

/-- What the last step stores over rows 512 to 519: the rows as they stand in half 0, the kept rows in half 1. -/
def fixed (r : Bool) (p : IVec S1x1024 32) (x : FVec F S1024x512 .f32) (v : FVec F S8x512 .f32) : FVec F S8x512 .f32 :=
  match r with
  | false => select below (rows8 p x 520#32) (shapeCast S8x512 v shapeCasts_S8x512_S8x512)
  | true => select below (shapeCast S8x512 v shapeCasts_S8x512_S8x512) (rows8 p x 520#32)

/-- What half `r` does after the handshake, its peer being `n`. -/
def line (r : Bool) (n : Dev nD) (p : IVec S1x1024 32) (x : FVec F S1024x512 .f32) : Prog (TpuEff nD τ sig (Elt F) Λ₀ .tc) PUnit := do
  sendStep 0 n (rowOff r 0) (rowOff_inb _ _) (slab p x (sendBase r 0))
  sendStep 1 n (rowOff r 1) (rowOff_inb _ _) (slab p x (sendBase r 1))
  keepStep (rowOff r 0) (rowOff_inb _ _) (rows p x (keepBase r 0))
  keepStep (rowOff r 1) (rowOff_inb _ _) (rows p x (keepBase r 1))
  recvStep 0 (rowOff (!r) 0) (rowOff_inb _ _)
  recvStep 1 (rowOff (!r) 1) (rowOff_inb _ _)
  doneStep 0 (rowOff r 0) (rowOff_inb _ _)
  doneStep 1 (rowOff r 1) (rowOff_inb _ _)
  fixStep fixOff fixOff_inb (fixed r p x)

/-- The two branches at the end of the body, at the loaded word, positions and rows. -/
def branches (c : Dev nD) (w : BitVec 32) (hw : k0_chk1 c w) (p : IVec S1x1024 32) (x : FVec F S1024x512 .f32) :
    Prog (TpuEff nD τ sig (Elt F) Λ₀ .tc) PUnit := do
  let v5 : BitVec 32 := Scalar.remsi (Scalar.divsi (Dev.word c) 4#32) 2#32
  let v8 : BitVec 32 := Scalar.remsi (Scalar.divsi (Dev.word c) 1#32) 4#32
  let v9 : BitVec 32 := Scalar.subi 1#32 (Scalar.remsi (Scalar.divsi (Dev.word c) 8#32) 2#32)
  if h1 : k0_cond1 c = 1#1 then do
    let v : FVec F S8x512 .f32 ← k0_part16 (F := F) xM (Memref.isWhole_whole _) pM (Memref.isWhole_whole _) cM (Memref.isWhole_whole _) oM (Memref.isWhole_whole _) bM (Memref.isWhole_whole _) cc0_scratch1 cc0_scratch2 c v5 v8 v9 w hw p x h1
    let _ : Vec F S8x512 .f32 ← Prog.lift (.load oM (Rect.unit (s := S1024x512) (k0_off17 w) S8x512.size (k0_off17_inb c w hw h1)).toLoadRect (View.loadsAt_vmem h_S8x512))
    Prog.lift (.store oM (Rect.unit (s := S1024x512) (k0_off17 w) S8x512.size (k0_off17_inb c w hw h1)) v Finset.univ (View.stores_vmem_bits_univ h_S8x512 rfl) (.inl rfl))
    pure ⟨⟩
  else do
    pure ⟨⟩
  if h18 : k0_cond18 c = 1#1 then do
    let ⟨_, v⟩ : Σ' (_ : BitVec 32), FVec F S8x512 .f32 ← k0_part32 (F := F) xM (Memref.isWhole_whole _) pM (Memref.isWhole_whole _) cM (Memref.isWhole_whole _) oM (Memref.isWhole_whole _) bM (Memref.isWhole_whole _) cc0_scratch1 cc0_scratch2 c v5 v8 v9 w hw p x h18
    let _ : Vec F S8x512 .f32 ← Prog.lift (.load oM (Rect.unit (s := S1024x512) (k0_off34 w) S8x512.size (k0_off34_inb c w hw h18)).toLoadRect (View.loadsAt_vmem h_S8x512))
    Prog.lift (.store oM (Rect.unit (s := S1024x512) (k0_off34 w) S8x512.size (k0_off34_inb c w hw h18)) v Finset.univ (View.stores_vmem_bits_univ h_S8x512 rfl) (.inl rfl))
    pure ⟨⟩
  else do
    pure ⟨⟩
  pure ⟨⟩

/-- The body: read the word, shake hands with the peer, load, branch. -/
def head : Prog (TpuEff nD τ sig (Elt F) Λ₀ .tc) PUnit := do
  let c : Dev nD ← Prog.lift .deviceId
  let w : Elt F .i32 ← smemLoad cM (Rect.unit (s := S1x1) ![0, 0] S1x1.size inb_S1x1_S1x1_0_0) numel1_S1x1 rfl
  have hw : k0_chk1 c w := (← Prog.lift (TpuEff.assume (k0_chk1 c w) (k0_chk1.dec c w))).down
  semSignalWord (⟨k0_dev1 c, k0_dev1_lt c⟩ : Dev nD) barrier0 1#32
  semWaitWord barrier0 1#32
  let p : Vec F S1x1024 .i32 ← Prog.lift (.load pM (Rect.unit (s := S1x1024) ![0, 0] S1x1024.size inb_S1x1024_S1x1024_0_0).toLoadRect (View.loadsAt_vmem h_S1x1024))
  let x : Vec F S1024x512 .f32 ← Prog.lift (.load xM (Rect.unit (s := S1024x512) ![0, 0] S1024x512.size inb_S1024x512_S1024x512_0_0).toLoadRect (View.loadsAt_vmem h_S1024x512))
  branches c w hw (k0_pay1 p) (k0_pay2 x)

/-- The printed body is the head above. -/
theorem body_eq : cc0_body (F := F) xM (Memref.isWhole_whole _) pM (Memref.isWhole_whole _) cM (Memref.isWhole_whole _) oM (Memref.isWhole_whole _) bM (Memref.isWhole_whole _) cc0_scratch1 cc0_scratch2 = head := by
  rw [cc0_body_eq_skeleton]; rfl

theorem half0_at (c : Dev nD) (v5 v8 v9 : BitVec 32) (hw : k0_chk1 c 512#32) (p : IVec S1x1024 32) (x : FVec F S1024x512 .f32) (h1 : k0_cond1 c = 1#1) :
    (do
      let v : FVec F S8x512 .f32 ← k0_part16 (F := F) xM (Memref.isWhole_whole _) pM (Memref.isWhole_whole _) cM (Memref.isWhole_whole _) oM (Memref.isWhole_whole _) bM (Memref.isWhole_whole _) cc0_scratch1 cc0_scratch2 c v5 v8 v9 512#32 hw p x h1
      let _ : Vec F S8x512 .f32 ← Prog.lift (.load oM (Rect.unit (s := S1024x512) (k0_off17 512#32) S8x512.size (k0_off17_inb c 512#32 hw h1)).toLoadRect (View.loadsAt_vmem h_S8x512))
      Prog.lift (.store oM (Rect.unit (s := S1024x512) (k0_off17 512#32) S8x512.size (k0_off17_inb c 512#32 hw h1)) v Finset.univ (View.stores_vmem_bits_univ h_S8x512 rfl) (.inl rfl))
      pure ⟨⟩ : Prog (TpuEff nD τ sig (Elt F) Λ₀ .tc) PUnit)
    = line false ⟨k0_dev2 c, k0_dev2_lt c h1⟩ p x := by
  rw [k0_part16_eq_skeleton]; unfold k0_part16_skel
  rfl

theorem half1_at (c : Dev nD) (v5 v8 v9 : BitVec 32) (hw : k0_chk1 c 512#32) (p : IVec S1x1024 32) (x : FVec F S1024x512 .f32) (h18 : k0_cond18 c = 1#1) :
    (do
      let ⟨_, v⟩ : Σ' (_ : BitVec 32), FVec F S8x512 .f32 ← k0_part32 (F := F) xM (Memref.isWhole_whole _) pM (Memref.isWhole_whole _) cM (Memref.isWhole_whole _) oM (Memref.isWhole_whole _) bM (Memref.isWhole_whole _) cc0_scratch1 cc0_scratch2 c v5 v8 v9 512#32 hw p x h18
      let _ : Vec F S8x512 .f32 ← Prog.lift (.load oM (Rect.unit (s := S1024x512) (k0_off34 512#32) S8x512.size (k0_off34_inb c 512#32 hw h18)).toLoadRect (View.loadsAt_vmem h_S8x512))
      Prog.lift (.store oM (Rect.unit (s := S1024x512) (k0_off34 512#32) S8x512.size (k0_off34_inb c 512#32 hw h18)) v Finset.univ (View.stores_vmem_bits_univ h_S8x512 rfl) (.inl rfl))
      pure ⟨⟩ : Prog (TpuEff nD τ sig (Elt F) Λ₀ .tc) PUnit)
    = line true ⟨k0_dev6 c, k0_dev6_lt c h18⟩ p x := by
  rw [k0_part32_eq_skeleton]; unfold k0_part32_skel
  rfl

theorem chk_at (c : Dev nD) : k0_chk1 c 512#32 := by revert c; decide +kernel

theorem cond1_iff (c : Dev nD) : k0_cond1 c = 1#1 ↔ half c = false := by revert c; decide
theorem cond18_iff (c : Dev nD) : k0_cond18 c = 1#1 ↔ half c = true := by revert c; decide
theorem dev2_eq (c : Dev nD) (h : k0_cond1 c = 1#1) : (⟨k0_dev2 c, k0_dev2_lt c h⟩ : Dev nD) = peer c := by revert c; decide
theorem dev6_eq (c : Dev nD) (h : k0_cond18 c = 1#1) : (⟨k0_dev6 c, k0_dev6_lt c h⟩ : Dev nD) = peer c := by revert c; decide

/-- At the word 512 the two branches are the straight line of the device's half. -/
theorem branches_at (c : Dev nD) (hw : k0_chk1 c 512#32) (p : IVec S1x1024 32) (x : FVec F S1024x512 .f32) :
    branches c 512#32 hw p x = line (half c) (peer c) p x := by
  unfold branches
  by_cases h : half c = true
  · have h1 : ¬ k0_cond1 c = 1#1 := fun e => by rw [(cond1_iff c).mp e] at h; cases h
    have h18 := (cond18_iff c).mpr h
    rw [dif_neg h1, dif_pos h18, half1_at, dev6_eq c h18, h]
  · have h0 : half c = false := by simpa using h
    have h1 := (cond1_iff c).mpr h0
    have h18 : ¬ k0_cond18 c = 1#1 := fun e => h ((cond18_iff c).mp e)
    rw [dif_pos h1, dif_neg h18, half0_at, dev2_eq c h1, h0]

end Cert.KProof

end
-- ==== Proof.Geometry.lean ====
/-
# The rows of the result, cut in four

The result's staging buffer is 1024 rows; the protocol hands it around in four blocks of 256. Here: which elements a block
has, that the four blocks cut the buffer, and how contents known block by block are the contents of the whole. The send
buffer is cut the same way in its first two slots and what is left.
-/
module

public import proofs.«01_k».proof.Proof.Steps
public import Idealize.ShloMosaic.Lib.ValueLayout
public import Idealize.ShloMosaic.Lib.Memref
public import Idealize.ShloMosaic.Lib.ViewIndex

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-- Two copies of the rounds library's algebra: the pipeline's and the protocol's. -/
abbrev UU : Type := UR sig nD τ × UR sig nD τ

local notation "𝕄" => MT nD τ sig Unit (Elt F) ℕ UU ℕ

/-! ## Blocks of rows -/

/-- Block `i` of half `r` of the result. -/
abbrev blkM (r : Bool) (i : Fin 2) : Memref sig .tc .vmem S256x512 .f32 := rowsM (rowOff r i) (rowOff_inb r i)

/-- The elements of block `i` of half `r`. -/
def blkSet (r : Bool) (i : Fin 2) : Finset S1024x512.Idx := (Rect.unit (s := S1024x512) (rowOff r i) S256x512.size (rowOff_inb r i)).set

theorem blkM_set (r : Bool) (i : Fin 2) : (blkM r i).view.set = blkSet r i := View.set_slice_whole ..

theorem mem_blkSet {r : Bool} {i : Fin 2} {j : S1024x512.Idx} : j ∈ blkSet r i ↔ rowNo r i ≤ (j 0).val ∧ (j 0).val < rowNo r i + 256 := by
  unfold blkSet
  rw [Rect.mem_set_unit]
  constructor
  · intro h; exact h 0
  · intro h a
    match a with
    | ⟨0, _⟩ => exact h
    | ⟨1, _⟩ => exact ⟨Nat.zero_le _, lt_of_lt_of_eq (j 1).isLt (Nat.zero_add _).symm⟩

theorem row_lt (j : S1024x512.Idx) : (j 0).val < 1024 := (j 0).isLt

theorem rowNo_false (i : Fin 2) : rowNo false i = 256 * i.val := by simp [rowNo]
theorem rowNo_true (i : Fin 2) : rowNo true i = 512 + 256 * i.val := by simp [rowNo]

theorem blk_disjoint {r r' : Bool} {i i' : Fin 2} (h : (r, i) ≠ (r', i')) : Disjoint (blkSet r i) (blkSet r' i') := by
  rw [Finset.disjoint_left]
  intro j h₁ h₂
  rw [mem_blkSet] at h₁ h₂
  apply h
  revert h₁ h₂
  generalize (j 0).val = n
  have hi := i.isLt; have hi' := i'.isLt
  cases r <;> cases r' <;> simp only [rowNo_false, rowNo_true] <;> intro h₁ h₂ <;> first
    | (exfalso; omega)
    | exact Prod.ext rfl (Fin.ext (show i.val = i'.val by omega))

/-- Both blocks of a half. -/
def halfSet (r : Bool) : Finset S1024x512.Idx := blkSet r 0 ∪ blkSet r 1

theorem half_disjoint (r : Bool) : Disjoint (halfSet r) (halfSet (!r)) := by
  unfold halfSet
  rw [Finset.disjoint_union_left, Finset.disjoint_union_right, Finset.disjoint_union_right]
  have h : r ≠ !r := by cases r <;> decide
  exact ⟨⟨blk_disjoint fun e => h (congrArg Prod.fst e), blk_disjoint fun e => h (congrArg Prod.fst e)⟩,
    ⟨blk_disjoint fun e => h (congrArg Prod.fst e), blk_disjoint fun e => h (congrArg Prod.fst e)⟩⟩

theorem half_cover (r : Bool) : halfSet r ∪ halfSet (!r) = Finset.univ := by
  ext j
  simp only [halfSet, Finset.mem_union, mem_blkSet, Finset.mem_univ, iff_true]
  have := row_lt j
  cases r <;> simp only [Bool.not_true, Bool.not_false, rowNo_false, rowNo_true, Fin.val_zero, Fin.val_one] <;> omega

/-! ## Contents block by block -/

/-- Four blocks set one below the other. -/
def glue {α : Type} (B : Bool → Fin 2 → S256x512.Idx → α) : S1024x512.Idx → α := fun j =>
  B (decide (512 ≤ (j 0).val)) ⟨(j 0).val % 512 / 256, by have := row_lt j; omega⟩
    (ValueIdx.ix2 (⟨(j 0).val % 256, Nat.mod_lt _ (by decide)⟩ : Fin 256) (j 1))

theorem read_glue (B : Bool → Fin 2 → FVec F S256x512 .f32) (r : Bool) (i : Fin 2) :
    (blkM r i).view.read (Elt F) (glue B) = B r i := by
  funext x
  show glue B ((Rect.unit (s := S1024x512) (rowOff r i) S256x512.size (rowOff_inb r i)).emb x) = B r i x
  have h0 : (((Rect.unit (s := S1024x512) (rowOff r i) S256x512.size (rowOff_inb r i)).emb x) 0).val = rowNo r i + (x 0).val := by
    show rowNo r i + 1 * (x 0).val = _
    rw [Nat.one_mul]
  have h1 : (((Rect.unit (s := S1024x512) (rowOff r i) S256x512.size (rowOff_inb r i)).emb x) 1).val = (x 1).val := by
    show 0 + 1 * (x 1).val = _
    omega
  unfold glue
  generalize (Rect.unit (s := S1024x512) (rowOff r i) S256x512.size (rowOff_inb r i)).emb x = j at h0 h1
  have hx : (x 0).val < 256 := (x 0).isLt
  have hi := i.isLt
  have e1 : decide (512 ≤ (j 0).val) = r := by
    rw [h0]; cases r
    · rw [rowNo_false]; exact decide_eq_false (by omega)
    · rw [rowNo_true]; exact decide_eq_true (by omega)
  have e2 : (⟨(j 0).val % 512 / 256, by have := row_lt j; omega⟩ : Fin 2) = i := by
    refine Fin.ext ?_
    show (j 0).val % 512 / 256 = i.val
    rw [h0]; cases r
    · rw [rowNo_false]; omega
    · rw [rowNo_true]; omega
  have e3 : (ValueIdx.ix2 (⟨(j 0).val % 256, Nat.mod_lt _ (by decide)⟩ : Fin 256) (j 1) : S256x512.Idx) = x := by
    funext a
    match a with
    | ⟨0, _⟩ =>
      refine Fin.ext ?_
      show (j 0).val % 256 = (x 0).val
      rw [h0]; cases r
      · rw [rowNo_false]; omega
      · rw [rowNo_true]; omega
    | ⟨1, _⟩ => exact Fin.ext h1
  rw [e1, e2, e3]

/-- Contents that read a block are the glued contents on it. -/
theorem eq_glue_on (B : Bool → Fin 2 → FVec F S256x512 .f32) (r : Bool) (i : Fin 2) (f : (cc0_stg3_0 : Ref sig .tc).ty.Contents (Elt F))
    (h : (blkM r i).view.read (Elt F) f = B r i) : ∀ j ∈ blkSet r i, f j = glue B j := by
  intro j hj
  rw [← blkM_set] at hj
  obtain ⟨x, -, rfl⟩ := Finset.mem_map.mp hj
  exact View.eq_of_read_eq (v := (blkM r i).view) (x := x) (by rw [h, read_glue])

/-- The whole result buffer of device `c`. -/
abbrev outPts (c : Dev nD) (f : Buf (Elt F) ((c : Thread nD τ).loc cc0_stg3_0)) : sProp 𝕄 := ((c : Thread nD τ).loc cc0_stg3_0) ↦{fullShare} f
/-- The part `S` of it. -/
abbrev outOn (c : Dev nD) (S : Finset (Idx ((c : Thread nD τ).loc cc0_stg3_0))) (f : Buf (Elt F) ((c : Thread nD τ).loc cc0_stg3_0)) : sProp 𝕄 :=
  ((c : Thread nD τ).loc cc0_stg3_0) ↦[S]{fullShare} f

/-- Block `i` of half `r` of device `c`'s result at some contents. -/
def blkAny (c : Dev nD) (r : Bool) (i : Fin 2) : sProp 𝕄 := iprop(∃ f, outOn (F := F) c (blkSet r i) f)
/-- Block `i` of half `r` of device `c`'s result, holding `X`. -/
def blkAt (c : Dev nD) (r : Bool) (i : Fin 2) (X : FVec F S256x512 .f32) : sProp 𝕄 :=
  iprop(∃ f, ⌜(blkM r i).view.read (Elt F) f = X⌝ ∗ outOn (F := F) c (blkSet r i) f)

instance someSuch_storable (c : Dev nD) (S : Finset (Idx ((c : Thread nD τ).loc cc0_stg3_0))) (P : Buf (Elt F) ((c : Thread nD τ).loc cc0_stg3_0) → Prop) :
    BI.Storable (upEmb : UEmb _ 𝕄) iprop(∃ f, ⌜P f⌝ ∗ outOn (F := F) c S f) := by
  infer_instance
instance blkAny_storable (c : Dev nD) (r : Bool) (i : Fin 2) : BI.Storable (upEmb : UEmb _ 𝕄) (blkAny (F := F) c r i) := by
  unfold blkAny; infer_instance
instance blkAt_storable (c : Dev nD) (r : Bool) (i : Fin 2) (X : FVec F S256x512 .f32) : BI.Storable (upEmb : UEmb _ 𝕄) (blkAt (F := F) c r i X) := by
  unfold blkAt
  exact someSuch_storable c (blkSet r i) fun f => (blkM r i).view.read (Elt F) f = X

/-- A block held through its memref is the block held by its elements. -/
theorem blk_view (c : Dev nD) (r : Bool) (i : Fin 2) (f : Buf (Elt F) ((c : Thread nD τ).loc cc0_stg3_0)) :
    ((blkM r i).view.loc (c : Thread nD τ) ↦[(blkM r i).view.set]{fullShare} f : sProp 𝕄) = outOn c (blkSet r i) f := by
  rw [blkM_set]

theorem half_union (c : Dev nD) (r : Bool) (f : Buf (Elt F) ((c : Thread nD τ).loc cc0_stg3_0)) :
    (outOn c (halfSet r) f : sProp 𝕄) ⊣⊢ iprop(outOn c (blkSet r 0) f ∗ outOn c (blkSet r 1) f) :=
  pointsTo_union (blk_disjoint (by simp))

theorem out_split (c : Dev nD) (r : Bool) (f : Buf (Elt F) ((c : Thread nD τ).loc cc0_stg3_0)) :
    outPts c f ⊢ iprop(blkAny (F := F) c r 0 ∗ blkAny c r 1 ∗ blkAny c (!r) 0 ∗ blkAny c (!r) 1) := by
  rw [show (outPts c f : sProp 𝕄) = outOn c (halfSet r ∪ halfSet (!r)) f from by rw [half_cover]]
  iintro H
  ihave H := (pointsTo_union (half_disjoint r)).1 $$ H
  icases H with ⟨H, H'⟩
  ihave H := (half_union c r f).1 $$ H
  icases H with ⟨H0, H1⟩
  ihave H' := (half_union c (!r) f).1 $$ H'
  icases H' with ⟨H2, H3⟩
  unfold blkAny
  isplitl [H0]; · iexists f; iexact H0
  isplitl [H1]; · iexists f; iexact H1
  isplitl [H2]; · iexists f; iexact H2
  iexists f; iexact H3

theorem blkAt_glue (c : Dev nD) (r : Bool) (i : Fin 2) (B : Bool → Fin 2 → FVec F S256x512 .f32) :
    blkAt c r i (B r i) ⊢ (outOn c (blkSet r i) (glue B) : sProp 𝕄) := by
  unfold blkAt
  iintro ⟨%f, %hf, H⟩
  iapply (Entails.of_eq (pointsTo_congr (eq_glue_on B r i f hf))) $$ H

theorem out_join (c : Dev nD) (r : Bool) (B : Bool → Fin 2 → FVec F S256x512 .f32) :
    iprop(blkAt c r 0 (B r 0) ∗ blkAt c r 1 (B r 1) ∗ blkAt c (!r) 0 (B (!r) 0) ∗ blkAt c (!r) 1 (B (!r) 1)) ⊢ outPts c (glue B) := by
  rw [show (outPts c (glue B) : sProp 𝕄) = outOn c (halfSet r ∪ halfSet (!r)) (glue B) from by rw [half_cover]]
  iintro ⟨H0, H1, H2, H3⟩
  iapply (pointsTo_union (half_disjoint r)).2
  isplitl [H0 H1]
  · iapply (half_union c r (glue B)).2
    isplitl [H0]; · iapply (blkAt_glue c r 0 B) $$ H0
    iapply (blkAt_glue c r 1 B) $$ H1
  iapply (half_union c (!r) (glue B)).2
  isplitl [H2]; · iapply (blkAt_glue c (!r) 0 B) $$ H2
  iapply (blkAt_glue c (!r) 1 B) $$ H3

/-! ## The send buffer -/

/-- The elements of slot `i`. -/
def slotSet (i : Fin 2) : Finset S4x256x512.Idx := (slotRect i).set

theorem slotM_set (i : Fin 2) : (slotM i).view.set = slotSet i :=
  (View.set_reshape (v := (View.whole cc0_scratch0).slice (slotRect i)) _).trans (View.set_slice_whole ..)

theorem slot_disjoint : Disjoint (slotSet 0) (slotSet 1) := Rect.unit_disjoint (0 : Fin 3) (.inl (by decide))

/-- A slot read after a slab was stored in it: the rows of the slab. -/
theorem slot_read (i : Fin 2) (p : IVec S1x1024 32) (x : FVec F S1024x512 .f32) (b : BitVec 32) (f : (cc0_scratch0 : Ref sig .tc).ty.Contents (Elt F)) :
    (slotM i).view.read (Elt F) ((bM.access (slotRect i)).write (Elt F) f (slab p x b) Finset.univ) = rows p x b := by
  funext y
  show (bM.access (slotRect i)).read (Elt F) ((bM.access (slotRect i)).write (Elt F) f (slab p x b) Finset.univ) (Shape.reshapeEquiv _ y) = _
  rw [View.read_write_univ]
  unfold slab shapeCast
  rw [Shape.reshapeEquiv_reshapeEquiv, Shape.reshapeEquiv_self]

/-- The whole send buffer of device `c`. -/
abbrev bufPts (c : Dev nD) (f : Buf (Elt F) ((c : Thread nD τ).loc cc0_scratch0)) : sProp 𝕄 := ((c : Thread nD τ).loc cc0_scratch0) ↦{fullShare} f
/-- The part `S` of it. -/
abbrev bufOn (c : Dev nD) (S : Finset (Idx ((c : Thread nD τ).loc cc0_scratch0))) (f : Buf (Elt F) ((c : Thread nD τ).loc cc0_scratch0)) : sProp 𝕄 :=
  ((c : Thread nD τ).loc cc0_scratch0) ↦[S]{fullShare} f
/-- Slot `i` of device `c`'s send buffer at some contents. -/
def slotAny (c : Dev nD) (i : Fin 2) : sProp 𝕄 := iprop(∃ f, bufOn (F := F) c (slotSet i) f)
instance slotAny_storable (c : Dev nD) (i : Fin 2) : BI.Storable (upEmb : UEmb _ 𝕄) (slotAny (F := F) c i) := by
  unfold slotAny; infer_instance
/-- The elements of the two slots no copy uses. -/
def restSet : Finset S4x256x512.Idx := (Finset.univ \ slotSet 0) \ slotSet 1
/-- The two slots no copy uses, at some contents. -/
def slotRest (c : Dev nD) : sProp 𝕄 := iprop(∃ f, bufOn (F := F) c restSet f)

theorem slot_view (c : Dev nD) (i : Fin 2) (f : Buf (Elt F) ((c : Thread nD τ).loc cc0_scratch0)) :
    ((slotM i).view.loc (c : Thread nD τ) ↦[(slotM i).view.set]{fullShare} f : sProp 𝕄) = bufOn c (slotSet i) f := by
  rw [slotM_set]

theorem slot_one_sub : slotSet 1 ⊆ Finset.univ \ slotSet 0 := fun _ hj =>
  Finset.mem_sdiff.mpr ⟨Finset.mem_univ _, Finset.disjoint_right.mp slot_disjoint hj⟩

theorem buf_split (c : Dev nD) (f : Buf (Elt F) ((c : Thread nD τ).loc cc0_scratch0)) :
    bufPts c f ⊢ iprop(slotAny (F := F) c 0 ∗ slotAny c 1 ∗ slotRest c) := by
  unfold slotAny slotRest
  iintro H
  ihave H := (pointsTo_split_subset (Finset.subset_univ (slotSet 0))).1 $$ H
  icases H with ⟨H0, H⟩
  ihave H := (pointsTo_split_subset slot_one_sub).1 $$ H
  icases H with ⟨H1, H⟩
  isplitl [H0]; · iexists f; iexact H0
  isplitl [H1]; · iexists f; iexact H1
  iexists f; iexact H

theorem buf_join (c : Dev nD) :
    iprop(slotAny (F := F) c 0 ∗ slotAny c 1 ∗ slotRest c) ⊢ iprop(∃ f, bufPts (F := F) c f) := by
  unfold slotAny slotRest restSet
  iintro ⟨⟨%f0, H0⟩, ⟨%f1, H1⟩, ⟨%f, H⟩⟩
  ihave H := (pointsTo_join_subset (f := f) (g := f1) slot_one_sub) $$ [H1 H]
  · isplitl [H1] <;> iassumption
  ihave H := (pointsTo_join_subset (g := f0) (Finset.subset_univ (slotSet 0))) $$ [H0 H]
  · isplitl [H0] <;> iassumption
  iexists _; iexact H

end Cert.KProof

end
-- ==== Proof.Protocol.lean ====
/-
# The exchange between the two ends of the x axis

Every device speaks to one other, its peer. Five counters of a device take part, each for one round:

* the barrier: the device waits one unit, paid by the peer's signal; with it come the two blocks of the PEER's result that
  this device will write, and that the peer's two receive counters are open;
* receive `i` (`i = 0, 1`): the device waits the credit of a block, paid by the peer's copy `i`; with it comes block `i` of
  the other half of the device's own result, holding the rows the peer sent;
* send `i`: the device waits the credit of a block, paid by its own copy `i`; with it comes slot `i` of the send buffer back.

A device owes its peer, from the start, the barrier unit and the two receive credits. It waits at the barrier (level 1)
while it owes the receive credits (level 2), and at the other counters owing nothing.
-/
module

public import proofs.«01_k».proof.Proof.Geometry
public import Idealize.ShloMosaic.Lib.Rounds
public import Idealize.ShloMosaic.Lib.Pipeline.Regions
public import Idealize.ShloMosaic.Lib.Pipeline.Kit
public import Idealize.ShloMosaic.Lib.Pipeline.RegionTalk

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev EP : Emb (UR sig nD τ) (MT nD τ sig Unit (Elt F) ℕ UU ℕ) := embL
abbrev ER : Emb (UR sig nD τ) (MT nD τ sig Unit (Elt F) ℕ UU ℕ) := embR

/-- What the windows bring each device: its rows and its positions, as staged. -/
structure Staged (F : FTy → Type) where
  x : Dev nD → (cc0_stg0_0 : Ref sig .tc).ty.Contents (Elt F)
  p : Dev nD → (cc0_stg1_0 : Ref sig .tc).ty.Contents (Elt F)

variable (s : Staged F)

/-- The positions and the rows as the body's products take them. -/
abbrev Staged.pos (c : Dev nD) : IVec S1x1024 32 := k0_pay1 (s.p c)
abbrev Staged.src (c : Dev nD) : FVec F S1024x512 .f32 := k0_pay2 (s.x c)

/-- What device `c` sends as block `i`. -/
def sent (c : Dev nD) (i : Fin 2) : FVec F S256x512 .f32 := rows (s.pos c) (s.src c) (sendBase (half c) i)
/-- What device `c` keeps as block `i`. -/
def kept (c : Dev nD) (i : Fin 2) : FVec F S256x512 .f32 := rows (s.pos c) (s.src c) (keepBase (half c) i)
/-- The four blocks of device `c`'s result before the last step: its own half kept, the other half what its peer sent. -/
def blocks (c : Dev nD) (r : Bool) (i : Fin 2) : FVec F S256x512 .f32 := if r = half c then kept s c i else sent s (peer c) i

theorem blocks_own (c : Dev nD) (i : Fin 2) : blocks s c (half c) i = kept s c i := if_pos rfl
theorem blocks_other (c : Dev nD) (i : Fin 2) : blocks s c (!half c) i = sent s (peer c) i := if_neg (by cases half c <;> decide)

/-- The eight rows the last step stores again. -/
abbrev fixRect : Rect S1024x512 := Rect.unit (s := S1024x512) fixOff S8x512.size fixOff_inb
/-- The result of device `c`. -/
def outAt (c : Dev nD) : (cc0_stg3_0 : Ref sig .tc).ty.Contents (Elt F) :=
  (oM.access fixRect).write (Elt F) (glue (blocks s c))
    (fixed (half c) (s.pos c) (s.src c) (oM.view.readAt (Elt F) fixRect.toLoadRect (glue (blocks s c)))) Finset.univ

/-! ## The counters -/

abbrev barCell (c : Dev nD) : GSem nD τ sig := ((c : Thread nD τ), .reg barrier0)
abbrev sendCell (c : Dev nD) (i : Fin 2) : GSem nD τ sig := ((c : Thread nD τ), .dma (sendS i).sem)
abbrev recvCell (c : Dev nD) (i : Fin 2) : GSem nD τ sig := ((c : Thread nD τ), .dma (recvS i).sem)

/-- A block's credit. -/
abbrev N : ℕ := (blkM false 0).view.dmaCredit
theorem N_pos : 0 < N := View.dmaCredit_pos _ (by decide)

def barPay (c : Dev nD) : sProp 𝕄 :=
  iprop(blkAny (peer c) (half c) 0 ∗ blkAny (peer c) (half c) 1 ∗ reached ER (recvCell (peer c) 0) 0 ∗ reached ER (recvCell (peer c) 1) 0)
def recvPay (c : Dev nD) (i : Fin 2) : sProp 𝕄 := blkAt c (!half c) i (sent s (peer c) i)
def sendPay (c : Dev nD) (i : Fin 2) : sProp 𝕄 := slotAny (F := F) c i

abbrev IsTalk (g : GSem nD τ sig) : Prop :=
  g.1.2 = .tc ∧ (g.2 = .reg barrier0 ∨ (∃ i, g.2 = .dma (sendS i).sem) ∨ ∃ i, g.2 = .dma (recvS i).sem)

/-- One duty on each of the five counters, in round 0. -/
def Rd : Rounds.Schedule (GSem nD τ sig) Unit 𝕄 where
  duties g r := open Classical in if r = 0 ∧ IsTalk g then {()} else ∅
  unitless _ := False
  amount g _ _ := if g.2 = .reg barrier0 then 1 else N
  payload g _ _ :=
    if g.2 = .reg barrier0 then barPay g.1.1
    else if g.2 = .dma (recvS 0).sem then recvPay s g.1.1 0
    else if g.2 = .dma (recvS 1).sem then recvPay s g.1.1 1
    else if g.2 = .dma (sendS 0).sem then sendPay g.1.1 0
    else if g.2 = .dma (sendS 1).sem then sendPay g.1.1 1
    else iprop(emp)
  amount_pos g _ _ _ := by
    by_cases h : g.2 = .reg barrier0
    · rw [if_pos h]; exact Nat.one_pos
    · rw [if_neg h]; exact N_pos

instance Rd_payload_storable (g : GSem nD τ sig) (r : ℕ) (d : Unit) : BI.Storable (upEmb : UEmb _ 𝕄) ((Rd s).payload g r d) := by
  show BI.Storable upEmb (if g.2 = .reg barrier0 then barPay g.1.1
    else if g.2 = .dma (recvS 0).sem then recvPay s g.1.1 0
    else if g.2 = .dma (recvS 1).sem then recvPay s g.1.1 1
    else if g.2 = .dma (sendS 0).sem then sendPay g.1.1 0
    else if g.2 = .dma (sendS 1).sem then sendPay g.1.1 1
    else iprop(emp))
  unfold barPay recvPay sendPay
  (repeat' split) <;> infer_instance

section Sched
variable (c : Dev nD) (i : Fin 2)

theorem send_ne_bar : (SemLoc.dma (sendS i).sem : SemLoc sig) ≠ .reg barrier0 := fun h => by cases h
theorem recv_ne_bar : (SemLoc.dma (recvS i).sem : SemLoc sig) ≠ .reg barrier0 := fun h => by cases h
theorem send_ne_recv : ∀ i j : Fin 2, (SemLoc.dma (sendS i).sem : SemLoc sig) ≠ .dma (recvS j).sem := by decide
theorem recv_inj : ∀ i j : Fin 2, (SemLoc.dma (recvS i).sem : SemLoc sig) = .dma (recvS j).sem → i = j := by decide
theorem send_inj : ∀ i j : Fin 2, (SemLoc.dma (sendS i).sem : SemLoc sig) = .dma (sendS j).sem → i = j := by decide

theorem duties_bar : (Rd s).duties (barCell c) 0 = {()} := by dsimp only [Rd]; exact if_pos ⟨rfl, rfl, .inl rfl⟩
theorem duties_send : (Rd s).duties (sendCell c i) 0 = {()} := by dsimp only [Rd]; exact if_pos ⟨rfl, rfl, .inr (.inl ⟨i, rfl⟩)⟩
theorem duties_recv : (Rd s).duties (recvCell c i) 0 = {()} := by dsimp only [Rd]; exact if_pos ⟨rfl, rfl, .inr (.inr ⟨i, rfl⟩)⟩
theorem duties_later (g : GSem nD τ sig) : ∀ r, 1 ≤ r → (Rd s).duties g r = ∅ :=
  fun r hr => by dsimp only [Rd]; exact if_neg fun h => by omega

theorem amount_bar (u : Unit) : (Rd s).amount (barCell c) 0 u = 1 := by dsimp only [Rd]; exact if_pos rfl
theorem amount_send (u : Unit) : (Rd s).amount (sendCell c i) 0 u = N := by dsimp only [Rd]; exact if_neg (send_ne_bar i)
theorem amount_recv (u : Unit) : (Rd s).amount (recvCell c i) 0 u = N := by dsimp only [Rd]; exact if_neg (recv_ne_bar i)

theorem expect_bar : (Rd s).expect (barCell c) 0 = 1 := by
  unfold Schedule.expect Schedule.amountOf; rw [duties_bar, Finset.sum_singleton, amount_bar]
theorem expect_send : (Rd s).expect (sendCell c i) 0 = N := by
  unfold Schedule.expect Schedule.amountOf; rw [duties_send, Finset.sum_singleton, amount_send]
theorem expect_recv : (Rd s).expect (recvCell c i) 0 = N := by
  unfold Schedule.expect Schedule.amountOf; rw [duties_recv, Finset.sum_singleton, amount_recv]

theorem payload_bar (u : Unit) : (Rd s).payload (barCell c) 0 u = barPay c := by dsimp only [Rd]; exact if_pos rfl
theorem payload_recv (u : Unit) : (Rd s).payload (recvCell c i) 0 u = recvPay s c i := by
  dsimp only [Rd]; rw [if_neg (recv_ne_bar i)]
  match i with
  | 0 => rw [if_pos rfl]
  | 1 => rw [if_neg (by decide), if_pos rfl]
theorem payload_send (u : Unit) : (Rd s).payload (sendCell c i) 0 u = sendPay c i := by
  dsimp only [Rd]; rw [if_neg (send_ne_bar i), if_neg (send_ne_recv i 0), if_neg (send_ne_recv i 1)]
  match i with
  | 0 => rw [if_pos rfl]
  | 1 => rw [if_neg (by decide), if_pos rfl]

theorem rest_bar : bigSep ((Rd s).duties (barCell c) 0 \ ∅) (fun u => (Rd s).payload (barCell c) 0 u) = barPay c := by
  rw [Finset.sdiff_empty, duties_bar, bigSep_singleton, payload_bar]
theorem rest_send : bigSep ((Rd s).duties (sendCell c i) 0 \ ∅) (fun u => (Rd s).payload (sendCell c i) 0 u) = sendPay c i := by
  rw [Finset.sdiff_empty, duties_send, bigSep_singleton, payload_send]
theorem rest_recv : bigSep ((Rd s).duties (recvCell c i) 0 \ ∅) (fun u => (Rd s).payload (recvCell c i) 0 u) = recvPay s c i := by
  rw [Finset.sdiff_empty, duties_recv, bigSep_singleton, payload_recv]

end Sched

/-! ## What is owed, and in what order it may be waited for -/

/-- The two receive credits, the first to be paid last in the sum. -/
def O₂ (c : Dev nD) : CellTallies nD τ sig Unit := tallyAt (recvCell (peer c) 1) () N + tallyAt (recvCell (peer c) 0) () N
def O₀ (c : Dev nD) : CellTallies nD τ sig Unit := O₂ c + tallyAt (barCell (peer c)) () 1

def L (g : GSem nD τ sig) : Finset Unit := if g.1.2 = .tc then {()} else ∅
/-- The barrier at 1, the receive counters at 2, all others at 0. -/
def lv (g : GSem nD τ sig) (_ : Unit) : ℕ :=
  if g.2 = .reg barrier0 then 1 else if g.2 = .dma (recvS 0).sem ∨ g.2 = .dma (recvS 1).sem then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (i : Fin 2) (u : Unit) : lv (recvCell c i) u = 2 := by
  unfold lv; rw [if_neg (recv_ne_bar i), if_pos]
  match i with
  | 0 => exact .inl rfl
  | 1 => exact .inr rfl

theorem tally_pos {g g' : GSem nD τ sig} {n : ℕ} {u : Unit} (h : 0 < (tallyAt g () n : CellTallies nD τ sig Unit) g' u) : g' = g := by
  rw [tallyAt_apply] at h
  by_contra hn
  rw [if_neg (fun e => hn e.1)] at h
  exact Nat.lt_irrefl 0 h

theorem O₂_pos {c : Dev nD} {g : GSem nD τ sig} {u : Unit} (h : 0 < O₂ c g u) : ∃ i, g = recvCell (peer c) i := by
  unfold O₂ at h
  rw [Pi.add_apply, Finsupp.add_apply] at h
  rcases Nat.add_pos_iff_pos_or_pos.mp h with h | h
  · exact ⟨1, tally_pos h⟩
  · exact ⟨0, tally_pos h⟩

theorem O₀_pos {c : Dev nD} {g : GSem nD τ sig} {u : Unit} (h : 0 < O₀ c g u) : (∃ i, g = recvCell (peer c) i) ∨ g = barCell (peer c) := by
  unfold O₀ at h
  rw [Pi.add_apply, Finsupp.add_apply] at h
  rcases Nat.add_pos_iff_pos_or_pos.mp h with h | h
  · exact .inl (O₂_pos h)
  · exact .inr (tally_pos h)

theorem mayWait_bar (c : Dev nD) : (levAts L lv : sProp 𝕄) ⊢ MayWait (c : Thread nD τ) (.reg barrier0) () (O₂ c) :=
  MayOwe.of_cut (L := L) (lev := lv) 1 (fun p hp => by rw [Finset.mem_singleton.mp hp, L_tc]; exact Finset.mem_singleton_self _)
    (fun g u hg => by obtain ⟨i, rfl⟩ := O₂_pos hg; rw [L_tc]; exact Finset.mem_singleton_self _)
    (fun p hp => by rw [Finset.mem_singleton.mp hp]; exact le_of_eq (lv_bar c ()))
    (fun g u hg => by obtain ⟨i, rfl⟩ := O₂_pos hg; rw [lv_recv]; decide)

/-! ## What a device carries -/

/-- The counters' invariants device `c` opens: its own five, its peer's barrier and receive counters. -/
def invs (K : GSem nD τ sig → ℕ) (c : Dev nD) : sProp 𝕄 :=
  iprop(cellInv ER (Rd s) (K (barCell c)) (barCell c)
    ∗ cellInv ER (Rd s) (K (sendCell c 0)) (sendCell c 0) ∗ cellInv ER (Rd s) (K (sendCell c 1)) (sendCell c 1)
    ∗ cellInv ER (Rd s) (K (recvCell c 0)) (recvCell c 0) ∗ cellInv ER (Rd s) (K (recvCell c 1)) (recvCell c 1)
    ∗ cellInv ER (Rd s) (K (barCell (peer c))) (barCell (peer c))
    ∗ cellInv ER (Rd s) (K (recvCell (peer c) 0)) (recvCell (peer c) 0) ∗ cellInv ER (Rd s) (K (recvCell (peer c) 1)) (recvCell (peer c) 1))

instance invs_persistent (K : GSem nD τ sig → ℕ) (c : Dev nD) : BI.Persistent (invs s K c) := by unfold invs; infer_instance

/-- The five duties device `c` pays. -/
def payToks (c : Dev nD) : sProp 𝕄 :=
  iprop(dutyTok ER (barCell (peer c)) 0 () ∗ dutyTok ER (sendCell c 0) 0 () ∗ dutyTok ER (sendCell c 1) 0 ()
    ∗ dutyTok ER (recvCell (peer c) 0) 0 () ∗ dutyTok ER (recvCell (peer c) 1) 0 ())

/-- The rights to open the four counters that are the kernel's own. -/
def openToks (c : Dev nD) : sProp 𝕄 :=
  iprop(openTok ER (sendCell c 0) ∗ openTok ER (sendCell c 1) ∗ openTok ER (recvCell c 0) ∗ openTok ER (recvCell c 1))

/-- What device `c` carries from the launch to the kernel: the kernel's own four counters not open yet. -/
def ghost (K : GSem nD τ sig → ℕ) (c : Dev nD) : sProp 𝕄 :=
  iprop(invs s K c ∗ atPos ER (barCell c) 0 ∅ 0 ∗ openToks c ∗ reached ER (barCell (peer c)) 0 ∗ payToks c)

/-- The same with the four counters open. -/
def opened (K : GSem nD τ sig → ℕ) (c : Dev nD) : sProp 𝕄 :=
  iprop(invs s K c
    ∗ (atPos ER (barCell c) 0 ∅ 0 ∗ atPos ER (sendCell c 0) 0 ∅ 0 ∗ atPos ER (sendCell c 1) 0 ∅ 0 ∗ atPos ER (recvCell c 0) 0 ∅ 0 ∗ atPos ER (recvCell c 1) 0 ∅ 0)
    ∗ (reached ER (barCell (peer c)) 0 ∗ reached ER (sendCell c 0) 0 ∗ reached ER (sendCell c 1) 0 ∗ reached ER (recvCell c 0) 0 ∗ reached ER (recvCell c 1) 0)
    ∗ payToks c)

/-- The credits device `c` waits with. -/
def creds (c : Dev nD) : sProp 𝕄 :=
  iprop(cred (tallyAt (barCell c) () 1) ∗ cred (tallyAt (recvCell c 0) () N) ∗ cred (tallyAt (recvCell c 1) () N))

/-- The five counters of device `c` at zero. -/
def closed (c : Dev nD) : sProp 𝕄 :=
  iprop(semVal (barCell c) 0 ∗ semVal (sendCell c 0) 0 ∗ semVal (sendCell c 1) 0 ∗ semVal (recvCell c 0) 0 ∗ semVal (recvCell c 1) 0)

theorem close_cell (κ : ℕ) (g : GSem nD τ sig) :
    iprop(cellInv ER (Rd s) κ g ∗ atPos ER g (0 + 1) ∅ 0) ⊢ (|={Set.univ}=> semVal g 0 : sProp 𝕄) :=
  Rounds.cell_close ER (Rd s) (Set.mem_univ κ) id (duties_later s g)

end Cert.KProof

end
-- ==== Proof.Body.lean ====
/-
# One device's run of the kernel body

Each step of the straight line gets its rule once, for both halves; the run strings them together. It starts with the
device's staged rows, positions and word, its send buffer and result buffer at any contents, and ends with the result at
`outAt`, the five counters at zero and nothing owed.
-/
module

public import proofs.«01_k».proof.Proof.Protocol

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (s : Staged F) (K : GSem nD τ sig → ℕ)

abbrev 𝒱₀ : Variants := Variants.none

/-- The weakest precondition the body runs under. -/
abbrev run (c : Dev nD) (p : Prog (TpuEff nD τ sig (Elt F) Λ₀ .tc) PUnit) (Q : PUnit → sProp 𝕄) : sProp 𝕄 :=
  wp frame (wpE (defs₀ (F := F)) 𝒱₀ (c : Thread nD τ) none) Set.univ p Q

theorem slotRect_sub (i : Fin 2) : (bM : Memref sig .tc .vmem S4x256x512 .f32).view.setOn (slotRect i).set ⊆ slotSet i := by
  exact subset_of_eq (View.set_slice (v := View.whole cc0_scratch0) (slotRect i) |>.symm.trans (View.set_slice_whole ..))

theorem slotRect_sub' (i : Fin 2) : ((bM : Memref sig .tc .vmem S4x256x512 .f32).access (slotRect i)).setOn Finset.univ ⊆ slotSet i := by
  exact subset_of_eq (View.set_slice_whole ..)

/-- A block written whole holds what was written. -/
theorem blk_landed (c : Dev nD) (r : Bool) (i : Fin 2) (fd : Buf (Elt F) ((c : Thread nD τ).loc cc0_stg3_0)) (w : FVec F S256x512 .f32) :
    outOn c (blkSet r i) ((blkM r i).view.write (Elt F) fd w Finset.univ) ⊢ (blkAt c r i w : sProp 𝕄) := by
  unfold blkAt
  iintro H
  iexists ((blkM r i).view.write (Elt F) fd w Finset.univ)
  isplitr
  · ipureintro; exact View.read_write_univ (v := (blkM r i).view) fd w
  iexact H

/-- A send: the slot and the peer's block go in, the right to wait for the slot comes out. -/
theorem wp_send_step (c : Dev nD) (i : Fin 2) (O : CellTallies nD τ sig Unit) (W : Waits sig Unit)
    (k : PUnit → Prog (TpuEff nD τ sig (Elt F) Λ₀ .tc) PUnit) (Q : PUnit → sProp 𝕄) :
    iprop(cellInv ER (Rd s) (K (sendCell c i)) (sendCell c i) ∗ cellInv ER (Rd s) (K (recvCell (peer c) i)) (recvCell (peer c) i)
        ∗ slotAny c i ∗ blkAny (peer c) (half c) i ∗ owes (c : Thread nD τ) (O + tallyAt (recvCell (peer c) i) () N) W
        ∗ dutyTok ER (sendCell c i) 0 () ∗ reached ER (sendCell c i) 0
        ∗ dutyTok ER (recvCell (peer c) i) 0 () ∗ reached ER (recvCell (peer c) i) 0)
      ⊢ iprop(((cred (tallyAt (sendCell c i) () N) ∗ owes (c : Thread nD τ) O W) -∗ run c (k ⟨⟩) Q)
          -∗ run c (sendStep i (peer c) (rowOff (half c) i) (rowOff_inb _ _) (slab (s.pos c) (s.src c) (sendBase (half c) i)) >>= k) Q) := by
  unfold sendStep
  simp only [Prog.lift, Prog.bind_op, Prog.bind_ret]
  iintro ⟨#HIs, #HIr, Hslot, Hblk, HO, HtS, #HrS, HtR, #HrR⟩ Hk
  unfold slotAny blkAny
  icases Hslot with ⟨%f, Hslot⟩
  icases Hblk with ⟨%fd, Hblk⟩
  iapply (wp_load 𝒱₀ (c : Thread nD τ) none Set.univ (m := bM) (slotRect_sub i)) $$ Hslot; iintro Hslot
  iapply (wp_store 𝒱₀ (c : Thread nD τ) none Set.univ (m := bM) (r := slotRect i) (Mk := Finset.univ) (slotRect_sub' i)) $$ Hslot; iintro Hslot
  ihave Hslot := (Entails.of_eq (slot_view c i _).symm) $$ Hslot
  ihave Hblk := (Entails.of_eq (blk_view (peer c) (half c) i _).symm) $$ Hblk
  iapply (Rounds.wp_send_pointsTo 𝒱₀ ER (Rd s) (c : Thread nD τ) none (c' := (peer c : Thread nD τ)) (src := slotM i) (dst := blkM (half c) i)
      (sS := .dma (sendS i).sem) (sem := .dma (recvS i).sem) (q := fullShare)
      (fs := (bM.access (slotRect i)).write (Elt F) f (slab (s.pos c) (s.src c) (sendBase (half c) i)) Finset.univ) (fd := fd) (κ₁ := K (sendCell c i)) (κ₂ := K (recvCell (peer c) i))
      (r₁ := 0) (r₂ := 0) (d₁ := ()) (d₂ := ())
      (by rw [duties_send]; exact Finset.mem_singleton_self _) (by rw [duties_recv]; exact Finset.mem_singleton_self _)
      () () N rfl (amount_send s c i ()) (amount_recv s (peer c) i ()) O rfl (W := W)
      (by
        rw [payload_send, slot_view]; unfold sendPay slotAny
        iintro H; iexists _; iexact H)
      (by
        rw [payload_recv]; unfold recvPay blkAt
        rw [half_peer, Bool.not_not, peer_peer, slot_read, blk_view]
        exact blk_landed (peer c) (half c) i fd _)) $$ [Hslot Hblk HO HtS HtR]
  · isplitr; · iexact HIs
    isplitr; · iexact HIr
    isplitl [Hslot]; · iexact Hslot
    isplitl [Hblk]; · iexact Hblk
    isplitl [HO]; · iexact HO
    isplitl [HtS]; · iexact HtS
    isplitr; · iexact HrS
    isplitl [HtR]; · iexact HtR
    iexact HrR
  iintro H
  iapply Hk $$ H

abbrev blkRect (r : Bool) (i : Fin 2) : Rect S1024x512 := Rect.unit (s := S1024x512) (rowOff r i) S256x512.size (rowOff_inb r i)
theorem blkRect_sub (r : Bool) (i : Fin 2) :
    (oM : Memref sig .tc .vmem S1024x512 .f32).view.setOn (blkRect r i).set ⊆ blkSet r i := by
  exact subset_of_eq (View.set_slice (v := View.whole cc0_stg3_0) (blkRect r i) |>.symm.trans (View.set_slice_whole ..))
theorem blkRect_sub' (r : Bool) (i : Fin 2) :
    ((oM : Memref sig .tc .vmem S1024x512 .f32).access (blkRect r i)).setOn Finset.univ ⊆ blkSet r i := by
  exact subset_of_eq (View.set_slice_whole ..)

/-- A local store of a block. -/
theorem wp_keep_step (c : Dev nD) (r : Bool) (i : Fin 2) (w : FVec F S256x512 .f32)
    (k : PUnit → Prog (TpuEff nD τ sig (Elt F) Λ₀ .tc) PUnit) (Q : PUnit → sProp 𝕄) :
    (blkAny c r i : sProp 𝕄) ⊢ iprop((blkAt c r i w -∗ run c (k ⟨⟩) Q) -∗ run c (keepStep (rowOff r i) (rowOff_inb _ _) w >>= k) Q) := by
  unfold keepStep
  simp only [Prog.lift, Prog.bind_op, Prog.bind_ret]
  unfold blkAny blkAt
  iintro ⟨%f, H⟩ Hk
  iapply (wp_load 𝒱₀ (c : Thread nD τ) none Set.univ (m := oM) (blkRect_sub r i)) $$ H; iintro H
  iapply (wp_store 𝒱₀ (c : Thread nD τ) none Set.univ (m := oM) (r := blkRect r i) (Mk := Finset.univ) (blkRect_sub' r i)) $$ H; iintro H
  iapply Hk
  iexists _
  isplitr
  · ipureintro; exact View.read_write_univ (v := (oM : Memref sig .tc .vmem S1024x512 .f32).access (blkRect r i)) f w
  iexact H

/-- A receive wait: the block the peer wrote comes out. -/
theorem wp_recv_step (c : Dev nD) (i : Fin 2) (W : Waits sig Unit)
    (k : PUnit → Prog (TpuEff nD τ sig (Elt F) Λ₀ .tc) PUnit) (Q : PUnit → sProp 𝕄) :
    iprop(cellInv ER (Rd s) (K (recvCell c i)) (recvCell c i) ∗ cred (tallyAt (recvCell c i) () N) ∗ owes (c : Thread nD τ) 0 W ∗ atPos ER (recvCell c i) 0 ∅ 0)
      ⊢ iprop(((owes (c : Thread nD τ) 0 (insert (SemLoc.dma (recvS i).sem, ()) W) ∗ atPos ER (recvCell c i) (0 + 1) ∅ 0 ∗ blkAt c (!half c) i (sent s (peer c) i))
            -∗ run c (k ⟨⟩) Q)
          -∗ run c (recvStep i (rowOff (!half c) i) (rowOff_inb _ _) >>= k) Q) := by
  unfold recvStep
  simp only [Prog.lift, Prog.bind_op, Prog.bind_ret]
  iintro ⟨#HI, Hc, HO, Hat⟩ Hk
  iapply (Rounds.wp_wait_rest_token 𝒱₀ ER (Rd s) (c : Thread nD τ) none (κ := K (recvCell c i))
      (k' := N) (wpE_waitDma2_eq (src := slotM i) (dst := blkM (!half c) i) 𝒱₀ (c : Thread nD τ) none Set.univ) (Set.mem_univ _) () (O := 0) (W := W)
      (R := 0) (m := 0) (T := ∅) ((Nat.zero_add _).trans (expect_recv s c i).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq ((rest_recv s c i).trans (by unfold recvPay; rfl))) $$ Hpay
  iapply Hk
  isplitl [HO]; · iexact HO
  isplitl [Hat]; · iexact Hat
  iexact Hpay

/-- A send wait: the slot comes back. -/
theorem wp_done_step (c : Dev nD) (i : Fin 2) (W : Waits sig Unit) (o : Fin 2 → ℕ) (ho : ∀ a, o a + S256x512.size a ≤ S1024x512.size a)
    (k : PUnit → Prog (TpuEff nD τ sig (Elt F) Λ₀ .tc) PUnit) (Q : PUnit → sProp 𝕄) :
    iprop(cellInv ER (Rd s) (K (sendCell c i)) (sendCell c i) ∗ cred (tallyAt (sendCell c i) () N) ∗ owes (c : Thread nD τ) 0 W ∗ atPos ER (sendCell c i) 0 ∅ 0)
      ⊢ iprop(((owes (c : Thread nD τ) 0 (insert (SemLoc.dma (sendS i).sem, ()) W) ∗ atPos ER (sendCell c i) (0 + 1) ∅ 0 ∗ slotAny (F := F) c i)
            -∗ run c (k ⟨⟩) Q)
          -∗ run c (doneStep i o ho >>= k) Q) := by
  unfold doneStep
  simp only [Prog.lift, Prog.bind_op, Prog.bind_ret]
  iintro ⟨#HI, Hc, HO, Hat⟩ Hk
  iapply (Rounds.wp_wait_rest_token 𝒱₀ ER (Rd s) (c : Thread nD τ) none (κ := K (sendCell c i))
      (k' := N) (wpE_waitDma2_eq (src := rowsM o ho) (dst := slotM i) 𝒱₀ (c : Thread nD τ) none Set.univ) (Set.mem_univ _) () (O := 0) (W := W)
      (R := 0) (m := 0) (T := ∅) ((Nat.zero_add _).trans (expect_send s c i).symm)) $$ [Hc HO Hat]
  · isplitr; · iexact HI
    isplitl [Hc]; · iexact Hc
    isplitl [HO]; · iexact HO
    isplitr; · rw [MayWait_zero]; iempintro
    iexact Hat
  iintro ⟨HO, Hat, -, Hpay⟩
  ihave Hpay := (Entails.of_eq ((rest_send s c i).trans (by unfold sendPay; rfl))) $$ Hpay
  iapply Hk
  isplitl [HO]; · iexact HO
  isplitl [Hat]; · iexact Hat
  iexact Hpay

/-- The last step. -/
theorem wp_fix_step (c : Dev nD) (g : FVec F S8x512 .f32 → FVec F S8x512 .f32) (f : Buf (Elt F) ((c : Thread nD τ).loc cc0_stg3_0)) (Q : PUnit → sProp 𝕄) :
    (outPts c f : sProp 𝕄)
      ⊢ iprop((outPts c ((oM.access fixRect).write (Elt F) f (g (oM.view.readAt (Elt F) fixRect.toLoadRect f)) Finset.univ) -∗ |={Set.univ}=> Q ⟨⟩)
          -∗ run c (fixStep fixOff fixOff_inb g) Q) := by
  unfold fixStep
  simp only [Prog.lift, Prog.bind_op, Prog.bind_ret]
  iintro H Hk
  iapply (wp_load 𝒱₀ (c : Thread nD τ) none Set.univ (m := oM) (Finset.subset_univ _)) $$ H; iintro H
  iapply (wp_load 𝒱₀ (c : Thread nD τ) none Set.univ (m := oM) (Finset.subset_univ _)) $$ H; iintro H
  iapply (wp_store 𝒱₀ (c : Thread nD τ) none Set.univ (m := oM) (r := fixRect) (Mk := Finset.univ) (Finset.subset_univ _)) $$ H; iintro H
  rw [wp_ret]
  iapply Hk $$ H

/-- What the straight line starts with: the handshake done. -/
def linePre (c : Dev nD) (W : Waits sig Unit) : sProp 𝕄 :=
  iprop(invs s K c
    ∗ (atPos ER (barCell c) (0 + 1) ∅ 0 ∗ atPos ER (sendCell c 0) 0 ∅ 0 ∗ atPos ER (sendCell c 1) 0 ∅ 0 ∗ atPos ER (recvCell c 0) 0 ∅ 0 ∗ atPos ER (recvCell c 1) 0 ∅ 0)
    ∗ (reached ER (sendCell c 0) 0 ∗ reached ER (sendCell c 1) 0 ∗ reached ER (recvCell (peer c) 0) 0 ∗ reached ER (recvCell (peer c) 1) 0)
    ∗ (dutyTok ER (sendCell c 0) 0 () ∗ dutyTok ER (sendCell c 1) 0 () ∗ dutyTok ER (recvCell (peer c) 0) 0 () ∗ dutyTok ER (recvCell (peer c) 1) 0 ())
    ∗ (cred (tallyAt (recvCell c 0) () N) ∗ cred (tallyAt (recvCell c 1) () N))
    ∗ (blkAny (peer c) (half c) 0 ∗ blkAny (peer c) (half c) 1)
    ∗ (blkAny c (half c) 0 ∗ blkAny c (half c) 1)
    ∗ (slotAny c 0 ∗ slotAny c 1 ∗ slotRest c)
    ∗ owes (c : Thread nD τ) (O₂ c) W)

/-- What the body leaves beside what it only reads. -/
def linePost (c : Dev nD) : sProp 𝕄 :=
  iprop(closed c ∗ (∃ f, bufPts (F := F) c f) ∗ outPts c (outAt s c) ∗ ∃ W, owes (c : Thread nD τ) (0 : CellTallies nD τ sig Unit) W)

theorem line_run (c : Dev nD) (W : Waits sig Unit) (Q : PUnit → sProp 𝕄) :
    iprop(linePre s K c W ∗ (linePost s c -∗ Q ⟨⟩)) ⊢ run c (line (half c) (peer c) (s.pos c) (s.src c)) Q := by
  unfold line linePre invs O₂
  iintro ⟨⟨⟨#HIb, #HIs0, #HIs1, #HIr0, #HIr1, -, #HIp0, #HIp1⟩, ⟨HatB, HatS0, HatS1, HatR0, HatR1⟩, ⟨#HrS0, #HrS1, #HrP0, #HrP1⟩,
    ⟨HtS0, HtS1, HtP0, HtP1⟩, ⟨HcR0, HcR1⟩, ⟨HP0, HP1⟩, ⟨HK0, HK1⟩, ⟨Hb0, Hb1, Hbr⟩, HO⟩, Hk⟩
  iapply (wp_send_step s K c 0 (tallyAt (recvCell (peer c) 1) () N) W) $$ [Hb0 HP0 HO HtS0 HtP0]
  · isplitr; · iexact HIs0
    isplitr; · iexact HIp0
    isplitl [Hb0]; · iexact Hb0
    isplitl [HP0]; · iexact HP0
    isplitl [HO]; · iexact HO
    isplitl [HtS0]; · iexact HtS0
    isplitr; · iexact HrS0
    isplitl [HtP0]; · iexact HtP0
    iexact HrP0
  iintro ⟨HcS0, HO⟩
  iapply (wp_send_step s K c 1 0 W) $$ [Hb1 HP1 HO HtS1 HtP1]
  · isplitr; · iexact HIs1
    isplitr; · iexact HIp1
    isplitl [Hb1]; · iexact Hb1
    isplitl [HP1]; · iexact HP1
    isplitl [HO]; · rw [zero_add]; iexact HO
    isplitl [HtS1]; · iexact HtS1
    isplitr; · iexact HrS1
    isplitl [HtP1]; · iexact HtP1
    iexact HrP1
  iintro ⟨HcS1, HO⟩
  iapply (wp_keep_step c (half c) 0) $$ HK0; iintro HK0
  iapply (wp_keep_step c (half c) 1) $$ HK1; iintro HK1
  iapply (wp_recv_step s K c 0) $$ [HcR0 HO HatR0]
  · isplitr; · iexact HIr0
    isplitl [HcR0]; · iexact HcR0
    isplitl [HO]; · iexact HO
    iexact HatR0
  iintro ⟨HO, HatR0, HR0⟩
  iapply (wp_recv_step s K c 1) $$ [HcR1 HO HatR1]
  · isplitr; · iexact HIr1
    isplitl [HcR1]; · iexact HcR1
    isplitl [HO]; · iexact HO
    iexact HatR1
  iintro ⟨HO, HatR1, HR1⟩
  iapply (wp_done_step s K c 0) $$ [HcS0 HO HatS0]
  · isplitr; · iexact HIs0
    isplitl [HcS0]; · iexact HcS0
    isplitl [HO]; · iexact HO
    iexact HatS0
  iintro ⟨HO, HatS0, Hb0⟩
  iapply (wp_done_step s K c 1) $$ [HcS1 HO HatS1]
  · isplitr; · iexact HIs1
    isplitl [HcS1]; · iexact HcS1
    isplitl [HO]; · iexact HO
    iexact HatS1
  iintro ⟨HO, HatS1, Hb1⟩
  ihave Hout := (out_join c (half c) (blocks s c)) $$ [HK0 HK1 HR0 HR1]
  · rw [blocks_own, blocks_own, blocks_other, blocks_other]
    isplitl [HK0]; · iexact HK0
    isplitl [HK1]; · iexact HK1
    isplitl [HR0]; · iexact HR0
    iexact HR1
  ihave Hbuf := (buf_join c) $$ [Hb0 Hb1 Hbr]
  · isplitl [Hb0]; · iexact Hb0
    isplitl [Hb1]; · iexact Hb1
    iexact Hbr
  iapply (wp_fix_step c) $$ Hout
  iintro Hout
  imod (close_cell s (K (barCell c)) (barCell c)) $$ [HatB] with HzB
  · isplitr; · iexact HIb
    iexact HatB
  imod (close_cell s (K (sendCell c 0)) (sendCell c 0)) $$ [HatS0] with HzS0
  · isplitr; · iexact HIs0
    iexact HatS0
  imod (close_cell s (K (sendCell c 1)) (sendCell c 1)) $$ [HatS1] with HzS1
  · isplitr; · iexact HIs1
    iexact HatS1
  imod (close_cell s (K (recvCell c 0)) (recvCell c 0)) $$ [HatR0] with HzR0
  · isplitr; · iexact HIr0
    iexact HatR0
  imod (close_cell s (K (recvCell c 1)) (recvCell c 1)) $$ [HatR1] with HzR1
  · isplitr; · iexact HIr1
    iexact HatR1
  imodintro
  iapply Hk
  unfold linePost closed outAt
  isplitl [HzB HzS0 HzS1 HzR0 HzR1]
  · isplitl [HzB]; · iexact HzB
    isplitl [HzS0]; · iexact HzS0
    isplitl [HzS1]; · iexact HzS1
    isplitl [HzR0]; · iexact HzR0
    iexact HzR1
  isplitl [Hbuf]; · iexact Hbuf
  isplitl [Hout]; · iexact Hout
  iexists _; iexact HO

end Cert.KProof

end
-- ==== Proof.Head.lean ====
/-
# The body from its first line

The device reads its word, shakes hands with its peer, reads its positions and its rows, and runs the straight line. At
the handshake each device gives the other half of its result buffer away and gets the peer's.
-/
module

public import proofs.«01_k».proof.Proof.Body

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (s : Staged F) (K : GSem nD τ sig → ℕ)

abbrev xPts (c : Dev nD) (f : (cc0_stg0_0 : Ref sig .tc).ty.Contents (Elt F)) : sProp 𝕄 := iprop(((c : Thread nD τ).loc cc0_stg0_0) ↦{fullShare} f)
abbrev pPts (c : Dev nD) (f : (cc0_stg1_0 : Ref sig .tc).ty.Contents (Elt F)) : sProp 𝕄 := iprop(((c : Thread nD τ).loc cc0_stg1_0) ↦{fullShare} f)
abbrev cPts (c : Dev nD) (f : (cc0_stg2_0 : Ref sig .tc).ty.Contents (Elt F)) : sProp 𝕄 := iprop(((c : Thread nD τ).loc cc0_stg2_0) ↦{fullShare} f)

/-- The word every device reads. -/
abbrev word : (cc0_stg2_0 : Ref sig .tc).ty.Contents (Elt F) := fun _ => (512#32 : BitVec 32)

def headPre (c : Dev nD) (W : Waits sig Unit) : sProp 𝕄 :=
  iprop(opened s K c ∗ creds c ∗ levAts L lv ∗ (∃ f, bufPts (F := F) c f) ∗ (∃ f, outPts (F := F) c f)
    ∗ xPts c (s.x c) ∗ pPts c (s.p c) ∗ cPts c word ∗ owes (c : Thread nD τ) (O₀ c) W)

def headPost (c : Dev nD) : sProp 𝕄 := iprop(linePost s c ∗ xPts c (s.x c) ∗ pPts c (s.p c) ∗ cPts c word)

theorem pos_read (c : Dev nD) (h) :
    k0_pay1 (F := F) (pM.view.readAt (Elt F) (Rect.unit (s := S1x1024) ![0, 0] S1x1024.size h).toLoadRect (s.p c)) = s.pos c := by
  exact congrArg k0_pay1 (Memref.readAt_unit_zero (Elt F) cc0_stg1_0 (by funext a; fin_cases a <;> rfl) h (s.p c))

theorem src_read (c : Dev nD) (h) :
    k0_pay2 (F := F) (xM.view.readAt (Elt F) (Rect.unit (s := S1024x512) ![0, 0] S1024x512.size h).toLoadRect (s.x c)) = s.src c := by
  exact congrArg k0_pay2 (Memref.readAt_unit_zero (Elt F) cc0_stg0_0 (by funext a; fin_cases a <;> rfl) h (s.x c))

/-- At the word 512 the branches are the straight line. -/
theorem branches_run (c : Dev nD) (w : BitVec 32) (h : w = 512#32) (hw : k0_chk1 c w) (p : IVec S1x1024 32) (x : FVec F S1024x512 .f32) (Q : PUnit → sProp 𝕄) :
    run c (line (half c) (peer c) p x) Q ⊢ run c (branches c w hw p x) Q := by
  subst h; rw [branches_at]

theorem head_run (c : Dev nD) (W : Waits sig Unit) (Q : PUnit → sProp 𝕄) :
    iprop(headPre s K c W ∗ (headPost s c -∗ Q ⟨⟩)) ⊢ run c head Q := by
  unfold head smemLoad smemLoadElt
  simp only [semSignalWord, semWaitWord, Prog.lift, Prog.bind_op, Prog.bind_ret, Prog.pure_eq_ret, wp_deviceId]
  unfold headPre opened invs payToks creds
  iintro ⟨⟨⟨⟨#HIb, #HIs0, #HIs1, #HIr0, #HIr1, #HIbP, #HIp0, #HIp1⟩, ⟨HatB, HatS0, HatS1, HatR0, HatR1⟩,
    ⟨#HrBP, #HrS0, #HrS1, #HrR0, #HrR1⟩, ⟨HtB, HtS0, HtS1, HtP0, HtP1⟩⟩, ⟨HcB, HcR0, HcR1⟩, #Hlev, ⟨%fb, Hbuf⟩, ⟨%fo, Hout⟩, Hx, Hp, Hc, HO⟩, Hk⟩
  iapply (wp_load 𝒱₀ (c : Thread nD τ) none Set.univ (m := cM) (Finset.subset_univ _)) $$ Hc; iintro Hc
  iapply (wp_assume 𝒱₀ (c : Thread nD τ) none Set.univ (chk_at c))
  simp only [dev1_eq c]
  ihave Hout := (out_split c (half c) fo) $$ Hout
  icases Hout with ⟨HK0, HK1, HG0, HG1⟩
  iapply (Rounds.wp_signal 𝒱₀ ER (Rd s) (c : Thread nD τ) none (dst := (peer c : Thread nD τ)) (κ := K (barCell (peer c)))
      (by rw [duties_bar]; exact Finset.mem_singleton_self _) ((amount_bar s (peer c) ()).trans (by decide)) () (O₂ c) rfl)
    $$ [HO HtB HG0 HG1]
  · isplitr; · iexact HIbP
    isplitl [HO]; · iexact HO
    isplitl [HtB]; · iexact HtB
    isplitl [HG0 HG1]
    · rw [payload_bar]; unfold barPay; rw [peer_peer, half_peer]
      isplitl [HG0]; · iexact HG0
      isplitl [HG1]; · iexact HG1
      isplitr; · iexact HrR0
      iexact HrR1
    · iexact HrBP
  iintro HO
  iapply (Rounds.wp_wait_rest_token 𝒱₀ ER (Rd s) (c : Thread nD τ) none (κ := K (barCell c))
      (wpE_semWait_eq 𝒱₀ (c : Thread nD τ) none Set.univ) (Set.mem_univ _) () (O := O₂ c) (W := W) (R := 0) (m := 0) (T := ∅)
      (by rw [expect_bar]; decide)) $$ [HcB HO HatB]
  · isplitr; · iexact HIb
    isplitl [HcB]; · iexact HcB
    isplitl [HO]; · iexact HO
    isplitr; · iapply (mayWait_bar c); iexact Hlev
    iexact HatB
  iintro ⟨HO, HatB, -, Hpay⟩
  ihave Hpay := (Entails.of_eq (rest_bar s c)) $$ Hpay
  unfold barPay
  icases Hpay with ⟨HP0, HP1, #HrP0, #HrP1⟩
  iapply (wp_load 𝒱₀ (c : Thread nD τ) none Set.univ (m := pM) (Finset.subset_univ _)) $$ Hp; iintro Hp
  iapply (wp_load 𝒱₀ (c : Thread nD τ) none Set.univ (m := xM) (Finset.subset_univ _)) $$ Hx; iintro Hx
  rw [pos_read, src_read]
  iapply (branches_run c _ rfl _ (s.pos c) (s.src c) Q)
  iapply (line_run s K c)
  unfold linePre invs
  isplitr [Hk Hx Hp Hc]
  · isplitr
    · isplitr; · iexact HIb
      isplitr; · iexact HIs0
      isplitr; · iexact HIs1
      isplitr; · iexact HIr0
      isplitr; · iexact HIr1
      isplitr; · iexact HIbP
      isplitr; · iexact HIp0
      iexact HIp1
    isplitl [HatB HatS0 HatS1 HatR0 HatR1]
    · isplitl [HatB]; · iexact HatB
      isplitl [HatS0]; · iexact HatS0
      isplitl [HatS1]; · iexact HatS1
      isplitl [HatR0]; · iexact HatR0
      iexact HatR1
    isplitr
    · isplitr; · iexact HrS0
      isplitr; · iexact HrS1
      isplitr; · iexact HrP0
      iexact HrP1
    isplitl [HtS0 HtS1 HtP0 HtP1]
    · isplitl [HtS0]; · iexact HtS0
      isplitl [HtS1]; · iexact HtS1
      isplitl [HtP0]; · iexact HtP0
      iexact HtP1
    isplitl [HcR0 HcR1]
    · isplitl [HcR0] <;> iassumption
    isplitl [HP0 HP1]
    · isplitl [HP0] <;> iassumption
    isplitl [HK0 HK1]
    · isplitl [HK0] <;> iassumption
    isplitl [Hbuf]
    · iapply (buf_split c fb); iexact Hbuf
    iexact HO
  iintro Hpost
  iapply Hk
  unfold headPost
  isplitl [Hpost]; · iexact Hpost
  isplitl [Hx]; · iexact Hx
  isplitl [Hp] <;> iassumption

end Cert.KProof

end
-- ==== Proof.Region.lean ====
module

public import proofs.«01_k».proof.Proof.Head
public import proofs.«01_k».proof.Proof.Gen.KernelIdeal.Regions
public import proofs.«01_k».proof.Proof.Gen.KernelIdeal.Points

/-!
# The one pallas call as a region of the program

The host code before the call has run: `V c` is what device `c`'s buffers hold.  The call stages the rows, the
positions and the count of zeros, runs the body proved in `Head`, and writes the result back.  This module is the
proof data of that call (`dat`), the body's obligation, and the record `reg` through `RegionSeg.ofTalk`.  The count of
zeros is assumed 512 on every device (`hw`); `Host` proves it from the precondition.
-/

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (V : Dev nD → Valuation τ sig (Elt F))

/-- What the call stages on each device. -/
def staged : Staged F := ⟨fun c => V c main_arg0, fun c => V c main_v42⟩

/-- What each device's buffers hold after the call. -/
def after (c : Dev nD) : Valuation τ sig (Elt F) := Function.update (V c) main_v44 (outAt (staged V) c)

theorem after_v44 (c : Dev nD) : after V c main_v44 = outAt (staged V) c := Function.update_self ..

theorem after_of_ne (c : Dev nD) (b : DevRef τ sig) (h : b ≠ Proc.devRef .tc main_v44) : after V c b = V c b :=
  Function.update_of_ne h _ _

/-! ## The semaphores the call declares -/

/-- The eight semaphores of the kernel's two arrays: the four in use, then the four that no statement names. -/
def osem : Fin 8 → SemLoc sig
  | 0 => .dma (sendS 0).sem
  | 1 => .dma (sendS 1).sem
  | 2 => .dma (recvS 0).sem
  | 3 => .dma (recvS 1).sem
  | 4 => .dma 6
  | 5 => .dma 7
  | 6 => .dma 10
  | 7 => .dma 11

theorem osem_facts : OwnSemFacts spec0 osem := by decide

/-- The four counters never used, at zero. -/
def spare (c : Dev nD) : sProp 𝕄 :=
  iprop(semVal ((c : Thread nD τ), .dma 6) 0 ∗ semVal ((c : Thread nD τ), .dma 7) 0
    ∗ semVal ((c : Thread nD τ), .dma 10) 0 ∗ semVal ((c : Thread nD τ), .dma 11) 0)

theorem ownSems_eq (c : Dev nD) : (Pipeline.ownSems0 osem c : sProp 𝕄)
    = iprop(semVal (sendCell c 0) 0 ∗ semVal (sendCell c 1) 0 ∗ semVal (recvCell c 0) 0 ∗ semVal (recvCell c 1) 0 ∗ spare c) := by
  unfold Pipeline.ownSems0
  exact bigSep_univ_eq_bigSepL [(0 : Fin 8), 1, 2, 3, 4, 5, 6, 7] (by decide) (by decide) _

/-! ## The proof data -/

/-- The kernel's scratch and the generator register, at contents not chosen. -/
def rest (c : Dev nD) : sProp 𝕄 := iprop((∃ f, bufPts c f) ∗ ∃ r, prngReg c r)

/-- What enters the call, the four counters open. -/
def Xk (c : Dev nD) : sProp 𝕄 := iprop((∃ K, opened (staged V) K c) ∗ creds c ∗ levAts L lv ∗ spare c)
/-- What the launch keeps for the call. -/
def Tk (c : Dev nD) : sProp 𝕄 := iprop((∃ K, ghost (staged V) K c) ∗ creds c)
/-- What the call leaves: the barrier's counter at zero. -/
def Yk (c : Dev nD) : sProp 𝕄 := semVal (barCell c) 0

def dat (c : Dev nD) : Dat τ (Elt F) Unit ℕ UU ℕ cfg0 c where
  A w := match w with
    | ⟨0, _⟩ => V c main_arg0
    | ⟨1, _⟩ => V c main_v42
    | ⟨2, _⟩ => V c main_v43
    | ⟨3, _⟩ => V c main_v44
  after w _ := match w with
    | ⟨0, _⟩ => (staged V).x c
    | ⟨1, _⟩ => (staged V).p c
    | ⟨2, _⟩ => word
    | ⟨3, _⟩ => outAt (staged V) c
  Φ t := match t with
    | ⟨0, _⟩ => iprop(Xk V c ∗ rest c)
    | ⟨_ + 1, _⟩ => iprop(closed c ∗ spare c ∗ rest c)
  q _ := fullShare
  owed t := match t with
    | ⟨0, _⟩ => O₀ c
    | ⟨_ + 1, _⟩ => 0

def pdats : (p : Fin 1) → (c : Dev nD) → Dat τ (Elt F) Unit ℕ UU ℕ (Pipeline.pin (pcfgs (F := F)) adm p) c
  | 0 => dat V

theorem hz : (![0, 0] : Fin 2 → Nat) = fun _ => 0 := funext fun a => by fin_cases a <;> rfl

theorem read_x (f : (main_arg0 : Ref sig .tc).ty.Contents (Elt F)) : (win0_0.blk t0_0).view.read (Elt F) f = f :=
  Memref.readAt_unit_zero (Elt F) main_arg0 (by funext a; fin_cases a <;> rfl) _ f
theorem read_p (f : (main_v42 : Ref sig .tc).ty.Contents (Elt F)) : (win0_1.blk t0_0).view.read (Elt F) f = f :=
  Memref.readAt_unit_zero (Elt F) main_v42 (by funext a; fin_cases a <;> rfl) _ f
theorem read_c (f : (main_v43 : Ref sig .tc).ty.Contents (Elt F)) : (win0_2.blk t0_0).view.read (Elt F) f = f :=
  Memref.readAt_unit_zero (Elt F) main_v43 (by funext a; fin_cases a <;> rfl) _ f
theorem write_o (f w : (main_v44 : Ref sig .tc).ty.Contents (Elt F)) : (win0_3.blk t0_0).view.write (Elt F) f w Finset.univ = w :=
  Memref.write_access_unit_zero_univ (Elt F) main_v44 (by funext a; fin_cases a <;> rfl) _ f w

/-! ## The body's obligation -/

/-- A staging buffer held whole at contents `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem stg_intro (c : Dev nD) (b : Ref sig .tc) (X : b.ty.Contents (Elt F)) :
    ((((c : Thread nD τ).loc b) ↦{fullShare} X : sProp 𝕄)) ⊢ stg c b X := by
  iintro H; iexists X; isplitr; · ipureintro; rfl
  iexact H

theorem before_x (c : Dev nD) (d) : (dat V c).before (0 : Fin 4) t0_0 d = (staged V).x c := by
  unfold Dat.before; rw [if_pos (fetch0_0 t0_0)]; exact read_x (F := F) (V c main_arg0)
theorem before_p (c : Dev nD) (d) : (dat V c).before (1 : Fin 4) t0_0 d = (staged V).p c := by
  unfold Dat.before; rw [if_pos (fetch0_1 t0_0)]; exact read_p (F := F) (V c main_v42)
theorem before_c (hw : ∀ c : Dev nD, V c main_v43 = fun _ => 512#32) (c : Dev nD) (d) : (dat V c).before (2 : Fin 4) t0_0 d = word := by
  unfold Dat.before; rw [if_pos (fetch0_2 t0_0)]; exact (read_c (F := F) (V c main_v43)).trans (hw c)

theorem owesAt_intro (c : Dev nD) (t : Fin (cfg0.N + 1)) (O : CellTallies nD τ sig Unit) (h0 : (dat V c).owed t = O) (W : Waits sig Unit) :
    (owes (c : Thread nD τ) O W : sProp 𝕄) ⊢ ((dat V c).owesAt () t : sProp 𝕄) := by
  unfold Dat.owesAt Pipeline.owesWithin Dat.bound; rw [h0]
  iintro HO; iexists W; isplitr; · ipureintro; exact fun _ _ => Or.inl trivial
  iexact HO
theorem owesAt_elim (c : Dev nD) (t : Fin (cfg0.N + 1)) (O : CellTallies nD τ sig Unit) (h0 : (dat V c).owed t = O) :
    ((dat V c).owesAt () t : sProp 𝕄) ⊢ iprop(∃ W, owes (c : Thread nD τ) O W) := by
  unfold Dat.owesAt Pipeline.owesWithin; rw [h0]
  iintro ⟨%W, -, HO⟩; iexists W; iexact HO

def bodyPre (c : Dev nD) : sProp 𝕄 :=
  iprop((Xk V c ∗ rest c) ∗ (dat V c).owesAt () t0_0.castSucc
    ∗ (∃ d, stg c cc0_stg0_0 ((dat V c).before (0 : Fin 4) t0_0 d)) ∗ (∃ d, stg c cc0_stg1_0 ((dat V c).before (1 : Fin 4) t0_0 d))
    ∗ (∃ d, stg c cc0_stg2_0 ((dat V c).before (2 : Fin 4) t0_0 d)) ∗ (∃ d, stg c cc0_stg3_0 ((dat V c).before (3 : Fin 4) t0_0 d)))
def bodyPost (c : Dev nD) : sProp 𝕄 :=
  iprop((closed c ∗ spare c ∗ rest c) ∗ (dat V c).owesAt () t0_0.succ
    ∗ stg c cc0_stg0_0 ((staged V).x c) ∗ stg c cc0_stg1_0 ((staged V).p c) ∗ stg c cc0_stg2_0 word ∗ stg c cc0_stg3_0 (outAt (staged V) c))

theorem body_run (hw : ∀ c : Dev nD, V c main_v43 = fun _ => 512#32) (c : Dev nD) :
    bodyPre V c ⊢ run c (head (F := F)) fun _ => bodyPost V c := by
  unfold bodyPre Xk rest
  iintro ⟨⟨⟨⟨%K, Hg⟩, Hcr, Hlev, Hsp⟩, Hbuf, Hreg⟩, HO, ⟨%d0, %g0, %h0, Hx⟩, ⟨%d1, %g1, %h1, Hp⟩, ⟨%d2, %g2, %h2, Hc⟩, ⟨%d3, %g3, %h3, Ho⟩⟩
  rw [before_x] at h0; rw [before_p] at h1; rw [before_c V hw] at h2
  subst h0 h1 h2
  ihave HO' := (owesAt_elim V c _ (O₀ c) rfl) $$ HO
  icases HO' with ⟨%W, HO⟩
  iapply (head_run (staged V) K c W fun _ => bodyPost V c)
  isplitr [Hsp Hreg]
  · unfold headPre
    isplitl [Hg]; · iexact Hg
    isplitl [Hcr]; · iexact Hcr
    isplitl [Hlev]; · iexact Hlev
    isplitl [Hbuf]; · iexact Hbuf
    isplitl [Ho]; · iexists g3; iexact Ho
    isplitl [Hx]; · iexact Hx
    isplitl [Hp]; · iexact Hp
    isplitl [Hc]; · iexact Hc
    iexact HO
  unfold headPost linePost bodyPost rest
  iintro ⟨⟨Hcl, Hbuf, Ho, ⟨%W', HO⟩⟩, Hx, Hp, Hc⟩
  isplitl [Hcl Hsp Hbuf Hreg]
  · isplitl [Hcl]; · iexact Hcl
    isplitl [Hsp]; · iexact Hsp
    isplitl [Hbuf]; · iexact Hbuf
    iexact Hreg
  isplitl [HO]; · iapply (owesAt_intro V c _ 0 rfl W'); iexact HO
  isplitl [Hx]; · iapply (stg_intro c cc0_stg0_0 ((staged V).x c)); iexact Hx
  isplitl [Hp]; · iapply (stg_intro c cc0_stg1_0 ((staged V).p c)); iexact Hp
  isplitl [Hc]; · iapply (stg_intro c cc0_stg2_0 word); iexact Hc
  iapply (stg_intro c cc0_stg3_0 (outAt (staged V) c)); iexact Ho

theorem body_run' (hw : ∀ c : Dev nD, V c main_v43 = fun _ => 512#32) (c : Dev nD) :
    bodyPre V c ⊢ run c (cc0_body (F := F) xM (Memref.isWhole_whole _) pM (Memref.isWhole_whole _) cM (Memref.isWhole_whole _) oM
      (Memref.isWhole_whole _) bM (Memref.isWhole_whole _) cc0_scratch1 cc0_scratch2) fun _ => bodyPost V c := by
  rw [body_eq]; exact body_run V hw c

set_option maxRecDepth 4000 in
theorem body_obligation (hw : ∀ c : Dev nD, V c main_v43 = fun _ => 512#32) (c : Dev nD) :
    BodyObligation (dat V c) defs₀ 𝒱₀ () Set.univ := fun t => by
  rw [fin_N0 t]
  rw [bigSep_W0, bigSep_W0]
  simp only [owns_whole_eq]
  show bodyPre V c ⊢ wp frame (wpE (defs₀ (F := F)) 𝒱₀ c none) Set.univ
    (cc0_body (F := F) (Memref.whole cc0_stg0_0) (Memref.isWhole_whole _) (Memref.whole cc0_stg1_0) (Memref.isWhole_whole _)
      (Memref.whole cc0_stg2_0) (Memref.isWhole_whole _) (Memref.whole cc0_stg3_0) (Memref.isWhole_whole _)
      (Memref.whole cc0_scratch0) (Memref.isWhole_whole _) cc0_scratch1 cc0_scratch2) (fun _ => bodyPost V c)
  exact body_run' V hw c

end Cert.KProof

end
-- ==== Proof.Record.lean ====
module

public import proofs.«01_k».proof.Proof.Region

/-!
# The call's record

`reg` is the pallas call as a segment of the program: entered with every buffer at `V` and what the launch keeps for the
call, left with the result buffer at `outAt`, every other buffer as it was, and the barrier's counter at zero.
-/

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (V : Dev nD → Valuation τ sig (Elt F))

theorem arr_in (c : Dev nD) (w : Fin 4) : (dat V c).arrAt w 0 = V c (Proc.devRef .tc (arrRef spec0 w)) := by
  fin_cases w <;> rfl

theorem flushed_o (c : Dev nD) : (dat V c).flushed (3 : Fin 4) t0_0 = outAt (staged V) c := rfl

theorem arr_o (c : Dev nD) : (dat V c).arrAt (3 : Fin 4) cfg0.N = outAt (staged V) c := by
  rw [show cfg0.N = (t0_0 : Fin cfg0.N).val + 1 from by rw [show cfg0.N = 1 from N_0]; rfl, Dat.arrAt_succ, if_pos (flush0_3 t0_0), flushed_o]
  exact write_o (F := F) _ _

theorem arr_ne : ∀ w : Fin 4, w ≠ 3 → Proc.devRef (τ := τ) .tc (arrRef spec0 w) ≠ Proc.devRef .tc main_v44 := by decide

theorem arr_out (c : Dev nD) (w : Fin 4) : (dat V c).arrAt w cfg0.N = after V c (Proc.devRef .tc (arrRef spec0 w)) := by
  by_cases h : w = 3
  · subst h; exact (arr_o V c).trans (after_v44 V c).symm
  · rw [after_of_ne V c _ (arr_ne w h), ← arr_in V c w]
    exact (dat V c).arrAt_in w (by revert h; revert w; decide) cfg0.N

theorem owed_lv (c : Dev nD) (t : Fin (cfg0.N + 1)) (g : GSem nD τ sig) (i : Unit) (h : 0 < (dat V c).owed t g i) :
    i ∈ L g ∧ (0 : ℕ) < lv g i := by
  have h0 : 0 < O₀ c g i := by
    match t, h with
    | ⟨0, _⟩, h => exact h
    | ⟨_ + 1, _⟩, h => exact absurd h (Nat.lt_irrefl 0)
  rcases O₀_pos h0 with ⟨j, rfl⟩ | rfl
  · exact ⟨by rw [L_tc]; exact Finset.mem_singleton_self _, by rw [lv_recv]; decide⟩
  · exact ⟨by rw [L_tc]; exact Finset.mem_singleton_self _, by rw [lv_bar]; decide⟩

theorem stage_ne_recv : ∀ (w : Fin 4) (b : Fin (cfg0.win w).nbuf),
    ¬ ((SemLoc.dma ((cfg0.win w).sem b) : SemLoc sig) = .dma (recvS 0).sem ∨ (SemLoc.dma ((cfg0.win w).sem b) : SemLoc sig) = .dma (recvS 1).sem) := by decide

theorem stage_lv (c : Dev nD) (w : Fin 4) (b : Fin (cfg0.win w).nbuf) : lv ((c : Thread nD τ), .dma ((cfg0.win w).sem b)) () ≤ 0 := by
  unfold lv
  rw [if_neg (fun h => by cases h), if_neg (stage_ne_recv w b)]

theorem hopen (c : Dev nD) : iprop(Tk V c ∗ Pipeline.ownSems0 osem c ∗ levAts L lv) ⊢ (|={Set.univ}=> Xk V c : sProp 𝕄) := by
  rw [ownSems_eq]
  unfold Tk Xk ghost invs openToks
  iintro ⟨⟨⟨%K, ⟨#Hb, #Hs0, #Hs1, #Hr0, #Hr1, #HbP, #HrP0, #HrP1⟩, Hat, ⟨Ho0, Ho1, Ho2, Ho3⟩, #HrB, Htoks⟩, Hcr⟩,
    ⟨Hv0, Hv1, Hv2, Hv3, Hsp⟩, #Hlev⟩
  imod (Rounds.cell_open ER (Rd (staged V)) (g := sendCell c 0) (Set.mem_univ (K (sendCell c 0)))) $$ [Ho0 Hv0] with ⟨Ha0, #Hq0⟩
  · isplitr; · iexact Hs0
    isplitl [Ho0] <;> iassumption
  imod (Rounds.cell_open ER (Rd (staged V)) (g := sendCell c 1) (Set.mem_univ (K (sendCell c 1)))) $$ [Ho1 Hv1] with ⟨Ha1, #Hq1⟩
  · isplitr; · iexact Hs1
    isplitl [Ho1] <;> iassumption
  imod (Rounds.cell_open ER (Rd (staged V)) (g := recvCell c 0) (Set.mem_univ (K (recvCell c 0)))) $$ [Ho2 Hv2] with ⟨Ha2, #Hq2⟩
  · isplitr; · iexact Hr0
    isplitl [Ho2] <;> iassumption
  imod (Rounds.cell_open ER (Rd (staged V)) (g := recvCell c 1) (Set.mem_univ (K (recvCell c 1)))) $$ [Ho3 Hv3] with ⟨Ha3, #Hq3⟩
  · isplitr; · iexact Hr1
    isplitl [Ho3] <;> iassumption
  imodintro
  isplitl [Hat Ha0 Ha1 Ha2 Ha3 Htoks]
  · iexists K; unfold opened invs
    isplitr
    · isplitr; · iexact Hb
      isplitr; · iexact Hs0
      isplitr; · iexact Hs1
      isplitr; · iexact Hr0
      isplitr; · iexact Hr1
      isplitr; · iexact HbP
      isplitr; · iexact HrP0
      iexact HrP1
    isplitl [Hat Ha0 Ha1 Ha2 Ha3]
    · isplitl [Hat]; · iexact Hat
      isplitl [Ha0]; · iexact Ha0
      isplitl [Ha1]; · iexact Ha1
      isplitl [Ha2] <;> iassumption
    isplitr
    · isplitr; · iexact HrB
      isplitr; · iexact Hq0
      isplitr; · iexact Hq1
      isplitr; · iexact Hq2
      iexact Hq3
    iexact Htoks
  isplitl [Hcr]; · iexact Hcr
  isplitr; · iexact Hlev
  iexact Hsp

theorem held_none (c : Dev nD) (W : Valuation τ sig (Elt F)) : (StableHlo.held (c.tc : Thread nD τ) ∅ W : sProp 𝕄) = BI.emp := by
  unfold StableHlo.held; exact bigSep_empty

theorem hin (c : Dev nD) : iprop(Pipeline.scopedRest (Pipeline.pin (pcfgs (F := F)) adm 0).spec c ∗ (∃ r, prngReg c r)
      ∗ StableHlo.held (c.tc : Thread nD τ) ∅ (V c) ∗ Xk V c)
    ⊢ (pdats V 0 c).Φ 0 := by
  show iprop(Pipeline.scopedRest spec0 c ∗ (∃ r, prngReg c r) ∗ StableHlo.held (c.tc : Thread nD τ) ∅ (V c) ∗ Xk V c) ⊢ iprop(Xk V c ∗ rest c)
  rw [scopedRest0_eq]
  unfold rest
  iintro ⟨Hs, Hp, -, HX⟩
  isplitl [HX]; · iexact HX
  isplitl [Hs]; · iexact Hs
  iexact Hp

theorem hout (c : Dev nD) : (pdats V 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (after V c) ∗ Pipeline.ownSems0 osem c ∗ Yk c) := by
  show iprop(closed c ∗ spare c ∗ rest c)
    ⊢ iprop(Pipeline.scopedRest spec0 c ∗ (∃ r, prngReg c r) ∗ StableHlo.held (c.tc : Thread nD τ) ∅ (after V c) ∗ Pipeline.ownSems0 osem c ∗ Yk c)
  rw [scopedRest0_eq, ownSems_eq, held_none]
  unfold rest closed Yk
  iintro ⟨⟨Hb, H0, H1, H2, H3⟩, Hsp, Hs, Hp⟩
  isplitl [Hs]; · iexact Hs
  isplitl [Hp]; · iexact Hp
  isplitr; · iempintro
  isplitr [Hb]
  · isplitl [H0]; · iexact H0
    isplitl [H1]; · iexact H1
    isplitl [H2]; · iexact H2
    isplitl [H3] <;> iassumption
  iexact Hb

/-- The buffers that are no window's array. -/
abbrev others : Finset (DevRef τ sig) := Pipeline.ucRefs τ sig \ Pipeline.arrRefs spec0

theorem v44_arr : Proc.devRef .tc main_v44 ∈ (Pipeline.arrRefs spec0 : Finset (DevRef τ sig)) := by decide

theorem others_after (c : Dev nD) (b : DevRef τ sig) (hb : b ∈ others) : after V c b = V c b :=
  after_of_ne V c b fun h => (Finset.mem_sdiff.mp hb).2 (h ▸ v44_arr)

set_option backward.isDefEq.respectTransparency.types false in
def reg (hw : ∀ c : Dev nD, V c main_v43 = fun _ => 512#32) : RegionSeg (pcfgs (F := F)) adm (pdats V) () defs₀ 𝒱₀ L lv 0 :=
  RegionSeg.ofTalk (pcfgs (F := F)) adm (pdats V) () defs₀ 𝒱₀ L lv 0 osem osem_facts
    ∅ others (Finset.empty_subset _) launch0.toP rfl (fun c => (body_obligation V hw c).loose)
    (fun _ => 0) O₀ (fun c => (zero_add (O₀ c)).symm) (fun _ => rfl) (fun _ => rfl)
    (fun c w => by unfold Dat.share; split <;> rfl)
    V (after V) (fun c b hb => others_after V c b (Finset.mem_sdiff.mp hb).1)
    (Tk V) Yk (Xk V) Yk (hopen V) (hin V) (hout V)
    (fun c => by iintro H; imodintro; iexact H)
    (fun _ => 0)
    ⟨fun c w s => by rw [L_tc]; exact Finset.mem_singleton_self _, fun c w b => stage_lv c w b, fun c t g i h => owed_lv V c t g i h⟩
    (fun _ => iprop(emp))
    (fun c w => arr_in V c w) (fun c w => arr_out V c w)

/-- What rides beside the buffers before the call and after it. -/
def E : Fin 2 → Dev nD → sProp 𝕄
  | 0, c => iprop(Tk V c ∗ (∃ r, prngReg c r) ∗ ∃ W, owes (c : Thread nD τ) (O₀ c) W)
  | 1, c => iprop(semVal (barCell c) 0 ∗ ∃ W, owes (c : Thread nD τ) (0 : CellTallies nD τ sig Unit) W)

theorem arr_sub : Pipeline.arrRefs spec0 ⊆ Pipeline.ucRefs τ sig := Pipeline.arrRefs_sub_ucRefs spec0 winFacts0.arr_unscoped

theorem reg_pre (hw : ∀ c : Dev nD, V c main_v43 = fun _ => 512#32) (c : Dev nD) :
    iprop(StableHlo.held (c : Thread nD τ) (Pipeline.ucRefs τ sig) (V c) ∗ E V 0 c) ⊢ (reg V hw).pre c := by
  show _ ⊢ iprop(StableHlo.held (c.tc : Thread nD τ) (Pipeline.arrRefs spec0) (V c) ∗ (∃ r, prngReg c r)
    ∗ (StableHlo.held (c.tc : Thread nD τ) others (V c) ∗ emp) ∗ Tk V c ∗ ∃ Wd, owes (c : Thread nD τ) (0 + O₀ c) Wd)
  rw [StableHlo.held_sub_split (c : Thread nD τ) arr_sub, zero_add]
  unfold E
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

theorem reg_post (hw : ∀ c : Dev nD, V c main_v43 = fun _ => 512#32) (c : Dev nD) :
    (reg V hw).post c ⊢ iprop(StableHlo.held (c : Thread nD τ) (Pipeline.ucRefs τ sig) (after V c) ∗ E V 1 c) := by
  show iprop(StableHlo.held (c.tc : Thread nD τ) (Pipeline.arrRefs spec0) (after V c) ∗ (∃ r, prngReg c r)
    ∗ (StableHlo.held (c.tc : Thread nD τ) others (after V c) ∗ emp) ∗ Yk c ∗ ∃ Wd, owes (c : Thread nD τ) (0 : CellTallies nD τ sig Unit) Wd) ⊢ _
  rw [StableHlo.held_sub_split (c : Thread nD τ) arr_sub]
  unfold E Yk
  iintro ⟨Ha, -, ⟨Hr, -⟩, Hb, HO⟩
  isplitl [Ha Hr]
  · isplitl [Ha] <;> iassumption
  isplitl [Hb] <;> iassumption

end Cert.KProof

end
-- ==== Proof.Launch.lean ====
module

public import proofs.«01_k».proof.Proof.Record

/-!
# The launch and the whole run

At the launch every device's barrier counter is put under its invariant, the four counters of the kernel are given
invariants still closed, and the duties' tokens are dealt: each device gets the tokens of the duties it pays, two of its own
send counters and three of its peer's counters.  `run_main` is the run of the whole program from any memory with every
counter at zero, the count of zeros being 512 on every device.
-/

@[expose] public section

noncomputable section

namespace Cert.KProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F]

local notation "𝕄" => MT nD τ sig Unit (Elt F) ℕ UU ℕ

variable (V : Dev nD → Valuation τ sig (Elt F))

/-! ## The counters and the tokens of the launch -/

def own4 : Fin 4 → SemLoc sig
  | 0 => .dma (sendS 0).sem
  | 1 => .dma (sendS 1).sem
  | 2 => .dma (recvS 0).sem
  | 3 => .dma (recvS 1).sem
def all5 : Fin 5 → SemLoc sig
  | 0 => .reg barrier0
  | 1 => .dma (sendS 0).sem
  | 2 => .dma (sendS 1).sem
  | 3 => .dma (recvS 0).sem
  | 4 => .dma (recvS 1).sem

theorem own4_inj : Function.Injective own4 := by decide
theorem own4_ne_bar : ∀ k : Fin 4, own4 k ≠ .reg barrier0 := by decide
theorem all5_inj : Function.Injective all5 := by decide

def barEmb : Dev nD ↪ GSem nD τ sig := ⟨fun c => barCell c, fun _ _ h => congrArg (fun g : GSem nD τ sig => g.1.1) h⟩
def ownEmb : Dev nD × Fin 4 ↪ GSem nD τ sig :=
  ⟨fun ck => ((ck.1 : Thread nD τ), own4 ck.2), fun _ _ h =>
    Prod.ext (congrArg (fun g : GSem nD τ sig => g.1.1) h) (own4_inj (congrArg Prod.snd h))⟩
def tokEmb : Dev nD × Fin 5 ↪ GSem nD τ sig × ℕ × Unit :=
  ⟨fun ck => (((ck.1 : Thread nD τ), all5 ck.2), 0, ()), fun _ _ h =>
    Prod.ext (congrArg (fun t : GSem nD τ sig × ℕ × Unit => t.1.1.1) h) (all5_inj (congrArg (fun t : GSem nD τ sig × ℕ × Unit => t.1.2) h))⟩

abbrev barCells : Finset (GSem nD τ sig) := Finset.univ.map barEmb
abbrev ownCells : Finset (GSem nD τ sig) := Finset.univ.map ownEmb
def allToks : Finset (GSem nD τ sig × ℕ × Unit) := Finset.univ.map tokEmb

theorem cells_disjoint : Disjoint (barCells : Finset (GSem nD τ sig)) ownCells := by
  rw [Finset.disjoint_left]
  rintro g h₁ h₂
  obtain ⟨c, -, rfl⟩ := Finset.mem_map.mp h₁
  obtain ⟨ck, -, h⟩ := Finset.mem_map.mp h₂
  exact own4_ne_bar ck.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (c : Dev nD) (k : Fin 4) : ((c : Thread nD τ), own4 k) ∈ (barCells ∪ ownCells : Finset (GSem nD τ sig)) :=
  Finset.mem_union_right _ (Finset.mem_map_of_mem ownEmb (Finset.mem_univ (c, k)))

/-- The launch element: the pipeline library's at the staging counters, and the protocol's. -/
def u₀ : UU :=
  (initOf (Pipeline.cells cfgs cellOf_inj) (Pipeline.launchToks cfgs cellOf_inj), launchOf barCells ownCells allToks)

/-- The protocol's launch element, kept on device 0 until it is dealt. -/
def G (c : Dev nD) : sProp 𝕄 := if c = 0 then BI.own (ER (launchOf barCells ownCells allToks)) else iprop(emp)

theorem G_all : bigSep Finset.univ (G (F := F)) = BI.own (ER (launchOf barCells ownCells allToks)) := by
  rw [bigSep_univ_at _ 0, bigSep_congr (s := Finset.univ.erase 0) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-! ## What each device gets -/

/-- All the invariants, and every barrier counter in round 0. -/
def records (κ : GSem nD τ sig → ℕ) : sProp 𝕄 :=
  iprop((bigSep (barCells ∪ ownCells) fun g => cellInv ER (Rd (staged V)) (κ g) g) ∗ bigSep barCells fun g => reached ER g 0)

instance records_persistent (κ : GSem nD τ sig → ℕ) : BI.Persistent (records V κ) := by unfold records; infer_instance

theorem inv_at (κ : GSem nD τ sig → ℕ) {g : GSem nD τ sig} (hg : g ∈ (barCells ∪ ownCells : Finset (GSem nD τ sig))) :
    (bigSep (barCells ∪ ownCells) fun g => (cellInv ER (Rd (staged V)) (κ g) g : sProp 𝕄)) ⊢ cellInv ER (Rd (staged V)) (κ g) g :=
  bigSep_elim hg
theorem reached_at (c : Dev nD) : (bigSep barCells fun g => (reached ER g 0 : sProp 𝕄)) ⊢ reached ER (barCell c) 0 :=
  bigSep_elim (Finset.mem_map_of_mem barEmb (Finset.mem_univ c))

def dealt (c : Dev nD) : sProp 𝕄 := iprop(atPos ER (barCell c) 0 ∅ 0 ∗ openToks c ∗ payToks c)

theorem ghost_intro (κ : GSem nD τ sig → ℕ) (c : Dev nD) : iprop(records V κ ∗ dealt c) ⊢ iprop(∃ K, ghost (staged V) K c) := by
  unfold records dealt ghost invs
  iintro ⟨⟨#HI, #HR⟩, Ha, Ho, Ht⟩
  iexists κ
  isplitr
  · isplitr; · iapply (inv_at V κ (bar_mem c)); iexact HI
    isplitr; · iapply (inv_at V κ (own_mem c 0)); iexact HI
    isplitr; · iapply (inv_at V κ (own_mem c 1)); iexact HI
    isplitr; · iapply (inv_at V κ (own_mem c 2)); iexact HI
    isplitr; · iapply (inv_at V κ (own_mem c 3)); iexact HI
    isplitr; · iapply (inv_at V κ (bar_mem (peer c))); iexact HI
    isplitr; · iapply (inv_at V κ (own_mem (peer c) 2)); iexact HI
    iapply (inv_at V κ (own_mem (peer c) 3)); iexact HI
  isplitl [Ha]; · iexact Ha
  isplitl [Ho]; · iexact Ho
  isplitr; · iapply (reached_at (F := F) (peer c)); iexact HR
  iexact Ht

def toks (c : Dev nD) : sProp 𝕄 :=
  iprop(dutyTok ER (barCell c) 0 () ∗ dutyTok ER (sendCell c 0) 0 () ∗ dutyTok ER (sendCell c 1) 0 ()
    ∗ dutyTok ER (recvCell c 0) 0 () ∗ dutyTok ER (recvCell c 1) 0 ())

theorem toks_eq : bigSep allToks (fun x => (dutyTok ER x.1 x.2.1 x.2.2 : sProp 𝕄)) = bigSep Finset.univ fun c : Dev nD => toks c := by
  unfold allToks; rw [bigSep_map, bigSep_univ_prod]
  exact bigSep_congr fun c _ => by
    unfold toks
    exact bigSep_univ_eq_bigSepL [(0 : Fin 5), 1, 2, 3, 4] (by decide) (by decide) _

theorem opens_eq : bigSep ownCells (fun g => (openTok ER g : sProp 𝕄)) = bigSep Finset.univ fun c : Dev nD => openToks c := by
  rw [bigSep_map, bigSep_univ_prod]
  exact bigSep_congr fun c _ => by
    unfold openToks
    exact bigSep_univ_eq_bigSepL [(0 : Fin 4), 1, 2, 3] (by decide) (by decide) _

def swap : Dev nD ≃ Dev nD := ⟨peer, peer, peer_peer, peer_peer⟩

/-- The barrier's and the receive counters' tokens, each handed to the peer. -/
theorem toks_swap : (bigSep Finset.univ fun c : Dev nD => (toks c : sProp 𝕄)) ⊢ bigSep Finset.univ fun c : Dev nD => payToks c := by
  unfold toks payToks
  simp only [bigSep_sep']
  rw [bigSep_univ_equiv swap (fun c : Dev nD => (dutyTok ER (barCell c) 0 () : sProp 𝕄)),
    bigSep_univ_equiv swap (fun c : Dev nD => (dutyTok ER (recvCell c 0) 0 () : sProp 𝕄)),
    bigSep_univ_equiv swap (fun c : Dev nD => (dutyTok ER (recvCell c 1) 0 () : sProp 𝕄))]
  exact BI.Entails.refl _

/-! ## The launch's credits -/

theorem peer_swap (d c : Dev nD) : c = peer d ↔ d = peer c :=
  ⟨fun h => by rw [h, peer_peer], fun h => by rw [h, peer_peer]⟩

theorem tally_at (d c : Dev nD) (sm : SemLoc sig) (n : ℕ) :
    (tallyAt ((peer d : Thread nD τ), sm) () n : CellTallies nD τ sig Unit) ((c : Thread nD τ), sm) () = if d = peer c then n else 0 := by
  rw [tallyAt_apply]
  by_cases h : d = peer c
  · rw [if_pos ⟨by rw [(peer_swap d c).mpr h], rfl⟩, if_pos h]
  · rw [if_neg (fun e => h ((peer_swap d c).mp (congrArg (fun g : GSem nD τ sig => g.1.1) e.1))), if_neg h]

theorem tally_off (d c : Dev nD) {sm sm' : SemLoc sig} (hne : sm ≠ sm') (n : ℕ) :
    (tallyAt ((peer d : Thread nD τ), sm') () n : CellTallies nD τ sig Unit) ((c : Thread nD τ), sm) () = 0 := by
  rw [tallyAt_apply, if_neg fun e => hne (congrArg Prod.snd e.1)]

theorem O₀_at (d : Dev nD) (g : GSem nD τ sig) (u : Unit) : O₀ d g u =
    tallyAt (recvCell (peer d) 1) () N g u + tallyAt (recvCell (peer d) 0) () N g u + tallyAt (barCell (peer d)) () 1 g u := by
  unfold O₀ O₂; rfl

theorem owed_bar (d c : Dev nD) : O₀ d (barCell c) () = if d = peer c then 1 else 0 := by
  rw [O₀_at, tally_at, tally_off d c (recv_ne_bar 1).symm, tally_off d c (recv_ne_bar 0).symm]; exact Nat.zero_add _
theorem owed_recv (d c : Dev nD) (i : Fin 2) : O₀ d (recvCell c i) () = if d = peer c then N else 0 := by
  rw [O₀_at, tally_off d c (recv_ne_bar i)]
  match i with
  | 0 => rw [tally_at, tally_off d c (fun h => absurd (recv_inj _ _ h) (by decide))]; exact Nat.zero_add _
  | 1 => rw [tally_at, tally_off d c (fun h => absurd (recv_inj _ _ h) (by decide))]; rfl

theorem launch_at (c : Dev nD) (sm : SemLoc sig) (n : ℕ) (h : ∀ d : Dev nD, O₀ d ((c : Thread nD τ), sm) () = if d = peer c then n else 0) :
    tallyOn ((c : Thread nD τ), sm) (launchCredit (Pipeline.owing O₀) 0 ((c : Thread nD τ), sm)) = (tallyAt ((c : Thread nD τ), sm) () n : CellTallies nD τ sig Unit) := by
  unfold tallyAt; refine congrArg _ (Finsupp.ext fun u => ?_); cases u
  rw [Pipeline.launchCredit_owing, Finsupp.single_eq_same, Finset.sum_congr rfl fun d _ => h d, Finset.sum_ite_eq' Finset.univ (peer c) fun _ => n,
    if_pos (Finset.mem_univ _)]

theorem creds_intro (c : Dev nD) : (Pipeline.launchCred O₀ c : sProp 𝕄) ⊢ creds c := by
  unfold Pipeline.launchCred creds
  rw [bigSep_univ_at _ (SemLoc.reg barrier0), launch_at c _ 1 fun d => owed_bar d c]
  refine sep_mono_right ?_
  rw [BI.bigSep_erase (Finset.mem_erase.mpr ⟨recv_ne_bar 0, Finset.mem_univ _⟩), launch_at c _ N fun d => owed_recv d c 0]
  refine sep_mono_right ?_
  rw [← launch_at c _ N fun d => owed_recv d c 1]
  exact bigSep_elim (Finset.mem_erase.mpr ⟨fun h => absurd (recv_inj _ _ h) (by decide), Finset.mem_erase.mpr ⟨recv_ne_bar 1, Finset.mem_univ _⟩⟩)

/-! ## The deal -/

theorem unscopedSems_eq (c : Dev nD) : (unscopedSems0 c : sProp 𝕄) = semVal (barCell c) 0 := by
  unfold unscopedSems0
  rw [show (Finset.univ.filter fun sm : SemLoc sig => ¬ sm.isScoped .tc) = {SemLoc.reg barrier0} from by decide, bigSep_singleton]

variable (ρ : Dev nD → PrngReg)

/-- What of a device's launch holdings is not the protocol's. -/
def plain (c : Dev nD) : sProp 𝕄 := iprop(creds c ∗ (∃ r, prngReg c r) ∗ ∃ W, owes (c : Thread nD τ) (O₀ c) W)

theorem E_intro (κ : GSem nD τ sig → ℕ) (c : Dev nD) : iprop(records V κ ∗ (dealt c ∗ plain c)) ⊢ E V 0 c := by
  unfold plain E Tk
  iintro ⟨#HR, Hd, Hc, Hp, HO⟩
  isplitl [Hd Hc]
  · isplitl [Hd]
    · iapply (ghost_intro V κ c)
      isplitr; · iexact HR
      iexact Hd
    iexact Hc
  isplitl [Hp] <;> iassumption

theorem over_split (Φ Ψ : Dev nD → sProp 𝕄) :
    bigSep Finset.univ (fun c => iprop(Φ c ∗ Ψ c)) ⊢ iprop(bigSep Finset.univ Φ ∗ bigSep Finset.univ Ψ) :=
  Entails.of_eq (BI.bigSep_sep _ _ _)
theorem over_join (Φ Ψ : Dev nD → sProp 𝕄) :
    iprop(bigSep Finset.univ Φ ∗ bigSep Finset.univ Ψ) ⊢ bigSep Finset.univ (fun c => iprop(Φ c ∗ Ψ c)) :=
  Entails.of_eq (BI.bigSep_sep _ _ _).symm

theorem deal :
    iprop((bigSep Finset.univ fun c : Dev nD => iprop(unscopedSems0 c
          ∗ owes (c : Thread nD τ) (O₀ c) ∅ ∗ Pipeline.launchCred O₀ c ∗ prngReg c (ρ c) ∗ G c)) ∗ levAts L lv)
      ⊢ (|={Set.univ}=> bigSep Finset.univ (E V 0) : sProp 𝕄) := by
  have hcore (c : Dev nD) : iprop(unscopedSems0 c ∗ owes (c : Thread nD τ) (O₀ c) ∅ ∗ Pipeline.launchCred O₀ c ∗ prngReg c (ρ c) ∗ G c)
      ⊢ (iprop(plain c ∗ (semVal (barCell c) 0 ∗ G c)) : sProp 𝕄) := by
    rw [unscopedSems_eq]
    unfold plain
    iintro ⟨Hb, HO, Hcr, Hp, HG⟩
    ihave Hc := (creds_intro (F := F) c) $$ Hcr
    isplitr [Hb HG]
    · isplitl [Hc]; · iexact Hc
      isplitl [Hp]; · iexists (ρ c); iexact Hp
      iexists ∅; iexact HO
    isplitl [Hb] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hall : (bigSep Finset.univ fun c : Dev nD => iprop(unscopedSems0 c ∗ owes (c : Thread nD τ) (O₀ c) ∅ ∗ Pipeline.launchCred O₀ c ∗ prngReg c (ρ c) ∗ G c))
      ⊢ (bigSep Finset.univ fun c : Dev nD => iprop(plain c ∗ (semVal (barCell c) 0 ∗ G c)) : sProp 𝕄) := bigSep_mono fun c _ => hcore c
  iintro ⟨H, -⟩
  ihave H' := hall $$ H
  ihave H2 := (over_split _ _) $$ H'; icases H2 with ⟨HB, H3⟩
  ihave H4 := (over_split _ _) $$ H3; icases H4 with ⟨Hv, HG⟩
  ihave Hu := (Entails.of_eq (G_all (F := F))) $$ HG
  imod (Rounds.fund_launch ER (Rd (staged V)) cells_disjoint (fun g _ h => h) allToks) $$ [Hv Hu] with ⟨%κ, -, #Hinv, #Hr, Hat, Hopen, Htok⟩
  · isplitl [Hv]
    · iapply hv $$ Hv
    · iexact Hu
  imodintro
  iapply (bigSep_with_persistent (R := records V κ) (Φ := fun c => iprop(dealt c ∗ plain c)) fun c _ => E_intro V κ c)
  isplitr
  · unfold records
    isplitr; · iexact Hinv
    iexact Hr
  iapply (over_join _ _)
  isplitr [HB]
  · unfold dealt
    iapply (over_join _ _); isplitl [Hat]; · iapply hat $$ Hat
    iapply (over_join _ _); isplitl [Hopen]; · iapply (Entails.of_eq (opens_eq (F := F))) $$ Hopen
    iapply (toks_swap (F := F))
    iapply (Entails.of_eq (toks_eq (F := F))) $$ Htok
  · iexact HB

/-! ## The run -/

theorem unscoped_eq : ∀ sm : SemLoc sig, sm.isScoped .tc = false → sm = .reg barrier0 := by decide

variable (m : (ℓ : Loc nD τ sig) → Buf (Elt F) ℓ)

/-- What the call leaves, in the generated modules' form. -/
def outs : Outs (F := F) := fun _ r c => after (V14 m) c r

theorem V15_eq (c : Dev nD) : V15 m (outs m) c = after (V14 m) c :=
  congrArg (Function.update (V14 m c) (Proc.devRef .tc main_v44)) (after_v44 (V14 m) c)

set_option backward.isDefEq.respectTransparency.types false in
/-- Every weakly fair execution ends; each device's result buffer holds `outAt`, its arguments are as launched, and every
    counter is zero. -/
theorem run_main (hw : ∀ c : Dev nD, V14 m c main_v43 = fun _ => 512#32) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v44) = outAt (staged (V14 m)) c) ∧ r.2.sem = fun _ => 0) := by
  refine Pipeline.θ_run_regions_kit_dev_sems (pcfgs (F := F)) adm (pdats (V14 m)) () cellOf_inj EP defs₀ 𝒱₀ L lv m ρ main
    (segs m 𝒱₀ L lv (E (V14 m)) () (pdats (V14 m)) (reg (V14 m) hw))
    (fun c Q => by
      rewrite [main_chain c, Seg.run_eq_chain,
        show (segs m 𝒱₀ L lv (E (V14 m)) () (pdats (V14 m)) (reg (V14 m) hw) c).map Seg.prog = [
          StableHlo.seq (hostOps0 c),
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          StableHlo.seq hostOps0_8,
          StableHlo.seq hostOps0_9,
          StableHlo.seq hostOps0_10,
          StableHlo.seq hostOps0_11,
          StableHlo.seq hostOps0_12,
          StableHlo.seq hostOps0_13,
          Prog.lift (.customCall (Pipeline.entry 0) ()) ] from rfl]
      dsimp (config := { failIfUnchanged := false }) only
      exact .rfl)
    (fun c => by simp only [segs, Seg.pipes_host, Seg.pipes_region, Seg.pipes_nil]; decide) O₀ L_of_ne (G (F := F)) u₀ ?_
    (T₀ := fun c => iprop(StableHlo.held (c : Thread nD τ) (Pipeline.ucRefs τ sig) (V0 m c) ∗ E (V14 m) 0 c))
    (Tₙ := fun c => iprop(StableHlo.held (c : Thread nD τ) (Pipeline.ucRefs τ sig) (V15 m (outs m) c) ∗ semVal (barCell c) 0))
    (hch := fun c => ⟨.rfl, .rfl, .rfl, .rfl, .rfl, .rfl, .rfl, .rfl, .rfl, .rfl, .rfl, .rfl, .rfl, .rfl, reg_pre (V14 m) hw c,
      (reg_post (V14 m) hw c).trans ?_⟩)
    (hinit := ?_)
    (QY := fun c s => (s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_v44) = outAt (staged (V14 m)) c) ∧ s.sem (barCell c) = 0)
    (hfin := fun c s' => ?_)
    (hQ := fun s h hs => ⟨fun c => (h c).1, sem_eq_zero hs fun c sm hsm => by
        obtain rfl := unscoped_eq sm hsm
        exact (h c).2⟩)
  · unfold u₀
    iintro Hu
    ihave H := (ownU_pair _ _) $$ Hu
    icases H with ⟨HP, HX⟩
    imodintro
    isplitl [HP]; · iexact HP
    rw [G_all]; iexact HX
  · show iprop(StableHlo.held (c : Thread nD τ) (Pipeline.ucRefs τ sig) (after (V14 m) c) ∗ E (V14 m) 1 c)
      ⊢ iprop((StableHlo.held (c : Thread nD τ) (Pipeline.ucRefs τ sig) (V15 m (outs m) c) ∗ semVal (barCell c) 0)
        ∗ ∃ W, owes (c : Thread nD τ) (0 : CellTallies nD τ sig Unit) W)
    rw [V15_eq]
    unfold E
    iintro ⟨Hh, Hb, HO⟩
    isplitr [HO]
    · isplitl [Hh] <;> iassumption
    iexact HO
  · have hsplit : (bigSep Finset.univ fun c : Dev nD => iprop(unscopedBufs c (fun b => m ((c.tc : Thread nD τ).loc b)) ∗ unscopedSems0 c
          ∗ owes (c : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp 𝕄) := by
      rw [← bigSep_sep']
      exact bigSep_mono fun c _ => by rw [← Pipeline.unscopedBufs_held c (V0 m c)]; exact BI.Entails.refl _
    iintro ⟨H, Hla⟩
    ihave H' := hsplit $$ H
    icases H' with ⟨Hh, Hr⟩
    imod (deal (V14 m) ρ) $$ [Hr Hla] with HE
    · isplitl [Hr]; · iexact Hr
      iexact Hla
    imodintro
    rw [bigSep_sep']
    isplitl [Hh]; · iexact Hh
    iexact HE
  · unfold StableHlo.held
    iintro ⟨⟨Hh, Hb⟩, HSI⟩
    icombine HSI Hb gives %hb
    ihave Hr := (pointsTo_read_all (Pipeline.ucRefs τ sig) (fun b => ((c : Thread nD τ).1, b)) (V15 m (outs m) c) s') $$ [Hh HSI]
    · isplitl [Hh] <;> iassumption
    icases Hr with ⟨%h, HSI⟩
    imodintro
    isplitr
    · ipureintro
      refine ⟨⟨(h (Proc.devRef .tc main_arg0) (Finset.mem_filter.mpr ⟨StableHlo.devRef_mem_tcRefs main_arg0, by decide⟩)).trans (V15_main_arg0 m (outs m) c),
        (h (Proc.devRef .tc main_arg1) (Finset.mem_filter.mpr ⟨StableHlo.devRef_mem_tcRefs main_arg1, by decide⟩)).trans (V15_main_arg1 m (outs m) c),
        (h (Proc.devRef .tc main_v44) (Finset.mem_filter.mpr ⟨StableHlo.devRef_mem_tcRefs main_v44, by decide⟩)).trans ?_⟩, by simpa using hb⟩
      rw [V15_eq]
      exact after_v44 (V14 m) c
    · iexact HSI

end Cert.KProof

end
-- ==== Proof.HostVals.lean ====
module

public import proofs.«01_k».proof.Proof.HostReads
public import proofs.«01_k».proof.Proof.Launch
public import proofs.«01_k».proof.Pre_halves_Kernel
public import Idealize.ShloMosaic.Lib.Routing.Count

/-!
# The row table and the count of zeros

Under the precondition (every `dest` is 0 or 1, and 512 of a device's 1024 are 1) the host code before the kernel hands it the
count 512 and a table `pos`: entry `k` is the row of the device's grouped block that row `k` of `x` goes to.
`slot r d k` is that row as a number: half 0 keeps its zeros first and leaves eight rows of slack before them, half 1 leaves
its slack between the zeros and the ones.
-/

@[expose] public section

noncomputable section

namespace Cert.KProof

open Cert.KernelIdeal Cert.KernelIdeal.Gen
open Idealize.ShloMosaic Idealize.ShloMosaic.TcCoe Idealize.ShloMosaic.StableHlo Idealize.ShloMosaic.WordCmp
open Idealize.ShloMosaic.Routing Idealize.ShloMosaic.ValueIdx
open Cert.KernelIdeal.Facts

variable {F : FTy → Type} [FloatOps F]

/-! ## Counts -/

/-- Entry `k` of a device's `dest`, as a number's property: it is zero. -/
def Zero (d : IVec S1024 32) (k : Nat) : Prop := ∃ h : k < 1024, d (ix1 ⟨k, h⟩) = 0#32
/-- Entry `k` is one. -/
def One (d : IVec S1024 32) (k : Nat) : Prop := ∃ h : k < 1024, d (ix1 ⟨k, h⟩) = 1#32

instance (d : IVec S1024 32) : DecidablePred (Zero d) := fun k => by unfold Zero; infer_instance
instance (d : IVec S1024 32) : DecidablePred (One d) := fun k => by unfold One; infer_instance

/-- What the precondition says of one device's `dest`. -/
structure Halves (d : IVec S1024 32) : Prop where
  bit : ∀ k < 1024, Zero d k ∨ One d k
  ones : Nat.count (One d) 1024 = 512

theorem not_zero_of_one {d : IVec S1024 32} {k : Nat} (h : One d k) : ¬ Zero d k := by
  rintro ⟨hk, e⟩
  obtain ⟨_, e'⟩ := h
  rw [e] at e'
  exact absurd e' (by decide)

theorem Halves.one_iff {d : IVec S1024 32} (h : Halves d) {k : Nat} (hk : k < 1024) : One d k ↔ ¬ Zero d k :=
  ⟨not_zero_of_one, fun hz => (h.bit k hk).resolve_left hz⟩

theorem Halves.count_add {d : IVec S1024 32} (h : Halves d) : ∀ n ≤ 1024, Nat.count (Zero d) n + Nat.count (One d) n = n
  | 0, _ => by simp
  | n + 1, hn => by
    have ih := h.count_add n (by omega)
    have e := h.one_iff (k := n) (by omega)
    rw [Nat.count_succ, Nat.count_succ]
    by_cases hz : Zero d n
    · rw [if_pos hz, if_neg (fun ho => e.1 ho hz)]; omega
    · rw [if_neg hz, if_pos (e.2 hz)]; omega

theorem Halves.zeros {d : IVec S1024 32} (h : Halves d) : Nat.count (Zero d) 1024 = 512 := by
  have := h.count_add 1024 le_rfl
  have := h.ones
  omega

/-- The precondition's function, read. -/
theorem halves_of_fn (x : FVec F S1024x512 .f32) (d : IVec S1024 32) [Cert.Pre_halves_Kernel.Facts]
    (h : Cert.Pre_halves_Kernel.fn (F := F) x d = fun _ => 1#1) : Halves d := by
  have hk : ∀ k : Fin 1024, (d (ix1 k) = 0#32 ∨ d (ix1 k) = 1#32) ∧
      Host.reduce IntOp.addi d (constantI S_ 32 0#32) Cert.Pre_halves_Kernel.Facts.reducesTo_S1024_S_d0 Cert.Pre_halves_Kernel.Facts.h_S_ ix0 = 512#32 := by
    intro k
    have e := congrFun h (ix1 k)
    unfold Cert.Pre_halves_Kernel.fn at e
    simp only [andi_at, ori_at, cmpi_at, bc0, constantI_at] at e
    obtain ⟨ho, hs⟩ := IntOp.andi_eq_one.1 e
    exact ⟨(IntOp.ori_eq_one.1 ho).imp IntOp.cmpi_eq.1 IntOp.cmpi_eq.1, IntOp.cmpi_eq.1 hs⟩
  have hb : ∀ k < 1024, Zero d k ∨ One d k := fun k h => (hk ⟨k, h⟩).1.imp (⟨h, ·⟩) (⟨h, ·⟩)
  refine ⟨hb, ?_⟩
  have hs := (hk 0).2
  rw [reduce_sum d (fun k => if One d k then 1 else 0) (fun i => ?_)] at hs
  · rw [sum_map_ite] at hs
    have := Nat.count_le (p := One d) (n := 1024)
    have e := congrArg BitVec.toNat hs
    rw [BitVec.toNat_ofNat, Nat.mod_eq_of_lt (by omega)] at e
    exact e
  · rcases (hk i).1 with e | e
    · rw [if_neg (fun ho => not_zero_of_one ho ⟨i.isLt, e⟩)]; exact e
    · rw [if_pos ⟨i.isLt, e⟩]; exact e

/-! ## The rows -/

/-- The row of the grouped block that row `k` goes to, for half `r`. -/
def slot (r : Bool) (d : IVec S1024 32) (k : Nat) : Nat :=
  if Zero d k then (if r then Nat.count (Zero d) k else 8 + Nat.count (Zero d) k) else 520 + Nat.count (One d) k

variable (m : (ℓ : Loc nD τ sig) → Buf (Elt F) ℓ) (c : Dev nD)

/-- The `dest` device `c` starts with. -/
abbrev destOf : IVec S1024 32 := m ((c.tc : Thread nD τ).loc main_arg1)

theorem rank_word : Host.remui (Host.divui (constantI S_ 32 (Dev.word c)) (constantI S_ 32 8#32)) (constantI S_ 32 2#32)
    = fun _ => BitVec.ofNat 32 (half c).toNat := by
  funext i
  show IntOp.remui .host (IntOp.divui .host (Dev.word c) 8#32) 2#32 = _
  revert c; decide

theorem V_v4 : V1 m c main_v4 = fun _ => BitVec.ofNat 32 (half c).toNat := (read_v4 _ c).trans (rank_word c)

theorem V_v6 (k : Fin 1024) : V1 m c main_v6 (ix1 k) = BitVec.ofBool (decide (Zero (destOf m c) k.val)) := by
  rw [show V1 m c main_v6 = _ from read_v6 _ c, cmpi_at, bc0, constantI_at]
  show BitVec.ofBool (destOf m c (ix1 k) == 0#32) = _
  congr 1
  rw [Bool.eq_iff_iff, beq_iff_eq, decide_eq_true_iff]
  exact ⟨fun e => ⟨k.isLt, e⟩, fun ⟨_, e⟩ => e⟩

theorem V_v7 (k : Fin 1024) : V1 m c main_v7 (ix1 k) = BitVec.ofNat 32 (if Zero (destOf m c) k.val then 1 else 0) := by
  rw [show V1 m c main_v7 = extui 32 (V1 m c main_v6) natLt_1_32 from (read_v7 _ c).trans (congrArg (extui 32 · natLt_1_32) (read_v6 _ c).symm),
    extui_at, V_v6]
  exact setWidth_ofBool _

theorem V_v8 (k : Fin 1024) : V2 m c main_v8 (ix1 k) = BitVec.ofNat 32 (Nat.count (Zero (destOf m c)) (k.val + 1)) := by
  rw [show V2 m c main_v8 = _ from read_v8 _]
  refine (cumsum1 (Nm1 := 1023) rfl _ (fun k => if Zero (destOf m c) k then 1 else 0) (V_v7 m c) _ ?_ _ _ k).trans ?_
  · rw [bc0]; rfl
  · rw [sum_map_ite]

theorem count_succ_pos (P : Nat → Prop) [DecidablePred P] (k : Nat) (h : P k) : Nat.count P (k + 1) = Nat.count P k + 1 := by
  rw [Nat.count_succ, if_pos h]

section

variable (hd : Halves (destOf m c))
include hd

theorem V_v12 (k : Fin 1024) : V3 m c main_v12 (ix1 k) = BitVec.ofNat 32 (Nat.count (One (destOf m c)) (k.val + 1)) := by
  have hc := hd.count_add (k.val + 1) (by omega)
  rw [show V3 m c main_v12 = _ from read_v12 _, subi_ap, addi_ap, bc0, constantI_at, V_v8, iota1_ap, ← BitVec.ofNat_add, ofNat32_sub (by omega)]
  congr 1; omega

theorem V_v14 : V3 m c main_v14 = fun _ => 512#32 := by
  rw [show V3 m c main_v14 = _ from read_v14 _]
  have e : ∀ j : S1.Idx, extractStridedSlice S1 ![1023] (V2 m c main_v8) slices_S1024_S1_1023 j = 512#32 := by
    intro j
    rw [eq_ix1 j]
    refine (slice1 1023 _ slices_S1024_S1_1023 (j 0) (by have := (j 0).isLt; change (j 0).val < 1 at this; omega)).trans ?_
    rw [V_v8]
    refine congrArg (BitVec.ofNat 32) ?_
    have := (j 0).isLt
    change (j 0).val < 1 at this
    rw [show 1023 + (j 0).val + 1 = 1024 by omega]
    exact hd.zeros
  exact funext fun i => e _

theorem V_v16 : V4 m c main_v16 = fun _ => 0#32 := by
  rw [show V4 m c main_v16 = _ from read_v16 _]
  refine (congrArg₂ remLine ?_ (read_c4 _)).trans remLine_val
  rw [show V3 m c main_v15 = _ from (read_v15 _).trans (congrArg (subi (constantI S_ 32 1024#32)) ((read_v14 _).symm.trans (V_v14 m c hd)))]
  exact funext fun _ => by rw [subi_ap, constantI_at]; decide

theorem V_v20 : V6 m c main_v20 = fun _ => 65#32 := by
  rw [show V6 m c main_v20 = _ from read_v20 _]
  refine (congrArg₂ divLine ?_ (read_c8 _)).trans divLine_val
  rw [show V5 m c main_v19 = _ from read_v19 _, V4_of m c main_v14 (by decide), V_v14 m c hd]
  rfl

theorem V_v22 : V8 m c main_v22 = fun _ => if half c then 0#32 else 520#32 := by
  rw [show V8 m c main_v22 = _ from read_v22 _, show V7 m c main_v21 = _ from read_v21 _, V_v20 m c hd, show V7 m c main_c_10 = _ from read_c10 _,
    V7_of m c main_v17 (by decide), V6_of m c main_v17 (by decide), show V5 m c main_v17 = _ from read_v17 _,
    V4_of m c main_v4 (by decide), V3_of m c main_v4 (by decide), V2_of m c main_v4 (by decide), V_v4]
  funext i
  show Scalar.select (IntOp.cmpi .eq (BitVec.ofNat 32 (half c).toNat) 0#32) (65#32 * 8#32) 0#32 = _
  cases half c <;> rfl

theorem V_v30 (k : Fin 1024) (hz : Zero (destOf m c) k.val) :
    V10 m c main_v30 (ix1 k) = BitVec.ofNat 32 (slot (half c) (destOf m c) k.val) := by
  have hv8 : V8 m c main_v8 = V2 m c main_v8 := by
    rw [V8_of m c main_v8 (by decide), V7_of m c main_v8 (by decide), V6_of m c main_v8 (by decide), V5_of m c main_v8 (by decide),
      V4_of m c main_v8 (by decide), V3_of m c main_v8 (by decide)]
  have hv4 : V8 m c main_v4 = fun _ => BitVec.ofNat 32 (half c).toNat := by
    rw [V8_of m c main_v4 (by decide), V7_of m c main_v4 (by decide), V6_of m c main_v4 (by decide), V5_of m c main_v4 (by decide),
      V4_of m c main_v4 (by decide), V3_of m c main_v4 (by decide), V2_of m c main_v4 (by decide), V_v4]
  have hv16 : V8 m c main_v16 = fun _ => 0#32 := by
    rw [V8_of m c main_v16 (by decide), V7_of m c main_v16 (by decide), V6_of m c main_v16 (by decide), V5_of m c main_v16 (by decide), V_v16 m c hd]
  rw [show V10 m c main_v30 = _ from read_v30 _, select_at, bc0, show V9 m c main_v23 = _ from read_v23 _, show V9 m c main_v25 = _ from read_v25 _,
    show V9 m c main_v29 = _ from read_v29 _, hv8, hv4, hv16, addi_ap, subi_ap, addi_ap, bc0, bc0, bc0, V_v8, count_succ_pos _ _ hz, slot, if_pos hz]
  simp only [cmpi_at, constantI_at]
  rw [show (7#32 : BitVec 32) = BitVec.ofNat 32 7 from rfl, show (1#32 : BitVec 32) = BitVec.ofNat 32 1 from rfl, BitVec.zero_add,
    ← BitVec.ofNat_add, ofNat32_sub (by omega)]
  cases half c
  · exact congrArg (BitVec.ofNat 32) (by simp; omega)
  · exact congrArg (BitVec.ofNat 32) (by simp)

theorem V_v40 (k : Fin 1024) (ho : One (destOf m c) k.val) :
    V12 m c main_v40 (ix1 k) = BitVec.ofNat 32 (slot (half c) (destOf m c) k.val) := by
  have hv12 : V10 m c main_v12 = V3 m c main_v12 := by
    rw [V10_of m c main_v12 (by decide), V9_of m c main_v12 (by decide), V8_of m c main_v12 (by decide), V7_of m c main_v12 (by decide),
      V6_of m c main_v12 (by decide), V5_of m c main_v12 (by decide), V4_of m c main_v12 (by decide)]
  have hv14 : V10 m c main_v14 = fun _ => 512#32 := by
    rw [V10_of m c main_v14 (by decide), V9_of m c main_v14 (by decide), V8_of m c main_v14 (by decide), V7_of m c main_v14 (by decide),
      V6_of m c main_v14 (by decide), V5_of m c main_v14 (by decide), V4_of m c main_v14 (by decide), V_v14 m c hd]
  have hv4 : V10 m c main_v4 = fun _ => BitVec.ofNat 32 (half c).toNat := by
    rw [V10_of m c main_v4 (by decide), V9_of m c main_v4 (by decide), V8_of m c main_v4 (by decide), V7_of m c main_v4 (by decide),
      V6_of m c main_v4 (by decide), V5_of m c main_v4 (by decide), V4_of m c main_v4 (by decide), V3_of m c main_v4 (by decide),
      V2_of m c main_v4 (by decide), V_v4]
  have hv22 : V10 m c main_v22 = fun _ => if half c then 0#32 else 520#32 := by
    rw [V10_of m c main_v22 (by decide), V9_of m c main_v22 (by decide), V_v22 m c hd]
  rw [show V12 m c main_v40 = _ from read_v40 _, select_at, bc0, show V11 m c main_v31 = _ from read_v31 _, show V11 m c main_v35 = _ from read_v35 _,
    show V11 m c main_v39 = _ from read_v39 _, hv12, hv14, hv4, hv22, addi_ap, addi_ap, subi_ap, addi_ap, bc0, bc0, bc0, bc0, V_v12 m c hd,
    count_succ_pos _ _ ho, slot, if_neg (not_zero_of_one ho)]
  simp only [cmpi_at, constantI_at]
  cases half c
  · show BitVec.ofNat 32 520 + BitVec.ofNat 32 _ - BitVec.ofNat 32 1 = _
    rw [← BitVec.ofNat_add, ofNat32_sub (by omega)]
    exact congrArg (BitVec.ofNat 32) (by omega)
  · show BitVec.ofNat 32 512 + BitVec.ofNat 32 _ + BitVec.ofNat 32 7 = _
    rw [← BitVec.ofNat_add, ← BitVec.ofNat_add]
    exact congrArg (BitVec.ofNat 32) (by omega)

/-- The table the host code hands the kernel. -/
theorem V_pos (k : Fin 1024) : V14 m c main_v42 (ix2 0 k) = BitVec.ofNat 32 (slot (half c) (destOf m c) k.val) := by
  have hv6 : V12 m c main_v6 = V1 m c main_v6 := by
    rw [V12_of m c main_v6 (by decide), V11_of m c main_v6 (by decide), V10_of m c main_v6 (by decide), V9_of m c main_v6 (by decide),
      V8_of m c main_v6 (by decide), V7_of m c main_v6 (by decide), V6_of m c main_v6 (by decide), V5_of m c main_v6 (by decide),
      V4_of m c main_v6 (by decide), V3_of m c main_v6 (by decide), V2_of m c main_v6 (by decide)]
  rw [show V14 m c main_v42 = _ from read_v42 _]
  refine (cast12 _ shapeCasts_S1024_S1x1024 0 k k (by simp)).trans ?_
  rw [show V13 m c main_v41 = _ from read_v41 _, select_at, hv6, V_v6, select_decide, V12_of m c main_v30 (by decide), V11_of m c main_v30 (by decide)]
  split
  · next hz => exact V_v30 m c hd k hz
  · next hz => exact V_v40 m c hd k ((hd.one_iff k.isLt).2 hz)

/-- The count of zeros it hands the kernel. -/
theorem V_count : V14 m c main_v43 = fun _ => 512#32 := by
  rw [show V14 m c main_v43 = _ from read_v43 _, V13_of m c main_v14 (by decide), V12_of m c main_v14 (by decide), V11_of m c main_v14 (by decide),
    V10_of m c main_v14 (by decide), V9_of m c main_v14 (by decide), V8_of m c main_v14 (by decide), V7_of m c main_v14 (by decide),
    V6_of m c main_v14 (by decide), V5_of m c main_v14 (by decide), V4_of m c main_v14 (by decide), V_v14 m c hd]
  rfl

end

end Cert.KProof
-- ==== Proof.SameText.lean ====
module

public import proofs.«01_k».proof.Defs
public import proofs.«01_k».proof.Proof.Gen.Kernel
public import proofs.«01_k».proof.Proof.Gen.KernelIdeal

/-!
# The two readings of the kernel are one program

No rule rewrites an operation of this kernel, so the program printed for machine words and the one printed for the reals
have the same text.  These equations say so, at any float values.
-/

@[expose] public section

noncomputable section

namespace Cert.KProof

open Idealize.ShloMosaic

variable {F : FTy → Type} [FloatOps F]

/-- The body tables agree: their one label runs the same body. -/
theorem bodies_same : Cert.Kernel.defs₀ (F := F) = Cert.KernelIdeal.defs₀ (F := F) := by
  unfold Cert.Kernel.defs₀ Cert.KernelIdeal.defs₀
  congr 1
  funext x y
  fin_cases x
  cases y
  rfl

/-- So do the tables with each pallas_call's region and pipeline added. -/
theorem defs_same : Cert.Kernel.defs (F := F) = Cert.KernelIdeal.defs (F := F) :=
  congrArg (Pipeline.defs (Cert.KernelIdeal.pcfgs (F := F))) bodies_same

set_option maxHeartbeats 4000000 in
/-- And @main, its host statements and its one call. -/
theorem main_same : Cert.Kernel.main (F := F) = Cert.KernelIdeal.main (F := F) := (rfl)

end Cert.KProof
-- ==== Proof.Frames.lean ====
module

public import proofs.«01_k».proof.Defs
public import proofs.«01_k».proof.Proof.HostVals
public import proofs.«01_k».proof.Proof.SameText
public import proofs.«01_k».proof.Proof.Gen.Kernel
public import proofs.«01_k».proof.Proof.Gen.Pre_halves_Kernel
public import proofs.«01_k».proof.Proof.Gen.Pre_halves_ReferenceIdeal
public import proofs.«01_k».proof.Proof.Gen.ReferenceIdeal.Run

/-!
# The frames

The kernel's two frames are one run, read at the two float instances.  The reference declares no semaphore, and its run is
the generated one.
-/

@[expose] public section

noncomputable section

namespace Cert.KProof

open Idealize.ShloMosaic Idealize.ShloMosaic.TcCoe Idealize.SL.Sem

section

open Cert.KernelIdeal Cert.KernelIdeal.Gen

variable {F : FTy → Type} [FloatOps F]

/-- The run under the precondition, the arguments unchanged and every counter at zero. -/
theorem run_frame (m : (ℓ : Loc nD τ sig) → Buf (Elt F) ℓ) (ρ : Dev nD → PrngReg)
    (hpre : ∀ c : Dev nD, Cert.Pre_halves_Kernel.fn (F := F) (m ((c.tc : Thread nD τ).loc main_arg0)) (m ((c.tc : Thread nD τ).loc main_arg1)) = fun _ => 1#1) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩)
    (run_main ρ m fun c => V_count m c (halves_of_fn _ _ (hpre c)))

end

theorem frame_ideal : Cert.quiescent_KernelIdeal := fun m ρ hpre => run_frame (F := Ideal) m ρ hpre

theorem frame_kernel : Cert.quiescent_Kernel := fun m ρ hpre => by
  have h := run_frame (F := Bits) m ρ hpre
  rw [← defs_same, ← main_same] at h
  exact h

theorem frame_reference : Cert.quiescent_ReferenceIdeal := fun m ρ _ =>
  (θ_run Cert.ReferenceIdeal.defs _ _).mono (fun r h => ⟨fun c => ⟨(h c).2.1, (h c).2.2⟩, sem_eq_zero_of_no_sems (by decide) r.2⟩)
    (Cert.ReferenceIdeal.Value.run (F := Ideal) m ρ)

theorem frame_reference_pre : Cert.quiescent_ReferenceIdeal_pre_halves_ReferenceIdeal := fun m ρ _ => frame_reference m ρ trivial

end Cert.KProof
-- ==== Proof.RowVals.lean ====
module

public import proofs.«01_k».proof.Proof.HostVals
public import Idealize.ShloMosaic.Lib.MatmulPlain
public import Idealize.ShloMosaic.Lib.Pipeline.Value

/-!
# What the products are over the reals

A product of the 0/1 table with the rows of `x` picks rows: row `j` of the product based at `b` is the row of `x` whose
position is `b + j`, where exactly one row has it.  Nothing is asked of the entries of `x`: zero times an infinity is zero.
-/

@[expose] public section

noncomputable section

namespace Cert.KProof

open Cert.KernelIdeal Cert.KernelIdeal.Gen
open Idealize.ShloMosaic Idealize.ShloMosaic.TcCoe Idealize.ShloMosaic.WordCmp
open Idealize.ShloMosaic.Routing Idealize.ShloMosaic.ValueIdx
open Cert.KernelIdeal.Facts
open scoped BigOperators

/-- The comparison of two words, widened and read as a real: 1 where they are equal, else 0. -/
theorem oneHot_entry (a b : BitVec 32) :
    (FloatOps.sitofp (F := Ideal) .f32 ((IntOp.cmpi .eq a b).setWidth 32) : EReal) = if a = b then 1 else 0 := by
  show ((((IntOp.cmpi .eq a b).setWidth 32).toInt : ℝ) : EReal) = _
  by_cases h : a = b
  · rw [if_pos h, IntOp.cmpi_eq.2 h]; norm_num
  · rw [if_neg h, eq_zero_of_ne_one (fun e => h (IntOp.cmpi_eq.1 e))]; norm_num

variable (p : IVec S1x1024 32) (x : FVec Ideal S1024x512 .f32)

/-- The rows of `x` at position `w`, summed. -/
def pickSum (w : BitVec 32) (q : Fin 512) : EReal :=
  ∑ k : Fin 1024, (if p (ix2 0 k) = w then (1 : EReal) else 0) * x (ix2 k q)

/-- The one row at position `w`, where there is exactly one. -/
theorem pickSum_eq {w : BitVec 32} {k : Fin 1024} (hk : ∀ k', p (ix2 0 k') = w ↔ k' = k) (q : Fin 512) : pickSum p x w q = x (ix2 k q) := by
  unfold pickSum
  rw [Finset.sum_eq_single k]
  · rw [if_pos ((hk k).2 rfl), one_mul]
  · intro k' _ hne
    rw [if_neg fun h => hne ((hk k').1 h), zero_mul]
  · exact fun h => absurd (Finset.mem_univ k) h

/-- A product whose left row `j` is 1 at the rows at position `w`. -/
theorem product_at {M : ℕ} (lhs : FVec Ideal ⟨2, ![M, 1024]⟩ .f32) (j : Fin M) (q : Fin 512) (w : BitVec 32)
    (h : ∀ k, lhs (ix2 j k) = if p (ix2 0 k) = w then (1 : EReal) else 0) :
    FloatOps.matmul (DotDims.plain M 1024 512) none lhs x (constant (F := Ideal) ⟨2, ![M, 512]⟩ .f32 0x00000000#32) (ix2 j q) = pickSum p x w q := by
  rw [Ideal.matmul_plain_apply, constant_apply, Ideal.ofBits_zero_f32, zero_add]
  exact Finset.sum_congr rfl fun k _ => by rw [h]

theorem rows_at (b : BitVec 32) (j : Fin 256) (q : Fin 512) : rows p x b (ix2 j q) = pickSum p x (b + BitVec.ofNat 32 j.val) q := by
  refine product_at p x _ j q _ fun k => ?_
  unfold hot
  rw [sitofp_apply, extui_apply, cmpi_at, broadcastTo_apply _ _ _ (ix2 0 k) (by intro a; fin_cases a <;> rfl), shapeCast_self]
  have e : addi (broadcast S256x1024 b) (iota .tc S256x1024 32 [0] iota_S256x1024_d0_w32) (ix2 j k) = b + BitVec.ofNat 32 j.val :=
    congrArg (b + ·) (iota_single_apply .tc S256x1024 32 0 iota_S256x1024_d0_w32 (ix2 j k))
  rw [e]
  exact oneHot_entry _ _

theorem rows8_at (b : BitVec 32) (j : Fin 8) (q : Fin 512) : rows8 p x b (ix2 j q) = pickSum p x (b + BitVec.ofNat 32 j.val) q := by
  refine product_at p x _ j q _ fun k => ?_
  rw [sitofp_apply, extui_apply, cmpi_at, broadcastTo_apply _ _ _ (ix2 0 k) (by intro a; fin_cases a <;> rfl), shapeCast_self]
  have e : addi (broadcast S8x1024 b) (iota .tc S8x1024 32 [0] iota_S8x1024_d0_w32) (ix2 j k) = b + BitVec.ofNat 32 j.val :=
    congrArg (b + ·) (iota_single_apply .tc S8x1024 32 0 iota_S8x1024_d0_w32 (ix2 j k))
  rw [e]
  exact oneHot_entry _ _

end Cert.KProof
-- ==== Proof.Result.lean ====
module

public import proofs.«01_k».proof.Proof.RowVals

/-!
# The kernel's result, row by row

Device `c` ends with the rows that go to its half (their `dest` is the half's number), from the two devices that hold it and
its peer: those of half 0 first, each half's in order.  `out_at` says where each such row stands.
-/

@[expose] public section

noncomputable section

namespace Cert.KProof

open Cert.KernelIdeal Cert.KernelIdeal.Gen
open Idealize.ShloMosaic Idealize.ShloMosaic.TcCoe Idealize.ShloMosaic.WordCmp
open Idealize.ShloMosaic.Routing Idealize.ShloMosaic.ValueIdx
open Cert.KernelIdeal.Facts

/-- Row `k` goes to half `v`. -/
def Goes (v : Bool) (d : IVec S1024 32) : Nat → Prop :=
  match v with
  | false => Zero d
  | true => One d

instance (v : Bool) (d : IVec S1024 32) : DecidablePred (Goes v d) :=
  match v with
  | false => inferInstanceAs (DecidablePred (Zero d))
  | true => inferInstanceAs (DecidablePred (One d))

theorem goes_lt {v : Bool} {d : IVec S1024 32} {k : Nat} (h : Goes v d k) : k < 1024 := by
  cases v <;> exact h.1

theorem Halves.count_goes {d : IVec S1024 32} (h : Halves d) (v : Bool) : Nat.count (Goes v d) 1024 = 512 := by
  cases v
  · exact h.zeros
  · exact h.ones

theorem Halves.count_lt {d : IVec S1024 32} (h : Halves d) {v : Bool} {k : Nat} (hk : Goes v d k) : Nat.count (Goes v d) k < 512 := by
  have := Nat.count_strict_mono hk (goes_lt hk)
  rwa [h.count_goes] at this

/-- Where a row going to half `v` stands in the grouped block. -/
theorem slot_of_goes (r : Bool) {d : IVec S1024 32} {v : Bool} {k : Nat} (hk : Goes v d k) :
    slot r d k = (if r = v then 8 + v.toNat * 512 else v.toNat * 520) + Nat.count (Goes v d) k := by
  unfold slot
  cases v
  · rw [if_pos (show Zero d k from hk)]
    cases r <;> simp <;> rfl
  · rw [if_neg (not_zero_of_one (show One d k from hk))]
    cases r <;> simp <;> rfl

/-- No two rows stand at one place. -/
theorem Halves.slot_inj {d : IVec S1024 32} (h : Halves d) (r : Bool) {k k' : Nat} (hk : k < 1024) (hk' : k' < 1024)
    (e : slot r d k = slot r d k') : k = k' := by
  have key : ∀ v, Goes v d k → Goes v d k' → k = k' := fun v a a' => by
    rw [slot_of_goes r a, slot_of_goes r a'] at e
    exact Nat.count_injective a a' (by omega)
  rcases h.bit k hk with a | a <;> rcases h.bit k' hk' with a' | a'
  · exact key false a a'
  · have := h.count_lt (v := false) a
    rw [slot_of_goes r (v := false) a, slot_of_goes r (v := true) a'] at e
    cases r <;> simp at e <;> omega
  · have := h.count_lt (v := false) a'
    rw [slot_of_goes r (v := true) a, slot_of_goes r (v := false) a'] at e
    cases r <;> simp at e <;> omega
  · exact key true a a'

theorem Halves.slot_lt {d : IVec S1024 32} (h : Halves d) (r : Bool) {k : Nat} (hk : k < 1024) : slot r d k < 2 ^ 32 := by
  rcases h.bit k hk with a | a
  · have := h.count_lt (v := false) a
    rw [slot_of_goes r (v := false) a]
    cases r <;> simp <;> omega
  · have := h.count_lt (v := true) a
    rw [slot_of_goes r (v := true) a]
    cases r <;> simp <;> omega

/-- What is staged at the call: each device's positions are those of its `dest`. -/
structure Placed (s : Staged Ideal) (d : Dev nD → IVec S1024 32) : Prop where
  halves : ∀ e, Halves (d e)
  pos : ∀ e (k : Fin 1024), s.pos e (ix2 0 k) = BitVec.ofNat 32 (slot (half e) (d e) k.val)

variable {s : Staged Ideal} {d : Dev nD → IVec S1024 32} (H : Placed s d)
include H

theorem Placed.pos_iff (e : Dev nD) (k k' : Fin 1024) :
    s.pos e (ix2 0 k') = BitVec.ofNat 32 (slot (half e) (d e) k.val) ↔ k' = k := by
  rw [H.pos]
  refine ⟨fun h => ?_, fun h => by rw [h]⟩
  have h' := congrArg BitVec.toNat h
  rw [BitVec.toNat_ofNat, BitVec.toNat_ofNat, Nat.mod_eq_of_lt ((H.halves e).slot_lt _ k'.isLt), Nat.mod_eq_of_lt ((H.halves e).slot_lt _ k.isLt)] at h'
  exact Fin.ext ((H.halves e).slot_inj _ k'.isLt k.isLt h')

/-- A block row whose number is the position of row `k` is row `k`. -/
theorem Placed.rows_slot (e : Dev nD) (k : Fin 1024) (b : Nat) (j : Fin 256) (q : Fin 512) (hb : b + j.val = slot (half e) (d e) k.val) :
    rows (s.pos e) (s.src e) (BitVec.ofNat 32 b) (ix2 j q) = s.src e (ix2 k q) := by
  rw [rows_at, ← BitVec.ofNat_add, hb]
  exact pickSum_eq _ _ (H.pos_iff e k) q

omit H in
/-- Glued blocks at a row, the block and the row in it named. -/
theorem glue_row {α : Type} (B : Bool → Fin 2 → S256x512.Idx → α) (j : S1024x512.Idx) (r : Bool) (i : Fin 2) (t : Fin 256)
    (hj : (j 0).val = r.toNat * 512 + 256 * i.val + t.val) : glue B j = B r i (ix2 t (j 1)) := by
  have hi := i.isLt
  have ht := t.isLt
  have e1 : decide (512 ≤ (j 0).val) = r := by rw [hj]; cases r <;> simp <;> omega
  have e2 : (j 0).val % 512 / 256 = i.val := by rw [hj]; cases r <;> simp <;> omega
  have e3 : (j 0).val % 256 = t.val := by rw [hj]; cases r <;> simp <;> omega
  unfold glue
  rw [e1, show (⟨(j 0).val % 512 / 256, by have := row_lt j; omega⟩ : Fin 2) = i from Fin.ext e2,
    show (⟨(j 0).val % 256, Nat.mod_lt _ (by decide)⟩ : Fin 256) = t from Fin.ext e3]

/-- Where a row going to `c`'s half stands before the last step. -/
theorem Placed.glue_at (c e : Dev nD) (he : e = c ∨ e = peer c) (k : Fin 1024) (hk : Goes (half c) (d e) k.val) (J : Fin 1024)
    (hJ : J.val = (half e).toNat * 512 + Nat.count (Goes (half c) (d e)) k.val) (q : Fin 512) :
    glue (blocks s c) (ix2 J q) = s.src e (ix2 k q) := by
  have hn := (H.halves e).count_lt hk
  have hs := slot_of_goes (half e) hk
  generalize Nat.count (Goes (half c) (d e)) k.val = n at hn hs hJ
  refine (glue_row (blocks s c) (ix2 J q) (half e) ⟨n / 256, by omega⟩ ⟨n % 256, Nat.mod_lt _ (by decide)⟩
    (hJ.trans (by show _ = _ + 256 * (n / 256) + n % 256; omega))).trans ?_
  rcases he with rfl | rfl
  · rw [if_pos rfl] at hs
    rw [blocks_own]
    exact H.rows_slot e k _ _ q (by rw [hs]; show _ + 256 * (n / 256) + n % 256 = _; omega)
  · have hh := half_peer c
    rw [hh, if_neg (by cases half c <;> decide)] at hs
    have hb := H.rows_slot (peer c) k ((!half (peer c)).toNat * 520 + 256 * (n / 256)) ⟨n % 256, Nat.mod_lt _ (by decide)⟩ q
      (by rw [hh, Bool.not_not, hs]; show _ + 256 * (n / 256) + n % 256 = _; omega)
    rw [hh, blocks_other]
    exact hb

omit H in
theorem below_zero : below = fun _ => 0#1 := by
  have h : ∀ t : Fin 8, IntOp.cmpi .slt (512#32 + BitVec.ofNat 32 t.val) 512#32 = 0#1 := by decide
  funext j
  exact (congrArg (fun w => IntOp.cmpi .slt (512#32 + w) 512#32) (iota_single_apply .tc S8x512 32 0 iota_S8x512_d0_w32 j)).trans (h (j 0))

omit H in
/-- The last step stores what stands there: in half 0 the same rows, in half 1 the product again. -/
theorem fixed_same (c : Dev nD) :
    fixed (half c) (s.pos c) (s.src c) (oM.view.readAt (Elt Ideal) fixRect.toLoadRect (glue (blocks s c)))
      = (oM.access fixRect).read (Elt Ideal) (glue (blocks s c)) := by
  have hz : ∀ a b : FVec Ideal S8x512 .f32, select below a b = b := fun a b => by
    funext j
    rw [below_zero]
    rfl
  cases h : half c
  · exact (hz _ _).trans (shapeCast_self _ _)
  · refine (hz _ _).trans ?_
    funext y
    have hy : (y 0).val < 8 := (y 0).isLt
    have h0 : ((fixRect.emb y) 0).val = 512 + (y 0).val := by
      show 512 + 1 * (y 0).val = _
      rw [Nat.one_mul]
    have h1 : (fixRect.emb y) 1 = y 1 := Fin.ext (by
      show 0 + 1 * (y 1).val = _
      omega)
    have e : (oM.access fixRect).read (Elt Ideal) (glue (blocks s c)) y = blocks s c true 0 (ix2 (⟨(y 0).val, by omega⟩ : Fin 256) (y 1)) :=
      (glue_row (blocks s c) (fixRect.emb y) true 0 ⟨(y 0).val, by omega⟩ h0).trans (by rw [h1])
    rw [e, ← h, blocks_own]
    have hk := rows_at (s.pos c) (s.src c) (keepBase (half c) 0) ⟨(y 0).val, by omega⟩ (y 1)
    have hb : keepBase (half c) 0 = 520#32 := by rw [h]; rfl
    rw [hb] at hk
    have hs : kept s c 0 = rows (s.pos c) (s.src c) 520#32 := congrArg (rows (s.pos c) (s.src c)) hb
    exact ((congrArg (rows8 _ _ _) (eq_ix2 y)).trans (rows8_at _ _ _ (y 0) (y 1))).trans (hk.symm.trans (congrFun hs.symm _))

theorem Placed.out_at (c e : Dev nD) (he : e = c ∨ e = peer c) (k : Fin 1024) (hk : Goes (half c) (d e) k.val) (J : Fin 1024)
    (hJ : J.val = (half e).toNat * 512 + Nat.count (Goes (half c) (d e)) k.val) (q : Fin 512) :
    outAt s c (ix2 J q) = s.src e (ix2 k q) := by
  unfold outAt
  rw [fixed_same, View.write_read_eq_piecewise, Finset.piecewise_same]
  exact H.glue_at c e he k hk J hJ q

end Cert.KProof
-- ==== Proof.Stable.lean ====
module

public import Idealize.ShloMosaic.Lib.Routing.SortLink
public import Idealize.ShloMosaic.Lib.Routing.Count

/-!
# A stable sort of zeros and ones

Positions `0 … n - 1` carry a bit, `P k` or not.  Sorted stably, those without `P` come first: position `g` goes to `place P n g`,
the number of positions before it on its own side, after all of the other side if it has `P`.
-/

@[expose] public section

namespace Cert.KProof

open Idealize.ShloMosaic Idealize.ShloMosaic.Routing

variable (P : Nat → Prop) [DecidablePred P]

/-- Where position `g` of `n` goes. -/
def place (n g : Nat) : Nat := if P g then Nat.count (fun k => ¬P k) n + Nat.count P g else Nat.count (fun k => ¬P k) g

theorem count_both (n : Nat) : Nat.count (fun k => ¬P k) n + Nat.count P n = n := by
  induction n with
  | zero => simp
  | succ n ih =>
    rw [Nat.count_succ, Nat.count_succ]
    by_cases h : P n
    · rw [if_pos h, if_neg (not_not.2 h)]; omega
    · rw [if_neg h, if_pos h]; omega

variable {P}

theorem place_lt {n g : Nat} (h : g < n) : place P n g < n := by
  have hn := count_both P n
  unfold place
  split
  · rename_i hp
    have := Nat.count_strict_mono hp h
    omega
  · rename_i hp
    have := Nat.count_strict_mono (p := fun k => ¬P k) hp h
    omega

theorem place_split {n g : Nat} (h : g < n) : P g ↔ Nat.count (fun k => ¬P k) n ≤ place P n g := by
  unfold place
  split
  · rename_i hp
    exact ⟨fun _ => Nat.le_add_right _ _, fun _ => hp⟩
  · rename_i hp
    have := Nat.count_strict_mono (p := fun k => ¬P k) hp h
    exact ⟨fun h => absurd h hp, fun h => by omega⟩

/-- Of two positions the later goes first exactly when it alone lacks `P`. -/
theorem place_lt_iff {n a b : Nat} (hab : a < b) (hb : b < n) : place P n b < place P n a ↔ ¬P b ∧ P a := by
  have ha : a < n := hab.trans hb
  by_cases pa : P a <;> by_cases pb : P b
  · have := Nat.count_strict_mono pa hab
    have : place P n a < place P n b := by unfold place; rw [if_pos pa, if_pos pb]; omega
    exact ⟨fun h => by omega, fun h => absurd pb h.1⟩
  · have h1 := (place_split (n := n) ha).1 pa
    have h2 := Nat.lt_of_not_le fun h => pb ((place_split (n := n) hb).2 h)
    exact ⟨fun _ => ⟨pb, pa⟩, fun _ => by omega⟩
  · have h1 := (place_split (n := n) hb).1 pb
    have h2 := Nat.lt_of_not_le fun h => pa ((place_split (n := n) ha).2 h)
    exact ⟨fun h => by omega, fun h => absurd h.2 pa⟩
  · have := Nat.count_strict_mono (p := fun k => ¬P k) pa hab
    have : place P n a < place P n b := by unfold place; rw [if_neg pa, if_neg pb]; exact this
    exact ⟨fun h => by omega, fun h => absurd h.2 pa⟩

theorem place_ne {n a b : Nat} (hab : a < b) (hb : b < n) : place P n a ≠ place P n b := by
  have ha : a < n := hab.trans hb
  by_cases pa : P a <;> by_cases pb : P b
  · have := Nat.count_strict_mono pa hab
    unfold place; rw [if_pos pa, if_pos pb]; omega
  · have h1 := (place_split (n := n) ha).1 pa
    have h2 := Nat.lt_of_not_le fun h => pb ((place_split (n := n) hb).2 h)
    omega
  · have h1 := (place_split (n := n) hb).1 pb
    have h2 := Nat.lt_of_not_le fun h => pa ((place_split (n := n) ha).2 h)
    omega
  · have := Nat.count_strict_mono (p := fun k => ¬P k) pa hab
    unfold place; rw [if_neg pa, if_neg pb]; omega

variable (P) in
/-- The places as a map of the positions. -/
def placeFin (n : Nat) (g : Fin n) : Fin n := ⟨place P n g.val, place_lt g.isLt⟩

theorem placeFin_bij (n : Nat) : Function.Bijective (placeFin P n) := by
  refine Finite.injective_iff_bijective.1 fun a b h => ?_
  have e : place P n a.val = place P n b.val := congrArg Fin.val h
  rcases Nat.lt_trichotomy a.val b.val with h | h | h
  · exact absurd e (place_ne h b.isLt)
  · exact Fin.ext h
  · exact absurd e.symm (place_ne h a.isLt)

/-- A stable sort asks its comparator only of a later position against an earlier one. -/
theorem stableSort_later {n : Nat} (R R' : Fin n → Fin n → Bool) (h : ∀ a b, a < b → R b a = R' b a) :
    ∀ l : List (Fin n), l.Pairwise (· < ·) → stableSort R l = stableSort R' l
  | [], _ => rfl
  | a :: l, hl => by
    rw [List.pairwise_cons] at hl
    unfold stableSort
    rw [stableSort_later R R' h l hl.2]
    exact insertBefore_congr R R' a _ fun b hb => h a b (hl.1 b ((perm_stableSort R' l).mem_iff.mp hb))

/-- The stable sort's entry at the place of `g` is `g`. -/
theorem sortedFrom_place {n : Nat} (before : Fin n → Fin n → Bool) (hb : ∀ a b : Fin n, before a b = decide (¬P a.val ∧ P b.val)) (g : Fin n) :
    sortedFrom before (placeFin P n g) = g := by
  let K : Fin n → Nat := fun g => place P n g.val
  let e : Fin n ≃ Fin n := Equiv.ofBijective (placeFin P n) (placeFin_bij n)
  have hK : Function.Injective K := fun a b h => (placeFin_bij (P := P) n).1 (Fin.ext h)
  have hs : sortPositions n before = sortPositions n fun a b => decide (K a < K b) :=
    stableSort_later _ _ (fun a b hab => by
      rw [hb]
      exact decide_eq_decide.2 (place_lt_iff hab b.isLt).symm) _ (List.pairwise_lt_finRange n)
  have hf : sortedFrom before = sortedFrom fun a b => decide (K a < K b) := by
    funext k
    unfold sortedFrom
    rw [List.get_of_eq hs]
    rfl
  have hL : (List.ofFn e.symm).Perm (List.finRange n) := by
    refine (List.perm_ext_iff_of_nodup (List.nodup_ofFn.2 e.symm.injective) (List.nodup_finRange n)).2 fun a => ?_
    simp only [List.mem_finRange, iff_true]
    exact List.mem_ofFn.2 ⟨e a, e.symm_apply_apply a⟩
  have hp : (List.ofFn e.symm).Pairwise fun a b => K a < K b := by
    refine List.pairwise_ofFn.2 fun i j hij => ?_
    have hi : K (e.symm i) = i.val := congrArg Fin.val (e.apply_symm_apply i)
    have hj : K (e.symm j) = j.val := congrArg Fin.val (e.apply_symm_apply j)
    rw [hi, hj]
    exact hij
  rw [hf, sortedFrom_eq K hK _ hL hp _ (by rw [List.length_ofFn]; exact (placeFin P n g).isLt), List.getElem_ofFn]
  exact e.symm_apply_apply g

end Cert.KProof
-- ==== Proof.RefVals.lean ====
module

public import proofs.«01_k».proof.Proof.Stable
public import proofs.«01_k».proof.Proof.Gen.ReferenceIdeal.Run
public import Idealize.ShloMosaic.Lib.Routing.Ops
public import Idealize.ShloMosaic.Lib.Routing.OpsPair

/-!
# The reference, row by row

On a `dest` of zeros and ones the reference's row at the place of `g` (`Stable.lean`) is row `g` of its argument.
-/

@[expose] public section

noncomputable section

namespace Cert.KProof

open Cert.ReferenceIdeal Cert.ReferenceIdeal.Gen
open Idealize.ShloMosaic Idealize.ShloMosaic.Routing Idealize.ShloMosaic.ValueIdx

variable {F : FTy → Type} [FloatOps F]

/-- Entry `k` of the whole `dest` is one. -/
def OneAt (D : IVec S2048 32) (k : Nat) : Prop := ∃ h : k < 2048, D (ix1 ⟨k, h⟩) = 1#32

instance (D : IVec S2048 32) : DecidablePred (OneAt D) := fun k => by unfold OneAt; infer_instance

/-- The row numbers in the reference's order. -/
def order (D : IVec S2048 32) : IVec S2048 32 := (Host.sort2 S2048 0 comparator_i32_i32_d0 D (iotaInDim S2048 32 0)).2

/-- What the reference computes from `x` and `dest`. -/
def refRows (x : FVec F S2048x512 .f32) (D : IVec S2048 32) : FVec F S2048x512 .f32 :=
  Host.gather gather_S2048x512_S2048x1_S2048x512_1_0_n_n_0_1_1512 x (broadcastInDim S2048x1 ![0] bcast_S2048_S2048x1_0
    (select (cmpi .slt (order D) (broadcastInDim S2048 ![] bcast_S_S2048 (constantI S_ 32 0#32)))
      (addi (order D) (broadcastInDim S2048 ![] bcast_S_S2048 (constantI S_ 32 2048#32))) (order D)))

variable {D : IVec S2048 32} (hbit : ∀ g : Fin 2048, D (ix1 g) = 0#32 ∨ D (ix1 g) = 1#32)

include hbit in
/-- Among zeros and ones, "sorted before" is "zero before one". -/
theorem before_bits (a b : Fin 2048) : (IntOp.cmpi .slt (D (ix1 a)) (D (ix1 b)) == 1#1) = decide (¬OneAt D a.val ∧ OneAt D b.val) := by
  have h : ∀ g : Fin 2048, OneAt D g.val ↔ D (ix1 g) = 1#32 := fun g => ⟨fun ⟨_, e⟩ => e, fun e => ⟨g.isLt, e⟩⟩
  have hw : ∀ x y : BitVec 32, x = 0#32 ∨ x = 1#32 → y = 0#32 ∨ y = 1#32 →
      (IntOp.cmpi .slt x y == 1#1) = decide (¬x = 1#32 ∧ y = 1#32) := by
    rintro x y (rfl | rfl) (rfl | rfl) <;> decide
  rw [decide_eq_decide.2 (and_congr (not_congr (h a)) (h b))]
  exact hw _ _ (hbit a) (hbit b)

include hbit in
/-- The order holds `g` at the place of `g`. -/
theorem order_place (g : Fin 2048) : order D (ix1 (placeFin (OneAt D) 2048 g)) = BitVec.ofNat 32 g.val := by
  have hd : (0 : Nat) < S2048.rank := Nat.zero_lt_one
  have e : ∀ (j : S2048.Idx) (k : Fin 2048), j.along ⟨0, hd⟩ k = ix1 k := fun j k => (Shape.Idx.along_rank1 j k).trans (ofFin_eq_ix1 k)
  have hsrc := sortedFrom_place (P := OneAt D) (n := 2048)
    (fun a b => comparator_i32_i32_d0
      (D ((ix1 (placeFin (OneAt D) 2048 g) : S2048.Idx).along ⟨0, hd⟩ a), iotaInDim S2048 32 0 ((ix1 (placeFin (OneAt D) 2048 g) : S2048.Idx).along ⟨0, hd⟩ a))
      (D ((ix1 (placeFin (OneAt D) 2048 g) : S2048.Idx).along ⟨0, hd⟩ b), iotaInDim S2048 32 0 ((ix1 (placeFin (OneAt D) 2048 g) : S2048.Idx).along ⟨0, hd⟩ b)) == 1#1)
    (fun a b => by
      rw [e, e]
      exact before_bits hbit a b) g
  unfold order Host.sort2
  rw [dif_pos hd]
  exact ((congrArg (fun k : Fin 2048 => iotaInDim S2048 32 0 ((ix1 (placeFin (OneAt D) 2048 g) : S2048.Idx).along ⟨0, hd⟩ k)) hsrc).trans
    (congrArg (iotaInDim S2048 32 0) (e _ g))).trans rfl

include hbit in
/-- The reference's row at the place of `g` is row `g`. -/
theorem refRows_place (x : FVec F S2048x512 .f32) (g : Fin 2048) (q : Fin 512) :
    refRows x D (ix2 (placeFin (OneAt D) 2048 g) q) = x (ix2 g q) := by
  unfold refRows
  refine gather_row _ rfl rfl rfl rfl rfl x _ _ q g ?_ (by decide)
  have ho := order_place hbit g
  have hw := wrap_of_lt (order D (ix1 (placeFin (OneAt D) 2048 g)))
    (order D (ix1 (placeFin (OneAt D) 2048 g)) + 2048#32) (by
      rw [ho, BitVec.toNat_ofNat]
      have := g.isLt
      have := Nat.mod_le g.val (2 ^ 32)
      show _ < 2 ^ 31
      omega)
  refine Eq.trans ?_ (hw.trans ho)
  have hi : ∀ (v : IVec S2048 32) (k : Fin 2048), broadcastInDim S2048x1 ![0] bcast_S2048_S2048x1_0 v (ix2 k (0 : Fin 1)) = v (ix1 k) :=
    fun v k => congrArg v (funext fun a => by
      match a with
      | ⟨0, _⟩ => rfl)
  rw [hi]
  rfl

end Cert.KProof
-- ==== Proof.Whole.lean ====
module

public import proofs.«01_k».proof.Proof.Result
public import proofs.«01_k».proof.Proof.RefVals

/-!
# Counting in the whole `dest`

The whole `dest` is half 0's block and then half 1's.  Each block sends 512 rows to each half, so in the whole the reference's
first 1024 rows are those that go to half 0, the rest those that go to half 1, and within a half's rows the 512 of block 0 come
first.  `exists_row` names, for each row of device `c`'s result, the row of the argument that both programs put there.
-/

@[expose] public section

noncomputable section

namespace Cert.KProof

open Cert.KernelIdeal Cert.KernelIdeal.Gen
open Idealize.ShloMosaic Idealize.ShloMosaic.Routing Idealize.ShloMosaic.ValueIdx

/-- Entry `g` of the whole `dest` sends its row to half `v`. -/
def Side (v : Bool) (D : IVec Cert.ReferenceIdeal.S2048 32) : Nat → Prop :=
  match v with
  | false => fun g => ¬OneAt D g
  | true => OneAt D

instance (v : Bool) (D : IVec Cert.ReferenceIdeal.S2048 32) : DecidablePred (Side v D) :=
  match v with
  | false => inferInstanceAs (DecidablePred fun g => ¬OneAt D g)
  | true => inferInstanceAs (DecidablePred (OneAt D))

/-- Row `k` of half `r`'s block, in the whole. -/
def wholeRow (r : Bool) (k : Fin 1024) : Fin 2048 := ⟨r.toNat * 1024 + k.val, by have := Bool.toNat_le r; have := k.isLt; omega⟩

theorem wholeRow_val (r : Bool) (k : Fin 1024) : (wholeRow r k).val = r.toNat * 1024 + k.val := rfl

/-- Every row of the whole is in one of the halves. -/
theorem wholeRow_of (g : Fin 2048) : ∃ k : Fin 1024, wholeRow (decide (1024 ≤ g.val)) k = g := by
  have hg := g.isLt
  by_cases h : 1024 ≤ g.val
  · rw [decide_eq_true h]
    refine ⟨⟨g.val - 1024, by omega⟩, Fin.ext ?_⟩
    rw [wholeRow_val, Bool.toNat_true, Fin.val_mk]
    omega
  · rw [decide_eq_false h]
    refine ⟨⟨g.val, by omega⟩, Fin.ext ?_⟩
    rw [wholeRow_val, Bool.toNat_false, Fin.val_mk]
    omega

/-- The devices' blocks are those of the whole, and each sends half its rows to each half. -/
structure Cut (d : Dev nD → IVec S1024 32) (D : IVec Cert.ReferenceIdeal.S2048 32) : Prop where
  halves : ∀ e, Halves (d e)
  block : ∀ (e : Dev nD) (k : Fin 1024), d e (ix1 k) = D (ix1 (wholeRow (half e) k))

variable {d : Dev nD → IVec S1024 32} {D : IVec Cert.ReferenceIdeal.S2048 32} (C : Cut d D)

include C

theorem Cut.one_iff (e : Dev nD) {k : Nat} (hk : k < 1024) : OneAt D ((half e).toNat * 1024 + k) ↔ One (d e) k := by
  have hb := C.block e ⟨k, hk⟩
  constructor
  · rintro ⟨h, hD⟩
    exact ⟨hk, hb.trans hD⟩
  · rintro ⟨_, hd⟩
    exact ⟨(wholeRow (half e) ⟨k, hk⟩).isLt, hb.symm.trans hd⟩

theorem Cut.side_iff (v : Bool) (e : Dev nD) {k : Nat} (hk : k < 1024) : Side v D ((half e).toNat * 1024 + k) ↔ Goes v (d e) k := by
  have h1 := C.one_iff e hk
  have h0 := (C.halves e).one_iff hk
  cases v
  · show ¬OneAt D _ ↔ Zero (d e) k
    rw [h1, h0, not_not]
  · exact h1

/-- Every entry is zero or one. -/
theorem Cut.bit (g : Fin 2048) : D (ix1 g) = 0#32 ∨ D (ix1 g) = 1#32 := by
  obtain ⟨e, k, h⟩ : ∃ (e : Dev nD) (k : Fin 1024), wholeRow (half e) k = g := by
    by_cases hg : g.val < 1024
    · exact ⟨(0 : Fin 16), ⟨g.val, hg⟩, Fin.ext (by show 0 * 1024 + g.val = _; omega)⟩
    · exact ⟨(8 : Fin 16), ⟨g.val - 1024, by omega⟩, Fin.ext (by show 1 * 1024 + (g.val - 1024) = _; omega)⟩
  rw [← h, ← C.block]
  exact ((C.halves e).bit k.val k.isLt).imp (fun h => h.2) (fun h => h.2)

theorem Cut.count_first (v : Bool) : Nat.count (Side v D) 1024 = 512 := by
  have h : ∀ k < 1024, Side v D k ↔ Goes v (d (0 : Fin 16)) k := fun k hk => by
    have := C.side_iff v (0 : Fin 16) hk
    rwa [show (half (0 : Fin 16)).toNat * 1024 + k = k from by show 0 * 1024 + k = k; omega] at this
  rw [count_congr_of_lt 1024 h, (C.halves _).count_goes]

/-- Before row `k` of half `e`'s block: 512 rows from each block before it, and those of its own. -/
theorem Cut.count_side (v : Bool) (e : Dev nD) {k : Nat} (hk : k ≤ 1024) :
    Nat.count (Side v D) ((half e).toNat * 1024 + k) = (half e).toNat * 512 + Nat.count (Goes v (d e)) k := by
  rw [Nat.count_add]
  refine congrArg₂ (· + ·) ?_ (count_congr_of_lt k fun i hi => C.side_iff v e (by omega))
  cases half e
  · exact (congrArg (Nat.count (Side v D)) (Nat.zero_mul 1024)).trans ((Nat.count_zero _).trans (Nat.zero_mul 512).symm)
  · show Nat.count (Side v D) (1 * 1024) = 1 * 512
    rw [Nat.one_mul, Nat.one_mul, C.count_first]

theorem Cut.count_whole (v : Bool) : Nat.count (Side v D) 2048 = 1024 := by
  have h := C.count_side v (8 : Fin 16) le_rfl
  rw [(C.halves _).count_goes] at h
  exact h

/-- The place of a row that goes to half `v`. -/
theorem Cut.place_of_side {v : Bool} {g : Nat} (hg : Side v D g) :
    place (OneAt D) 2048 g = v.toNat * 1024 + Nat.count (Side v D) g := by
  have hw : Nat.count (fun k => ¬OneAt D k) 2048 = 1024 := C.count_whole false
  unfold place
  cases v
  · rw [if_neg (show ¬OneAt D g from hg)]
    show Nat.count (Side false D) g = 0 * 1024 + _
    omega
  · rw [if_pos (show OneAt D g from hg), hw]
    rfl

theorem Cut.exists_row (c : Dev nD) (J : Fin 1024) : ∃ (e : Dev nD) (k : Fin 1024), (e = c ∨ e = peer c) ∧ Goes (half c) (d e) k.val
    ∧ J.val = (half e).toNat * 512 + Nat.count (Goes (half c) (d e)) k.val
    ∧ placeFin (OneAt D) 2048 (wholeRow (half e) k) = wholeRow (half c) J := by
  obtain ⟨g, hg⟩ := (placeFin_bij (P := OneAt D) 2048).2 (wholeRow (half c) J)
  have hp : place (OneAt D) 2048 g.val = (half c).toNat * 1024 + J.val := congrArg Fin.val hg
  have hw : Nat.count (fun k => ¬OneAt D k) 2048 = 1024 := C.count_whole false
  have hs : Side (half c) D g.val := by
    have h := place_split (P := OneAt D) g.isLt
    rw [hw, hp] at h
    have hJ := J.isLt
    cases hc : half c
    · rw [hc] at h
      exact fun ho => absurd (h.1 ho) (by show ¬ 1024 ≤ 0 * 1024 + J.val; omega)
    · rw [hc] at h
      exact h.2 (by show 1024 ≤ 1 * 1024 + J.val; omega)
  rw [C.place_of_side hs] at hp
  obtain ⟨e, he, hh⟩ : ∃ e : Dev nD, (e = c ∨ e = peer c) ∧ half e = decide (1024 ≤ g.val) := by
    by_cases h : half c = decide (1024 ≤ g.val)
    · exact ⟨c, Or.inl rfl, h⟩
    · refine ⟨peer c, Or.inr rfl, ?_⟩
      rw [half_peer]
      cases hc : half c <;> cases hd : decide (1024 ≤ g.val) <;> simp_all
  have hk : ∃ k : Fin 1024, wholeRow (half e) k = g := hh ▸ wholeRow_of g
  obtain ⟨k, rfl⟩ := hk
  have hc := C.count_side (half c) e (Nat.le_of_lt k.isLt)
  refine ⟨e, k, he, (C.side_iff (half c) e k.isLt).1 hs, ?_, hg⟩
  have hp' : (half c).toNat * 1024 + Nat.count (Side (half c) D) ((half e).toNat * 1024 + k.val) = (half c).toNat * 1024 + J.val := hp
  omega

end Cert.KProof
-- ==== Proof.Algebraic.lean ====
module

public import proofs.«01_k».proof.Defs
public import proofs.«01_k».proof.Proof.HostVals
public import proofs.«01_k».proof.Proof.Whole
public import proofs.«01_k».proof.Proof.Gen.Pre_halves_Kernel

/-!
# The kernel computes the reference

Row `J` of device `c`'s result is row `k` of the block of `x` that `c` or its peer holds (`Whole.lean` names it, `Result.lean` reads
it from the run), and the reference has that row of the whole `x` at row `J` of half `c`'s block.
-/

@[expose] public section

noncomputable section

namespace Cert.KProof

open Cert.KernelIdeal Cert.KernelIdeal.Gen
open Idealize.ShloMosaic Idealize.ShloMosaic.TcCoe Idealize.SL.Sem Idealize.ShloMosaic.ValueIdx

/-- A device's half is its block along the cut axis. -/
theorem cut_coord (c : Dev nD) : Layout.meshLin [2, 2, 4] c.val [0] = (half c).toNat := by revert c; decide

theorem block_rows {α : Type} (c : Dev nD) (v : Cert.ReferenceIdeal.S2048x512.Idx → α) (k : Fin 1024) (q : Fin 512) :
    Layout.blockN ⟨2, ![1024, 512]⟩ ⟨2, ![2048, 512]⟩ (Layout.meshBlock [2, 2, 4] ![[0], []] c) v (by decide) (ix2 k q)
      = v (ix2 (wholeRow (half c) k) q) :=
  congrArg v (funext fun a => Fin.ext (by
    match a with
    | ⟨0, _⟩ => exact congrArg (· * 1024 + k.val) (cut_coord c)
    | ⟨1, _⟩ => exact (congrArg (· + q.val) (Nat.zero_mul 512)).trans (Nat.zero_add _)))

theorem block_entries {α : Type} (c : Dev nD) (v : Cert.ReferenceIdeal.S2048.Idx → α) (k : Fin 1024) :
    Layout.blockN ⟨1, ![1024]⟩ ⟨1, ![2048]⟩ (Layout.meshBlock [2, 2, 4] ![[0]] c) v (by decide) (ix1 k) = v (ix1 (wholeRow (half c) k)) :=
  congrArg v (funext fun a => Fin.ext (by
    match a with
    | ⟨0, _⟩ => exact congrArg (· * 1024 + k.val) (cut_coord c)))

/-- A device's result is its block of the reference's. -/
theorem out_eq {s : Staged Ideal} {d : Dev nD → IVec S1024 32} {D : IVec Cert.ReferenceIdeal.S2048 32} (H : Placed s d) (C : Cut d D)
    (X : FVec Ideal Cert.ReferenceIdeal.S2048x512 .f32) (hX : ∀ e k q, s.src e (ix2 k q) = X (ix2 (wholeRow (half e) k) q)) (c : Dev nD) :
    outAt s c = Layout.blockN ⟨2, ![1024, 512]⟩ ⟨2, ![2048, 512]⟩ (Layout.meshBlock [2, 2, 4] ![[0], []] c) (refRows X D) := by
  funext i
  obtain ⟨J, q, rfl⟩ : ∃ (J : Fin 1024) (q : Fin 512), i = ix2 J q := ⟨i 0, i 1, eq_ix2 i⟩
  obtain ⟨e, k, he, hk, hJ, hp⟩ := C.exists_row c J
  refine (H.out_at c e he k hk J hJ q).trans ((hX e k q).trans ?_)
  refine Eq.trans ?_ (block_rows c (refRows X D) J q).symm
  rw [← hp]
  exact (refRows_place C.bit X (wholeRow (half e) k) q).symm

/-- What the launch stages, for any host values. -/
theorem staged_src (V : Dev nD → Valuation τ sig (Elt Ideal)) (c : Dev nD) : (staged V).src c = V c main_arg0 := shapeCast_self _ _

theorem staged_pos (V : Dev nD → Valuation τ sig (Elt Ideal)) (c : Dev nD) : (staged V).pos c = V c main_v42 := shapeCast_self _ _

variable (m : (ℓ : Loc nD τ sig) → Buf (Elt Ideal) ℓ)

theorem V14_arg0 (c : Dev nD) : V14 m c main_arg0 = m ((c.tc : Thread nD τ).loc main_arg0) :=
  (V15_of m (outs m) c main_arg0 (by decide)).symm.trans (V15_main_arg0 m (outs m) c)

theorem src_eq (c : Dev nD) : (staged (V14 m)).src c = m ((c.tc : Thread nD τ).loc main_arg0) :=
  (staged_src (V14 m) c).trans (V14_arg0 m c)

theorem placed (hd : ∀ c, Halves (destOf m c)) : Placed (staged (V14 m)) (destOf m) where
  halves := hd
  pos := fun e k => (congrFun (staged_pos (V14 m) e) _).trans (V_pos m e (hd e) k)

theorem algebraic : Cert.algebraic_KernelIdeal_ReferenceIdeal := by
  intro m ρ m' ρ' hpre hblk
  have hd : ∀ c, Halves (destOf m c) := fun c => halves_of_fn _ _ (hpre c)
  have C : Cut (destOf m) (m' (((0 : Dev Cert.ReferenceIdeal.nD).tc : Thread Cert.ReferenceIdeal.nD Cert.ReferenceIdeal.τ).loc Cert.ReferenceIdeal.main_arg1)) :=
    ⟨hd, fun e k => (congrFun (hblk e).2 (ix1 k)).trans (block_entries e _ k)⟩
  refine ⟨refRows (F := Ideal) (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)), ?_, ?_⟩
  · refine (θ_run defs _ _).mono (fun r h c => ⟨(h.1 c).2.2.trans ?_, (h.1 c).1, (h.1 c).2.1⟩) (run_main ρ m fun c => V_count m c (hd c))
    exact out_eq (placed m hd) C _ (fun e k q => (congrFun ((src_eq m e).trans (hblk e).1) (ix2 k q)).trans (block_rows e _ k q)) c
  · exact (θ_run Cert.ReferenceIdeal.defs _ _).mono (fun r h => h 0) (Cert.ReferenceIdeal.Value.run (F := Ideal) m' ρ')

end Cert.KProof
-- ==== Proof.lean ====
module

public import proofs.«01_k».proof.Defs
public import proofs.«01_k».proof.Proof.Frames
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_halves_Kernel
public import proofs.«01_k».proof.Proof.Gen.Pre_halves_ReferenceIdeal

@[expose] public section

noncomputable section

namespace Cert.Proof

/-- The five claims, and the facts that the programs' texts state. -/
theorem claim : Cert.Claim :=
  ⟨Cert.Kernel.Gen.facts, Cert.KernelIdeal.Gen.facts, Cert.ReferenceIdeal.Gen.facts, Cert.Pre_halves_Kernel.Gen.facts, Cert.Pre_halves_ReferenceIdeal.Gen.facts,
    Cert.KProof.frame_kernel, Cert.KProof.frame_ideal, Cert.KProof.frame_reference, Cert.KProof.frame_reference_pre, trivial, Cert.KProof.algebraic⟩

end Cert.Proof

end
